-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InC (m : (ℓ : Loc Cert.InC.nD Cert.InC.τ Cert.InC.sig) → Buf (Elt Bits) ℓ) : Prop :=
  True

def Pre_InCIdeal (m : (ℓ : Loc Cert.InCIdeal.nD Cert.InCIdeal.τ Cert.InCIdeal.sig) → Buf (Elt Ideal) ℓ) : Prop :=
  True

def Pre_InCRefIdeal (m : (ℓ : Loc Cert.InCRefIdeal.nD Cert.InCRefIdeal.τ Cert.InCRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1)
      ∧ r.2.mem ((c.tc : Thread Cert.InA.nD Cert.InA.τ).loc Cert.InA.main_arg2) = m ((c.tc : Thread Cert.InA.nD Cert.InA.τ).loc Cert.InA.main_arg2)
      ∧ r.2.mem ((c.tc : Thread Cert.InA.nD Cert.InA.τ).loc Cert.InA.main_arg3) = m ((c.tc : Thread Cert.InA.nD Cert.InA.τ).loc Cert.InA.main_arg3)
      ∧ r.2.mem ((c.tc : Thread Cert.InA.nD Cert.InA.τ).loc Cert.InA.main_arg4) = m ((c.tc : Thread Cert.InA.nD Cert.InA.τ).loc Cert.InA.main_arg4)
      ∧ r.2.mem ((c.tc : Thread Cert.InA.nD Cert.InA.τ).loc Cert.InA.main_arg5) = m ((c.tc : Thread Cert.InA.nD Cert.InA.τ).loc Cert.InA.main_arg5)
      ∧ r.2.mem ((c.tc : Thread Cert.InA.nD Cert.InA.τ).loc Cert.InA.main_arg6) = m ((c.tc : Thread Cert.InA.nD Cert.InA.τ).loc Cert.InA.main_arg6))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
      ∧ r.2.mem ((c.tc : Thread Cert.InAIdeal.nD Cert.InAIdeal.τ).loc Cert.InAIdeal.main_arg3) = m ((c.tc : Thread Cert.InAIdeal.nD Cert.InAIdeal.τ).loc Cert.InAIdeal.main_arg3)
      ∧ r.2.mem ((c.tc : Thread Cert.InAIdeal.nD Cert.InAIdeal.τ).loc Cert.InAIdeal.main_arg4) = m ((c.tc : Thread Cert.InAIdeal.nD Cert.InAIdeal.τ).loc Cert.InAIdeal.main_arg4)
      ∧ r.2.mem ((c.tc : Thread Cert.InAIdeal.nD Cert.InAIdeal.τ).loc Cert.InAIdeal.main_arg5) = m ((c.tc : Thread Cert.InAIdeal.nD Cert.InAIdeal.τ).loc Cert.InAIdeal.main_arg5)
      ∧ r.2.mem ((c.tc : Thread Cert.InAIdeal.nD Cert.InAIdeal.τ).loc Cert.InAIdeal.main_arg6) = m ((c.tc : Thread Cert.InAIdeal.nD Cert.InAIdeal.τ).loc Cert.InAIdeal.main_arg6))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1)
      ∧ r.2.mem ((c.tc : Thread Cert.InARefIdeal.nD Cert.InARefIdeal.τ).loc Cert.InARefIdeal.main_arg2) = m ((c.tc : Thread Cert.InARefIdeal.nD Cert.InARefIdeal.τ).loc Cert.InARefIdeal.main_arg2)
      ∧ r.2.mem ((c.tc : Thread Cert.InARefIdeal.nD Cert.InARefIdeal.τ).loc Cert.InARefIdeal.main_arg3) = m ((c.tc : Thread Cert.InARefIdeal.nD Cert.InARefIdeal.τ).loc Cert.InARefIdeal.main_arg3)
      ∧ r.2.mem ((c.tc : Thread Cert.InARefIdeal.nD Cert.InARefIdeal.τ).loc Cert.InARefIdeal.main_arg4) = m ((c.tc : Thread Cert.InARefIdeal.nD Cert.InARefIdeal.τ).loc Cert.InARefIdeal.main_arg4)
      ∧ r.2.mem ((c.tc : Thread Cert.InARefIdeal.nD Cert.InARefIdeal.τ).loc Cert.InARefIdeal.main_arg5) = m ((c.tc : Thread Cert.InARefIdeal.nD Cert.InARefIdeal.τ).loc Cert.InARefIdeal.main_arg5)
      ∧ r.2.mem ((c.tc : Thread Cert.InARefIdeal.nD Cert.InARefIdeal.τ).loc Cert.InARefIdeal.main_arg6) = m ((c.tc : Thread Cert.InARefIdeal.nD Cert.InARefIdeal.τ).loc Cert.InARefIdeal.main_arg6))
      ∧ r.2.sem = fun _ => 0)

def quiescent_InC [hInC : Cert.InC.Facts] : Prop :=
  ∀ (m : (ℓ : Loc Cert.InC.nD Cert.InC.τ Cert.InC.sig) → Buf (Elt Bits) ℓ) (g : Dev Cert.InC.nD → PrngReg), Pre_InC m →
    θ_run (Cert.InC.defs (F := Bits)) (onTc (τ := Cert.InC.τ) (Cert.InC.main (F := Bits))) ⟨m, fun _ => 0, g⟩ (fun r => (∀ c : Dev Cert.InC.nD,
      r.2.mem ((c.tc : Thread Cert.InC.nD Cert.InC.τ).loc Cert.InC.main_arg0) = m ((c.tc : Thread Cert.InC.nD Cert.InC.τ).loc Cert.InC.main_arg0)
      ∧ r.2.mem ((c.tc : Thread Cert.InC.nD Cert.InC.τ).loc Cert.InC.main_arg1) = m ((c.tc : Thread Cert.InC.nD Cert.InC.τ).loc Cert.InC.main_arg1)
      ∧ r.2.mem ((c.tc : Thread Cert.InC.nD Cert.InC.τ).loc Cert.InC.main_arg2) = m ((c.tc : Thread Cert.InC.nD Cert.InC.τ).loc Cert.InC.main_arg2)
      ∧ r.2.mem ((c.tc : Thread Cert.InC.nD Cert.InC.τ).loc Cert.InC.main_arg3) = m ((c.tc : Thread Cert.InC.nD Cert.InC.τ).loc Cert.InC.main_arg3)
      ∧ r.2.mem ((c.tc : Thread Cert.InC.nD Cert.InC.τ).loc Cert.InC.main_arg4) = m ((c.tc : Thread Cert.InC.nD Cert.InC.τ).loc Cert.InC.main_arg4))
      ∧ r.2.sem = fun _ => 0)

def quiescent_InCIdeal [hInCIdeal : Cert.InCIdeal.Facts] : Prop :=
  ∀ (m : (ℓ : Loc Cert.InCIdeal.nD Cert.InCIdeal.τ Cert.InCIdeal.sig) → Buf (Elt Ideal) ℓ) (g : Dev Cert.InCIdeal.nD → PrngReg), Pre_InCIdeal m →
    θ_run (Cert.InCIdeal.defs (F := Ideal)) (onTc (τ := Cert.InCIdeal.τ) (Cert.InCIdeal.main (F := Ideal))) ⟨m, fun _ => 0, g⟩ (fun r => (∀ c : Dev Cert.InCIdeal.nD,
      r.2.mem ((c.tc : Thread Cert.InCIdeal.nD Cert.InCIdeal.τ).loc Cert.InCIdeal.main_arg0) = m ((c.tc : Thread Cert.InCIdeal.nD Cert.InCIdeal.τ).loc Cert.InCIdeal.main_arg0)
      ∧ r.2.mem ((c.tc : Thread Cert.InCIdeal.nD Cert.InCIdeal.τ).loc Cert.InCIdeal.main_arg1) = m ((c.tc : Thread Cert.InCIdeal.nD Cert.InCIdeal.τ).loc Cert.InCIdeal.main_arg1)
      ∧ r.2.mem ((c.tc : Thread Cert.InCIdeal.nD Cert.InCIdeal.τ).loc Cert.InCIdeal.main_arg2) = m ((c.tc : Thread Cert.InCIdeal.nD Cert.InCIdeal.τ).loc Cert.InCIdeal.main_arg2)
      ∧ r.2.mem ((c.tc : Thread Cert.InCIdeal.nD Cert.InCIdeal.τ).loc Cert.InCIdeal.main_arg3) = m ((c.tc : Thread Cert.InCIdeal.nD Cert.InCIdeal.τ).loc Cert.InCIdeal.main_arg3)
      ∧ r.2.mem ((c.tc : Thread Cert.InCIdeal.nD Cert.InCIdeal.τ).loc Cert.InCIdeal.main_arg4) = m ((c.tc : Thread Cert.InCIdeal.nD Cert.InCIdeal.τ).loc Cert.InCIdeal.main_arg4))
      ∧ r.2.sem = fun _ => 0)

def quiescent_InCRefIdeal [hInCRefIdeal : Cert.InCRefIdeal.Facts] : Prop :=
  ∀ (m : (ℓ : Loc Cert.InCRefIdeal.nD Cert.InCRefIdeal.τ Cert.InCRefIdeal.sig) → Buf (Elt Ideal) ℓ) (g : Dev Cert.InCRefIdeal.nD → PrngReg), Pre_InCRefIdeal m →
    θ_run (Cert.InCRefIdeal.defs (F := Ideal)) (onTc (τ := Cert.InCRefIdeal.τ) (Cert.InCRefIdeal.main (F := Ideal))) ⟨m, fun _ => 0, g⟩ (fun r => (∀ c : Dev Cert.InCRefIdeal.nD,
      r.2.mem ((c.tc : Thread Cert.InCRefIdeal.nD Cert.InCRefIdeal.τ).loc Cert.InCRefIdeal.main_arg0) = m ((c.tc : Thread Cert.InCRefIdeal.nD Cert.InCRefIdeal.τ).loc Cert.InCRefIdeal.main_arg0)
      ∧ r.2.mem ((c.tc : Thread Cert.InCRefIdeal.nD Cert.InCRefIdeal.τ).loc Cert.InCRefIdeal.main_arg1) = m ((c.tc : Thread Cert.InCRefIdeal.nD Cert.InCRefIdeal.τ).loc Cert.InCRefIdeal.main_arg1)
      ∧ r.2.mem ((c.tc : Thread Cert.InCRefIdeal.nD Cert.InCRefIdeal.τ).loc Cert.InCRefIdeal.main_arg2) = m ((c.tc : Thread Cert.InCRefIdeal.nD Cert.InCRefIdeal.τ).loc Cert.InCRefIdeal.main_arg2)
      ∧ r.2.mem ((c.tc : Thread Cert.InCRefIdeal.nD Cert.InCRefIdeal.τ).loc Cert.InCRefIdeal.main_arg3) = m ((c.tc : Thread Cert.InCRefIdeal.nD Cert.InCRefIdeal.τ).loc Cert.InCRefIdeal.main_arg3)
      ∧ r.2.mem ((c.tc : Thread Cert.InCRefIdeal.nD Cert.InCRefIdeal.τ).loc Cert.InCRefIdeal.main_arg4) = m ((c.tc : Thread Cert.InCRefIdeal.nD Cert.InCRefIdeal.τ).loc Cert.InCRefIdeal.main_arg4))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ r.2.sem = fun _ => 0)

def preserves_Attn_AttnIdeal : Prop :=
  IdealRules.named_const.Statement Cert.AttnIdeal.κ "log2e" .f32 0x3FB8AA3B#32 (((Real.log 2)⁻¹ : ℝ) : EReal)
  ∧ IdealRules.named_const.Statement Cert.AttnIdeal.κ "masked" .f32 0xFF7F0000#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v79) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v62) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)
      ∧ m' ((c.tc : Thread Cert.InARefIdeal.nD Cert.InARefIdeal.τ).loc Cert.InARefIdeal.main_arg2) = m ((c.tc : Thread Cert.InAIdeal.nD Cert.InAIdeal.τ).loc Cert.InAIdeal.main_arg2)
      ∧ m' ((c.tc : Thread Cert.InARefIdeal.nD Cert.InARefIdeal.τ).loc Cert.InARefIdeal.main_arg3) = m ((c.tc : Thread Cert.InAIdeal.nD Cert.InAIdeal.τ).loc Cert.InAIdeal.main_arg3)
      ∧ m' ((c.tc : Thread Cert.InARefIdeal.nD Cert.InARefIdeal.τ).loc Cert.InARefIdeal.main_arg4) = m ((c.tc : Thread Cert.InAIdeal.nD Cert.InAIdeal.τ).loc Cert.InAIdeal.main_arg4)
      ∧ m' ((c.tc : Thread Cert.InARefIdeal.nD Cert.InARefIdeal.τ).loc Cert.InARefIdeal.main_arg5) = m ((c.tc : Thread Cert.InAIdeal.nD Cert.InAIdeal.τ).loc Cert.InAIdeal.main_arg5)
      ∧ m' ((c.tc : Thread Cert.InARefIdeal.nD Cert.InARefIdeal.τ).loc Cert.InARefIdeal.main_arg6) = m ((c.tc : Thread Cert.InAIdeal.nD Cert.InAIdeal.τ).loc Cert.InAIdeal.main_arg6)) →
    ∃ (v0 : (c : Dev Cert.InAIdeal.nD) → Buf (Elt Ideal) ((c.tc : Thread Cert.InAIdeal.nD Cert.InAIdeal.τ).loc Cert.InAIdeal.main_v11_0)) (v1 : (c : Dev Cert.InAIdeal.nD) → Buf (Elt Ideal) ((c.tc : Thread Cert.InAIdeal.nD Cert.InAIdeal.τ).loc Cert.InAIdeal.main_v11_1)) (v2 : (c : Dev Cert.InAIdeal.nD) → Buf (Elt Ideal) ((c.tc : Thread Cert.InAIdeal.nD Cert.InAIdeal.τ).loc Cert.InAIdeal.main_v11_2)) (v3 : (c : Dev Cert.InAIdeal.nD) → Buf (Elt Ideal) ((c.tc : Thread Cert.InAIdeal.nD Cert.InAIdeal.τ).loc Cert.InAIdeal.main_v11_3)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v11_0) = v0 c
          ∧ r.2.mem ((c.tc : Thread Cert.InAIdeal.nD Cert.InAIdeal.τ).loc Cert.InAIdeal.main_v11_1) = v1 c
          ∧ r.2.mem ((c.tc : Thread Cert.InAIdeal.nD Cert.InAIdeal.τ).loc Cert.InAIdeal.main_v11_2) = v2 c
          ∧ r.2.mem ((c.tc : Thread Cert.InAIdeal.nD Cert.InAIdeal.τ).loc Cert.InAIdeal.main_v11_3) = v3 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
          ∧ r.2.mem ((c.tc : Thread Cert.InAIdeal.nD Cert.InAIdeal.τ).loc Cert.InAIdeal.main_arg2) = m ((c.tc : Thread Cert.InAIdeal.nD Cert.InAIdeal.τ).loc Cert.InAIdeal.main_arg2)
          ∧ r.2.mem ((c.tc : Thread Cert.InAIdeal.nD Cert.InAIdeal.τ).loc Cert.InAIdeal.main_arg3) = m ((c.tc : Thread Cert.InAIdeal.nD Cert.InAIdeal.τ).loc Cert.InAIdeal.main_arg3)
          ∧ r.2.mem ((c.tc : Thread Cert.InAIdeal.nD Cert.InAIdeal.τ).loc Cert.InAIdeal.main_arg4) = m ((c.tc : Thread Cert.InAIdeal.nD Cert.InAIdeal.τ).loc Cert.InAIdeal.main_arg4)
          ∧ r.2.mem ((c.tc : Thread Cert.InAIdeal.nD Cert.InAIdeal.τ).loc Cert.InAIdeal.main_arg5) = m ((c.tc : Thread Cert.InAIdeal.nD Cert.InAIdeal.τ).loc Cert.InAIdeal.main_arg5)
          ∧ r.2.mem ((c.tc : Thread Cert.InAIdeal.nD Cert.InAIdeal.τ).loc Cert.InAIdeal.main_arg6) = m ((c.tc : Thread Cert.InAIdeal.nD Cert.InAIdeal.τ).loc Cert.InAIdeal.main_arg6))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v80) = v0 c
          ∧ r.2.mem ((c.tc : Thread Cert.InARefIdeal.nD Cert.InARefIdeal.τ).loc Cert.InARefIdeal.main_v81) = v1 c
          ∧ r.2.mem ((c.tc : Thread Cert.InARefIdeal.nD Cert.InARefIdeal.τ).loc Cert.InARefIdeal.main_v82) = v2 c
          ∧ r.2.mem ((c.tc : Thread Cert.InARefIdeal.nD Cert.InARefIdeal.τ).loc Cert.InARefIdeal.main_v83) = v3 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1)
          ∧ r.2.mem ((c.tc : Thread Cert.InARefIdeal.nD Cert.InARefIdeal.τ).loc Cert.InARefIdeal.main_arg2) = m' ((c.tc : Thread Cert.InARefIdeal.nD Cert.InARefIdeal.τ).loc Cert.InARefIdeal.main_arg2)
          ∧ r.2.mem ((c.tc : Thread Cert.InARefIdeal.nD Cert.InARefIdeal.τ).loc Cert.InARefIdeal.main_arg3) = m' ((c.tc : Thread Cert.InARefIdeal.nD Cert.InARefIdeal.τ).loc Cert.InARefIdeal.main_arg3)
          ∧ r.2.mem ((c.tc : Thread Cert.InARefIdeal.nD Cert.InARefIdeal.τ).loc Cert.InARefIdeal.main_arg4) = m' ((c.tc : Thread Cert.InARefIdeal.nD Cert.InARefIdeal.τ).loc Cert.InARefIdeal.main_arg4)
          ∧ r.2.mem ((c.tc : Thread Cert.InARefIdeal.nD Cert.InARefIdeal.τ).loc Cert.InARefIdeal.main_arg5) = m' ((c.tc : Thread Cert.InARefIdeal.nD Cert.InARefIdeal.τ).loc Cert.InARefIdeal.main_arg5)
          ∧ r.2.mem ((c.tc : Thread Cert.InARefIdeal.nD Cert.InARefIdeal.τ).loc Cert.InARefIdeal.main_arg6) = m' ((c.tc : Thread Cert.InARefIdeal.nD Cert.InARefIdeal.τ).loc Cert.InARefIdeal.main_arg6))

def preserves_InC_InCIdeal : Prop :=
  True

def algebraic_InCIdeal_InCRefIdeal [hInCIdeal : Cert.InCIdeal.Facts] [hInCRefIdeal : Cert.InCRefIdeal.Facts] : Prop :=
  ∀ (m : (ℓ : Loc Cert.InCIdeal.nD Cert.InCIdeal.τ Cert.InCIdeal.sig) → Buf (Elt Ideal) ℓ) (g : Dev Cert.InCIdeal.nD → PrngReg)
    (m' : (ℓ : Loc Cert.InCRefIdeal.nD Cert.InCRefIdeal.τ Cert.InCRefIdeal.sig) → Buf (Elt Ideal) ℓ) (g' : Dev Cert.InCRefIdeal.nD → PrngReg), Pre_InCIdeal m →
    (∀ c : Dev Cert.InCIdeal.nD,
      m' ((c.tc : Thread Cert.InCRefIdeal.nD Cert.InCRefIdeal.τ).loc Cert.InCRefIdeal.main_arg0) = m ((c.tc : Thread Cert.InCIdeal.nD Cert.InCIdeal.τ).loc Cert.InCIdeal.main_arg0)
      ∧ m' ((c.tc : Thread Cert.InCRefIdeal.nD Cert.InCRefIdeal.τ).loc Cert.InCRefIdeal.main_arg1) = m ((c.tc : Thread Cert.InCIdeal.nD Cert.InCIdeal.τ).loc Cert.InCIdeal.main_arg1)
      ∧ m' ((c.tc : Thread Cert.InCRefIdeal.nD Cert.InCRefIdeal.τ).loc Cert.InCRefIdeal.main_arg2) = m ((c.tc : Thread Cert.InCIdeal.nD Cert.InCIdeal.τ).loc Cert.InCIdeal.main_arg2)
      ∧ m' ((c.tc : Thread Cert.InCRefIdeal.nD Cert.InCRefIdeal.τ).loc Cert.InCRefIdeal.main_arg3) = m ((c.tc : Thread Cert.InCIdeal.nD Cert.InCIdeal.τ).loc Cert.InCIdeal.main_arg3)
      ∧ m' ((c.tc : Thread Cert.InCRefIdeal.nD Cert.InCRefIdeal.τ).loc Cert.InCRefIdeal.main_arg4) = m ((c.tc : Thread Cert.InCIdeal.nD Cert.InCIdeal.τ).loc Cert.InCIdeal.main_arg4)) →
    ∃ (v0 : (c : Dev Cert.InCIdeal.nD) → Buf (Elt Ideal) ((c.tc : Thread Cert.InCIdeal.nD Cert.InCIdeal.τ).loc Cert.InCIdeal.main_v10_0)) (v1 : (c : Dev Cert.InCIdeal.nD) → Buf (Elt Ideal) ((c.tc : Thread Cert.InCIdeal.nD Cert.InCIdeal.τ).loc Cert.InCIdeal.main_v10_1)) (v2 : (c : Dev Cert.InCIdeal.nD) → Buf (Elt Ideal) ((c.tc : Thread Cert.InCIdeal.nD Cert.InCIdeal.τ).loc Cert.InCIdeal.main_v10_2)) (v3 : (c : Dev Cert.InCIdeal.nD) → Buf (Elt Ideal) ((c.tc : Thread Cert.InCIdeal.nD Cert.InCIdeal.τ).loc Cert.InCIdeal.main_v10_3)) (v4 : (c : Dev Cert.InCIdeal.nD) → Buf (Elt Ideal) ((c.tc : Thread Cert.InCIdeal.nD Cert.InCIdeal.τ).loc Cert.InCIdeal.main_v10_4)),
      θ_run (Cert.InCIdeal.defs (F := Ideal)) (onTc (τ := Cert.InCIdeal.τ) (Cert.InCIdeal.main (F := Ideal))) ⟨m, fun _ => 0, g⟩ (fun r => ∀ c : Dev Cert.InCIdeal.nD,
          r.2.mem ((c.tc : Thread Cert.InCIdeal.nD Cert.InCIdeal.τ).loc Cert.InCIdeal.main_v10_0) = v0 c
          ∧ r.2.mem ((c.tc : Thread Cert.InCIdeal.nD Cert.InCIdeal.τ).loc Cert.InCIdeal.main_v10_1) = v1 c
          ∧ r.2.mem ((c.tc : Thread Cert.InCIdeal.nD Cert.InCIdeal.τ).loc Cert.InCIdeal.main_v10_2) = v2 c
          ∧ r.2.mem ((c.tc : Thread Cert.InCIdeal.nD Cert.InCIdeal.τ).loc Cert.InCIdeal.main_v10_3) = v3 c
          ∧ r.2.mem ((c.tc : Thread Cert.InCIdeal.nD Cert.InCIdeal.τ).loc Cert.InCIdeal.main_v10_4) = v4 c
          ∧ r.2.mem ((c.tc : Thread Cert.InCIdeal.nD Cert.InCIdeal.τ).loc Cert.InCIdeal.main_arg0) = m ((c.tc : Thread Cert.InCIdeal.nD Cert.InCIdeal.τ).loc Cert.InCIdeal.main_arg0)
          ∧ r.2.mem ((c.tc : Thread Cert.InCIdeal.nD Cert.InCIdeal.τ).loc Cert.InCIdeal.main_arg1) = m ((c.tc : Thread Cert.InCIdeal.nD Cert.InCIdeal.τ).loc Cert.InCIdeal.main_arg1)
          ∧ r.2.mem ((c.tc : Thread Cert.InCIdeal.nD Cert.InCIdeal.τ).loc Cert.InCIdeal.main_arg2) = m ((c.tc : Thread Cert.InCIdeal.nD Cert.InCIdeal.τ).loc Cert.InCIdeal.main_arg2)
          ∧ r.2.mem ((c.tc : Thread Cert.InCIdeal.nD Cert.InCIdeal.τ).loc Cert.InCIdeal.main_arg3) = m ((c.tc : Thread Cert.InCIdeal.nD Cert.InCIdeal.τ).loc Cert.InCIdeal.main_arg3)
          ∧ r.2.mem ((c.tc : Thread Cert.InCIdeal.nD Cert.InCIdeal.τ).loc Cert.InCIdeal.main_arg4) = m ((c.tc : Thread Cert.InCIdeal.nD Cert.InCIdeal.τ).loc Cert.InCIdeal.main_arg4))
      ∧ θ_run (Cert.InCRefIdeal.defs (F := Ideal)) (onTc (τ := Cert.InCRefIdeal.τ) (Cert.InCRefIdeal.main (F := Ideal))) ⟨m', fun _ => 0, g'⟩ (fun r => ∀ c : Dev Cert.InCRefIdeal.nD,
          r.2.mem ((c.tc : Thread Cert.InCRefIdeal.nD Cert.InCRefIdeal.τ).loc Cert.InCRefIdeal.main_v33) = v0 c
          ∧ r.2.mem ((c.tc : Thread Cert.InCRefIdeal.nD Cert.InCRefIdeal.τ).loc Cert.InCRefIdeal.main_v34) = v1 c
          ∧ r.2.mem ((c.tc : Thread Cert.InCRefIdeal.nD Cert.InCRefIdeal.τ).loc Cert.InCRefIdeal.main_v35) = v2 c
          ∧ r.2.mem ((c.tc : Thread Cert.InCRefIdeal.nD Cert.InCRefIdeal.τ).loc Cert.InCRefIdeal.main_v37) = v3 c
          ∧ r.2.mem ((c.tc : Thread Cert.InCRefIdeal.nD Cert.InCRefIdeal.τ).loc Cert.InCRefIdeal.main_v30) = v4 c
          ∧ r.2.mem ((c.tc : Thread Cert.InCRefIdeal.nD Cert.InCRefIdeal.τ).loc Cert.InCRefIdeal.main_arg0) = m' ((c.tc : Thread Cert.InCRefIdeal.nD Cert.InCRefIdeal.τ).loc Cert.InCRefIdeal.main_arg0)
          ∧ r.2.mem ((c.tc : Thread Cert.InCRefIdeal.nD Cert.InCRefIdeal.τ).loc Cert.InCRefIdeal.main_arg1) = m' ((c.tc : Thread Cert.InCRefIdeal.nD Cert.InCRefIdeal.τ).loc Cert.InCRefIdeal.main_arg1)
          ∧ r.2.mem ((c.tc : Thread Cert.InCRefIdeal.nD Cert.InCRefIdeal.τ).loc Cert.InCRefIdeal.main_arg2) = m' ((c.tc : Thread Cert.InCRefIdeal.nD Cert.InCRefIdeal.τ).loc Cert.InCRefIdeal.main_arg2)
          ∧ r.2.mem ((c.tc : Thread Cert.InCRefIdeal.nD Cert.InCRefIdeal.τ).loc Cert.InCRefIdeal.main_arg3) = m' ((c.tc : Thread Cert.InCRefIdeal.nD Cert.InCRefIdeal.τ).loc Cert.InCRefIdeal.main_arg3)
          ∧ r.2.mem ((c.tc : Thread Cert.InCRefIdeal.nD Cert.InCRefIdeal.τ).loc Cert.InCRefIdeal.main_arg4) = m' ((c.tc : Thread Cert.InCRefIdeal.nD Cert.InCRefIdeal.τ).loc Cert.InCRefIdeal.main_arg4))

def preserves_Gla_GlaIdeal : Prop :=
  IdealRules.named_const.Statement Cert.GlaIdeal.κ "log2e" .f32 0x3FB8AA3B#32 (((Real.log 2)⁻¹ : ℝ) : EReal)

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInA : Cert.InA.Facts) (hInAIdeal : Cert.InAIdeal.Facts) (hInARefIdeal : Cert.InARefIdeal.Facts) (hInC : Cert.InC.Facts) (hInCIdeal : Cert.InCIdeal.Facts) (hInCRefIdeal : Cert.InCRefIdeal.Facts) (hGla : Cert.Gla.Facts) (hGlaIdeal : Cert.GlaIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_InA (hInA := hInA)
    ∧ quiescent_InAIdeal (hInAIdeal := hInAIdeal)
    ∧ quiescent_InARefIdeal (hInARefIdeal := hInARefIdeal)
    ∧ quiescent_InC (hInC := hInC)
    ∧ quiescent_InCIdeal (hInCIdeal := hInCIdeal)
    ∧ quiescent_InCRefIdeal (hInCRefIdeal := hInCRefIdeal)
    ∧ quiescent_Gla (hGla := hGla)
    ∧ quiescent_GlaIdeal (hGlaIdeal := hGlaIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_InA_InAIdeal
    ∧ algebraic_InAIdeal_InARefIdeal (hInAIdeal := hInAIdeal) (hInARefIdeal := hInARefIdeal)
    ∧ preserves_InC_InCIdeal
    ∧ algebraic_InCIdeal_InCRefIdeal (hInCIdeal := hInCIdeal) (hInCRefIdeal := hInCRefIdeal)
    ∧ preserves_Gla_GlaIdeal
-- ==== Pre_finite.lean ====
abbrev S32768x512 : Shape := ⟨2, ![32768, 512]⟩
abbrev S8x513 : Shape := ⟨2, ![8, 513]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  bcast_S_S8x513 : S_.BroadcastsInDim S8x513 (![] : Fin 0 → Fin S8x513.rank)
  reducesTo_S8x513_S_d0_1 : S8x513.ReducesTo [0, 1] S_

variable [Facts]

def fn {F : FTy → Type} [FloatOps F] (main_arg0 : FVec F S32768x512 .bf16) (main_arg1 : FVec F S32768x512 .bf16) (main_arg2 : FVec F S32768x512 .bf16) (main_arg3 : FVec F S8x513 .f32) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x512 .f32 := (extf .f32 · bitsLt_bf16_f32) main_arg1
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v4 main_v9
  let main_v11 : FVec F S8x513 .f32 := Host.absf main_arg3
  let main_cst_2 : FVec F S_ .f32 := constant S_ .f32 0x7F800000#32
  let main_v12 : FVec F S8x513 .f32 := broadcastInDim S8x513 ![] bcast_S_S8x513 main_cst_2
  let main_v13 : IVec S8x513 1 := cmpf .olt main_v11 main_v12
  let main_c_3 : IVec S_ 1 := constantI S_ 1 1#1
  let main_v14 : IVec S_ 1 := (fun x v => Host.reduce IntOp.andi x v reducesTo_S8x513_S_d0_1 h_S_) main_v13 main_c_3
  let main_v15 : IVec S_ 1 := andi main_v10 main_v14
  main_v15
-- ==== Attn.lean ====
abbrev S32768x512 : Shape := ⟨2, ![32768, 512]⟩
abbrev S8x513 : Shape := ⟨2, ![8, 513]⟩
abbrev S8x1 : Shape := ⟨2, ![8, 1]⟩
abbrev S8x256 : Shape := ⟨2, ![8, 256]⟩
abbrev S8x255 : Shape := ⟨2, ![8, 255]⟩
abbrev S8x1024 : Shape := ⟨2, ![8, 1024]⟩
abbrev S512x512 : Shape := ⟨2, ![512, 512]⟩
abbrev S2x8x256x768 : Shape := ⟨4, ![2, 8, 256, 768]⟩
abbrev S256x768 : Shape := ⟨2, ![256, 768]⟩
abbrev S1x1024 : Shape := ⟨2, ![1, 1024]⟩
abbrev S256x1024 : Shape := ⟨2, ![256, 1024]⟩
abbrev S1x1x256x768 : Shape := ⟨4, ![1, 1, 256, 768]⟩
abbrev S1024x512 : Shape := ⟨2, ![1024, 512]⟩
abbrev S1x128 : Shape := ⟨2, ![1, 128]⟩
abbrev S256x128 : Shape := ⟨2, ![256, 128]⟩
abbrev S768x128 : Shape := ⟨2, ![768, 128]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S8x513, .f32⟩
  | .hbm, ⟨4, _⟩ => ⟨S8x1, .f32⟩
  | .hbm, ⟨5, _⟩ => ⟨S8x256, .f32⟩
  | .hbm, ⟨6, _⟩ => ⟨S8x513, .f32⟩
  | .hbm, ⟨7, _⟩ => ⟨S8x255, .f32⟩
  | .hbm, ⟨8, _⟩ => ⟨S8x1024, .f32⟩
  | .hbm, ⟨9, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S8x1024, .f32⟩
  | .local _ .vmem, ⟨11, _⟩ => ⟨S512x512, .bf16⟩
  | .local _ .vmem, ⟨12, _⟩ => ⟨S512x512, .bf16⟩
  | .local _ .vmem, ⟨13, _⟩ => ⟨S2x8x256x768, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "log2e" => some (((Real.log 2)⁻¹ : ℝ) : EReal)
  | "masked" => some ⊥
  | _ => none
-- ==== AttnRefIdeal.lean ====
abbrev S32768x512 : Shape := ⟨2, ![32768, 512]⟩
abbrev S8x513 : Shape := ⟨2, ![8, 513]⟩
abbrev S4x128x64x8x64 : Shape := ⟨5, ![4, 128, 64, 8, 64]⟩
abbrev S_ : Shape := ⟨0, ![]⟩
abbrev S4x136x64x8x64 : Shape := ⟨5, ![4, 136, 64, 8, 64]⟩
abbrev S128 : Shape := ⟨1, ![128]⟩
abbrev S128x1 : Shape := ⟨2, ![128, 1]⟩
abbrev S9 : Shape := ⟨1, ![9]⟩
abbrev S1x9 : Shape := ⟨2, ![1, 9]⟩
abbrev S128x9 : Shape := ⟨2, ![128, 9]⟩
abbrev S128x9x1 : Shape := ⟨3, ![128, 9, 1]⟩
abbrev S4x128x9x64x8x64 : Shape := ⟨6, ![4, 128, 9, 64, 8, 64]⟩
abbrev S4x128x576x8x64 : Shape := ⟨5, ![4, 128, 576, 8, 64]⟩
abbrev S4x8x128x64x576 : Shape := ⟨5, ![4, 8, 128, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S128x9x64 : Shape := ⟨3, ![128, 9, 64]⟩
abbrev S128x576 : Shape := ⟨2, ![128, 576]⟩
abbrev S1x1x128x1x576 : Shape := ⟨5, ![1, 1, 128, 1, 576]⟩
abbrev S1x8x1x64x576 : Shape := ⟨5, ![1, 8, 1, 64, 576]⟩
abbrev S4x8x128x64 : Shape := ⟨4, ![4, 8, 128, 64]⟩
abbrev S4x8x128x64x1 : Shape := ⟨5, ![4, 8, 128, 64, 1]⟩
abbrev S4x128x8x64x64 : Shape := ⟨5, ![4, 128, 8, 64, 64]⟩

abbrev nBuf : Space → Nat
  | .hbm => 113
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S8x513, .f32⟩
  | .hbm, ⟨4, _⟩ => ⟨S32768x512, .f32⟩
  | .hbm, ⟨5, _⟩ => ⟨S4x128x64x8x64, .f32⟩
  | .hbm, ⟨6, _⟩ => ⟨S_, .f32⟩
  | .hbm, ⟨7, _⟩ => ⟨S_, .f32⟩
  | .hbm, ⟨8, _⟩ => ⟨S4x128x64x8x64, .f32⟩
  | .hbm, ⟨9, _⟩ => ⟨S4x128x64x8x64, .f32⟩
  | .hbm, ⟨10, _⟩ => ⟨S32768x512, .f32⟩
  | .hbm, ⟨11, _⟩ => ⟨S4x128x64x8x64, .f32⟩
  | .hbm, ⟨12, _⟩ => ⟨S_, .i32⟩
  | .hbm, ⟨13, _⟩ => ⟨S_, .f32⟩
  | .hbm, ⟨14, _⟩ => ⟨S4x136x64x8x64, .f32⟩
  | .hbm, ⟨15, _⟩ => ⟨S32768x512, .f32⟩
  | .hbm, ⟨16, _⟩ => ⟨S4x128x64x8x64, .f32⟩
  | .hbm, ⟨17, _⟩ => ⟨S_, .i32⟩
  | .hbm, ⟨18, _⟩ => ⟨S_, .f32⟩
  | .hbm, ⟨19, _⟩ => ⟨S4x136x64x8x64, .f32⟩
  | .hbm, ⟨20, _⟩ => ⟨S128, .i32⟩
  | .hbm, ⟨21, _⟩ => ⟨S128x1, .i32⟩
  | .hbm, ⟨22, _⟩ => ⟨S9, .i32⟩
  | .hbm, ⟨23, _⟩ => ⟨S1x9, .i32⟩
  | .hbm, ⟨24, _⟩ => ⟨S128x9, .i32⟩
  | .hbm, ⟨25, _⟩ => ⟨S128x9, .i32⟩
  | .hbm, ⟨26, _⟩ => ⟨S128x9, .i32⟩
  | .hbm, ⟨27, _⟩ => ⟨S_, .i32⟩
  | .hbm, ⟨28, _⟩ => ⟨S128x9, .i32⟩
  | .hbm, ⟨29, _⟩ => ⟨S128x9, .i1⟩
  | .hbm, ⟨30, _⟩ => ⟨S_, .i32⟩
  | .hbm, ⟨31, _⟩ => ⟨S128x9, .i32⟩
  | .hbm, ⟨32, _⟩ => ⟨S128x9, .i32⟩
  | .hbm, ⟨33, _⟩ => ⟨S128x9, .i32⟩
  | .hbm, ⟨34, _⟩ => ⟨S128x9x1, .i32⟩
  | .hbm, ⟨35, _⟩ => ⟨S4x128x9x64x8x64, .f32⟩
  | .hbm, ⟨36, _⟩ => ⟨S4x128x576x8x64, .f32⟩
  | .hbm, ⟨37, _⟩ => ⟨S_, .i32⟩
  | .hbm, ⟨38, _⟩ => ⟨S128x9, .i32⟩
  | .hbm, ⟨39, _⟩ => ⟨S128x9, .i1⟩
  | .hbm, ⟨40, _⟩ => ⟨S_, .i32⟩
  | .hbm, ⟨41, _⟩ => ⟨S128x9, .i32⟩
  | .hbm, ⟨42, _⟩ => ⟨S128x9, .i32⟩
  | .hbm, ⟨43, _⟩ => ⟨S128x9, .i32⟩
  | .hbm, ⟨44, _⟩ => ⟨S128x9x1, .i32⟩
  | .hbm, ⟨45, _⟩ => ⟨S4x128x9x64x8x64, .f32⟩
  | .hbm, ⟨46, _⟩ => ⟨S4x128x576x8x64, .f32⟩
  | .hbm, ⟨47, _⟩ => ⟨S4x8x128x64x576, .f32⟩
  | .hbm, ⟨48, _⟩ => ⟨S64, .i32⟩
  | .hbm, ⟨49, _⟩ => ⟨S64x1, .i32⟩
  | .hbm, ⟨50, _⟩ => ⟨S576, .i32⟩
  | .hbm, ⟨51, _⟩ => ⟨S1x576, .i32⟩
  | .hbm, ⟨52, _⟩ => ⟨S_, .i32⟩
  | .hbm, ⟨53, _⟩ => ⟨S64x1, .i32⟩
  | .hbm, ⟨54, _⟩ => ⟨S64x1, .i32⟩
  | .hbm, ⟨55, _⟩ => ⟨S64x576, .i32⟩
  | .hbm, ⟨56, _⟩ => ⟨S64x576, .i32⟩
  | .hbm, ⟨57, _⟩ => ⟨S64x576, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S64x576, .i32⟩
  | .hbm, ⟨62, _⟩ => ⟨S64x576, .i32⟩
  | .hbm, ⟨63, _⟩ => ⟨S_, .i32⟩
  | .hbm, ⟨64, _⟩ => ⟨S64x576, .i32⟩
  | .hbm, ⟨65, _⟩ => ⟨S64x576, .i32⟩
  | .hbm, ⟨66, _⟩ => ⟨S_, .i32⟩
  | .hbm, ⟨67, _⟩ => ⟨S64x576, .i32⟩
  | .hbm, ⟨68, _⟩ => ⟨S64x576, .i32⟩
  | .hbm, ⟨69, _⟩ => ⟨S_, .i32⟩
  | .hbm, ⟨70, _⟩ => ⟨S64x576, .i32⟩
  | .hbm, ⟨71, _⟩ => ⟨S64x576, .i1⟩
  | .hbm, ⟨72, _⟩ => ⟨S_, .i32⟩
  | .hbm, ⟨73, _⟩ => ⟨S64x576, .i32⟩
  | .hbm, ⟨74, _⟩ => ⟨S64x576, .i32⟩
  | .hbm, ⟨75, _⟩ => ⟨S64x576, .i32⟩
  | .hbm, ⟨76, _⟩ => ⟨S64x576x1, .i32⟩
  | .hbm, ⟨77, _⟩ => ⟨S8x64x576, .f32⟩
  | .hbm, ⟨78, _⟩ => ⟨S_, .i32⟩
  | .hbm, ⟨79, _⟩ => ⟨S128x9, .i32⟩
  | .hbm, ⟨80, _⟩ => ⟨S128x9, .i32⟩
  | .hbm, ⟨81, _⟩ => ⟨S_, .i32⟩
  | .hbm, ⟨82, _⟩ => ⟨S128x9, .i32⟩
  | .hbm, ⟨83, _⟩ => ⟨S128x9, .i1⟩
  | .hbm, ⟨84, _⟩ => ⟨S128x9x64, .i1⟩
  | .hbm, ⟨85, _⟩ => ⟨S128x576, .i1⟩
  | .hbm, ⟨86, _⟩ => ⟨S1x1x128x1x576, .i1⟩
  | .hbm, ⟨87, _⟩ => ⟨S1x8x1x64x576, .f32⟩
  | .hbm, ⟨88, _⟩ => ⟨S4x8x128x64x576, .f32⟩
  | .hbm, ⟨89, _⟩ => ⟨S4x8x128x64x576, .f32⟩
  | .hbm, ⟨90, _⟩ => ⟨S_, .f32⟩
  | .hbm, ⟨91, _⟩ => ⟨S_, .f32⟩
  | .hbm, ⟨92, _⟩ => ⟨S4x8x128x64x576, .i1⟩
  | .hbm, ⟨93, _⟩ => ⟨S4x8x128x64x576, .f32⟩
  | .hbm, ⟨94, _⟩ => ⟨S4x8x128x64x576, .f32⟩
  | .hbm, ⟨95, _⟩ => ⟨S_, .f32⟩
  | .hbm, ⟨96, _⟩ => ⟨S4x8x128x64, .f32⟩
  | .hbm, ⟨97, _⟩ => ⟨S_, .f32⟩
  | .hbm, ⟨98, _⟩ => ⟨S4x8x128x64, .f32⟩
  | .hbm, ⟨99, _⟩ => ⟨S4x8x128x64, .f32⟩
  | .hbm, ⟨100, _⟩ => ⟨S4x8x128x64x1, .f32⟩
  | .hbm, ⟨101, _⟩ => ⟨S4x8x128x64x576, .f32⟩
  | .hbm, ⟨102, _⟩ => ⟨S4x8x128x64x576, .f32⟩
  | .hbm, ⟨103, _⟩ => ⟨S4x8x128x64x576, .f32⟩
  | .hbm, ⟨104, _⟩ => ⟨S_, .f32⟩
  | .hbm, ⟨105, _⟩ => ⟨S4x8x128x64, .f32⟩
  | .hbm, ⟨106, _⟩ => ⟨S4x8x128x64x1, .f32⟩
  | .hbm, ⟨107, _⟩ => ⟨S4x8x128x64x576, .f32⟩
  | .hbm, ⟨108, _⟩ => ⟨S4x8x128x64x576, .f32⟩
  | .hbm, ⟨109, _⟩ => ⟨S4x128x8x64x64, .f32⟩
  | .hbm, ⟨110, _⟩ => ⟨S4x128x64x8x64, .f32⟩
  | .hbm, ⟨111, _⟩ => ⟨S32768x512, .f32⟩
  | .hbm, ⟨112, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_c_7 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_cst_15 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]
-- ==== Ffn.lean ====
abbrev S32768x1024 : Shape := ⟨2, ![32768, 1024]⟩
abbrev S32768x512 : Shape := ⟨2, ![32768, 512]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1x1024 : Shape := ⟨3, ![2, 1, 1024]⟩
abbrev S1024x1024 : Shape := ⟨2, ![1024, 1024]⟩
abbrev S1024x512 : Shape := ⟨2, ![1024, 512]⟩
abbrev S1x512x1024 : Shape := ⟨3, ![1, 512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S256x512 : Shape := ⟨2, ![256, 512]⟩
abbrev S512x1024 : Shape := ⟨2, ![512, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 18
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024x2816, .f32⟩
  | .hbm, ⟨8, _⟩ => ⟨S2x1024x2816, .f32⟩
  | .hbm, ⟨9, _⟩ => ⟨S2x2816x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S1x1024x1024, .bf16⟩
  | .hbm, ⟨14, _⟩ => ⟨S2x1024x2816, .bf16⟩
  | .hbm, ⟨15, _⟩ => ⟨S2x1024x2816, .bf16⟩
  | .hbm, ⟨16, _⟩ => ⟨S2x2816x1024, .bf16⟩
  | .hbm, ⟨17, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024x2816, .bf16⟩
  | .local _ .vmem, ⟨12, _⟩ => ⟨S1x1024x2816, .bf16⟩
  | .local _ .vmem, ⟨13, _⟩ => ⟨S1x2816x1024, .bf16⟩
  | .local _ .vmem, ⟨14, _⟩ => ⟨S1024x1024, .f32⟩
  | .local _ .vmem, ⟨15, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FfnRefIdeal.lean ====
abbrev S32768x1024 : Shape := ⟨2, ![32768, 1024]⟩
abbrev S32768x512 : Shape := ⟨2, ![32768, 512]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 90
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024x2816, .f32⟩
  | .hbm, ⟨8, _⟩ => ⟨S2x1024x2816, .f32⟩
  | .hbm, ⟨9, _⟩ => ⟨S2x2816x1024, .f32⟩
  | .hbm, ⟨10, _⟩ => ⟨S32768x512, .f32⟩
  | .hbm, ⟨11, _⟩ => ⟨S32768x512, .f32⟩
  | .hbm, ⟨12, _⟩ => ⟨S32768x1024, .f32⟩
  | .hbm, ⟨13, _⟩ => ⟨S1024x1024, .f32⟩
  | .hbm, ⟨14, _⟩ => ⟨S32768x1024, .f32⟩
  | .hbm, ⟨15, _⟩ => ⟨S1x1024, .f32⟩
  | .hbm, ⟨16, _⟩ => ⟨S1024, .f32⟩
  | .hbm, ⟨17, _⟩ => ⟨S32768x1024, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S1x1024x2816, .f32⟩
  | .hbm, ⟨53, _⟩ => ⟨S1024x2816, .f32⟩
  | .hbm, ⟨54, _⟩ => ⟨S1x1024x2816, .f32⟩
  | .hbm, ⟨55, _⟩ => ⟨S1024x2816, .f32⟩
  | .hbm, ⟨56, _⟩ => ⟨S1x2816x1024, .f32⟩
  | .hbm, ⟨57, _⟩ => ⟨S2816x1024, .f32⟩
  | .hbm, ⟨58, _⟩ => ⟨S32768x2816, .f32⟩
  | .hbm, ⟨59, _⟩ => ⟨S32768x2816, .f32⟩
  | .hbm, ⟨60, _⟩ => ⟨S32768x2816, .f32⟩
  | .hbm, ⟨61, _⟩ => ⟨S_, .f32⟩
  | .hbm, ⟨62, _⟩ => ⟨S32768x2816, .f32⟩
  | .hbm, ⟨63, _⟩ => ⟨S32768x2816, .f32⟩
  | .hbm, ⟨64, _⟩ => ⟨S_, .f32⟩
  | .hbm, ⟨65, _⟩ => ⟨S32768x2816, .f32⟩
  | .hbm, ⟨66, _⟩ => ⟨S32768x2816, .f32⟩
  | .hbm, ⟨67, _⟩ => ⟨S32768x2816, .f32⟩
  | .hbm, ⟨68, _⟩ => ⟨S32768x2816, .f32⟩
  | .hbm, ⟨69, _⟩ => ⟨S32768x2816, .f32⟩
  | .hbm, ⟨70, _⟩ => ⟨S32768x1024, .f32⟩
  | .hbm, ⟨71, _⟩ => ⟨S1x1024, .f32⟩
  | .hbm, ⟨72, _⟩ => ⟨S1024, .f32⟩
  | .hbm, ⟨73, _⟩ => ⟨S32768x1024, .f32⟩
  | .hbm, ⟨74, _⟩ => ⟨S_, .f32⟩
  | .hbm, ⟨75, _⟩ => ⟨S32768, .f32⟩
  | .hbm, ⟨76, _⟩ => ⟨S32768x1, .f32⟩
  | .hbm, ⟨77, _⟩ => ⟨S_, .f32⟩
  | .hbm, ⟨78, _⟩ => ⟨S32768x1, .f32⟩
  | .hbm, ⟨79, _⟩ => ⟨S32768x1, .f32⟩
  | .hbm, ⟨80, _⟩ => ⟨S_, .f32⟩
  | .hbm, ⟨81, _⟩ => ⟨S32768x1, .f32⟩
  | .hbm, ⟨82, _⟩ => ⟨S32768x1, .f32⟩
  | .hbm, ⟨83, _⟩ => ⟨S32768x1, .f32⟩
  | .hbm, ⟨84, _⟩ => ⟨S32768x1024, .f32⟩
  | .hbm, ⟨85, _⟩ => ⟨S32768x1024, .f32⟩
  | .hbm, ⟨86, _⟩ => ⟨S1x1024, .f32⟩
  | .hbm, ⟨87, _⟩ => ⟨S32768x1024, .f32⟩
  | .hbm, ⟨88, _⟩ => ⟨S32768x1024, .f32⟩
  | .hbm, ⟨89, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_5 : Ref sig .tc := ⟨.hbm, 74, rfl⟩
abbrev main_v50 : Ref sig .tc := ⟨.hbm, 75, rfl⟩
abbrev main_v51 : Ref sig .tc := ⟨.hbm, 76, rfl⟩
abbrev main_cst_6 : Ref sig .tc := ⟨.hbm, 77, rfl⟩
abbrev main_v52 : Ref sig .tc := ⟨.hbm, 78, rfl⟩
abbrev main_v53 : Ref sig .tc := ⟨.hbm, 79, rfl⟩
abbrev main_cst_7 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩

abbrev nD : Nat := 1
abbrev τ : Topo := Topo.v7x

variable {F : FTy → Type} [FloatOps F]
-- ==== InA.lean ====
abbrev S32768x1024 : Shape := ⟨2, ![32768, 1024]⟩
abbrev S2x1024 : Shape := ⟨2, ![2, 1024]⟩
abbrev S1x1024x2560 : Shape := ⟨3, ![1, 1024, 2560]⟩
abbrev S1x512 : Shape := ⟨2, ![1, 512]⟩
abbrev S1x4x128x128 : Shape := ⟨4, ![1, 4, 128, 128]⟩
abbrev S1x4x128 : Shape := ⟨3, ![1, 4, 128]⟩
abbrev S1x1024 : Shape := ⟨2, ![1, 1024]⟩
abbrev S1024 : Shape := ⟨1, ![1024]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S32768x512 : Shape := ⟨2, ![32768, 512]⟩
abbrev S1024x1024 : Shape := ⟨2, ![1024, 1024]⟩
abbrev S1024x512 : Shape := ⟨2, ![1024, 512]⟩
abbrev S128x128 : Shape := ⟨2, ![128, 128]⟩
abbrev S1x128x128 : Shape := ⟨3, ![1, 128, 128]⟩
abbrev S256x1024 : Shape := ⟨2, ![256, 1024]⟩
abbrev S256 : Shape := ⟨1, ![256]⟩
abbrev S256x1 : Shape := ⟨2, ![256, 1]⟩
abbrev S1x1024x1024 : Shape := ⟨3, ![1, 1024, 1024]⟩
abbrev S1x1024x1536 : Shape := ⟨3, ![1, 1024, 1536]⟩
abbrev S1024x1536 : Shape := ⟨2, ![1024, 1536]⟩
abbrev S256x1536 : Shape := ⟨2, ![256, 1536]⟩
abbrev S256x512 : Shape := ⟨2, ![256, 512]⟩
abbrev S128x1 : Shape := ⟨2, ![128, 1]⟩

abbrev nBuf : Space → Nat
  | .hbm => 22
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x2560, .f32⟩
  | .hbm, ⟨3, _⟩ => ⟨S1x512, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024x2560, .bf16⟩
  | .hbm, ⟨11, _⟩ => ⟨S512, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S4x128x128, .f32⟩
  | .hbm, ⟨16, _⟩ => ⟨S4x128, .f32⟩
  | .hbm, ⟨17, _⟩ => ⟨S128x4, .f32⟩
  | .hbm, ⟨18, _⟩ => ⟨S32768x512, .bf16⟩
  | .hbm, ⟨19, _⟩ => ⟨S32768x512, .bf16⟩
  | .hbm, ⟨20, _⟩ => ⟨S32768x512, .bf16⟩
  | .hbm, ⟨21, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2560, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InARefIdeal.lean ====
abbrev S32768x1024 : Shape := ⟨2, ![32768, 1024]⟩
abbrev S2x1024 : Shape := ⟨2, ![2, 1024]⟩
abbrev S1x1024x2560 : Shape := ⟨3, ![1, 1024, 2560]⟩
abbrev S1x512 : Shape := ⟨2, ![1, 512]⟩
abbrev S1x4x128x128 : Shape := ⟨4, ![1, 4, 128, 128]⟩
abbrev S1x4x128 : Shape := ⟨3, ![1, 4, 128]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x2560 : Shape := ⟨2, ![1024, 2560]⟩
abbrev S32768x2560 : Shape := ⟨2, ![32768, 2560]⟩
abbrev S32768x512 : Shape := ⟨2, ![32768, 512]⟩
abbrev S512 : Shape := ⟨1, ![512]⟩
abbrev S4x128x128 : Shape := ⟨3, ![4, 128, 128]⟩
abbrev S4x128 : Shape := ⟨2, ![4, 128]⟩
abbrev S4x64x128x4x128 : Shape := ⟨5, ![4, 64, 128, 4, 128]⟩
abbrev S128x128 : Shape := ⟨2, ![128, 128]⟩
abbrev S1x128x128 : Shape := ⟨3, ![1, 128, 128]⟩
abbrev S4x4x64x128x128 : Shape := ⟨5, ![4, 4, 64, 128, 128]⟩
abbrev S128x4 : Shape := ⟨2, ![128, 4]⟩
abbrev S1x1x128x4x1 : Shape := ⟨5, ![1, 1, 128, 4, 1]⟩

abbrev nBuf : Space → Nat
  | .hbm => 115
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x2560, .f32⟩
  | .hbm, ⟨3, _⟩ => ⟨S1x512, .f32⟩
  | .hbm, ⟨4, _⟩ => ⟨S1x512, .f32⟩
  | .hbm, ⟨5, _⟩ => ⟨S1x4x128x128, .f32⟩
  | .hbm, ⟨6, _⟩ => ⟨S1x4x128, .f32⟩
  | .hbm, ⟨7, _⟩ => ⟨S1x1024, .f32⟩
  | .hbm, ⟨8, _⟩ => ⟨S1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S1024x2560, .f32⟩
  | .hbm, ⟨26, _⟩ => ⟨S32768x2560, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S_, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S_, .f32⟩
  | .hbm, ⟨37, _⟩ => ⟨S32768x512, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S_, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S_, .f32⟩
  | .hbm, ⟨46, _⟩ => ⟨S32768x512, .f32⟩
  | .hbm, ⟨47, _⟩ => ⟨S32768x512, .f32⟩
  | .hbm, ⟨48, _⟩ => ⟨S32768x512, .f32⟩
  | .hbm, ⟨49, _⟩ => ⟨S32768x512, .f32⟩
  | .hbm, ⟨50, _⟩ => ⟨S512, .f32⟩
  | .hbm, ⟨51, _⟩ => ⟨S512, .f32⟩
  | .hbm, ⟨52, _⟩ => ⟨S4x128x128, .f32⟩
  | .hbm, ⟨53, _⟩ => ⟨S4x128, .f32⟩
  | .hbm, ⟨54, _⟩ => ⟨S_, .f32⟩
  | .hbm, ⟨55, _⟩ => ⟨S32768, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x512, .f32⟩
  | .hbm, ⟨61, _⟩ => ⟨S32768x512, .f32⟩
  | .hbm, ⟨62, _⟩ => ⟨S32768x512, .f32⟩
  | .hbm, ⟨63, _⟩ => ⟨S_, .f32⟩
  | .hbm, ⟨64, _⟩ => ⟨S32768, .f32⟩
  | .hbm, ⟨65, _⟩ => ⟨S32768x1, .f32⟩
  | .hbm, ⟨66, _⟩ => ⟨S_, .f32⟩
  | .hbm, ⟨67, _⟩ => ⟨S32768x1, .f32⟩
  | .hbm, ⟨68, _⟩ => ⟨S32768x1, .f32⟩
  | .hbm, ⟨69, _⟩ => ⟨S32768x512, .f32⟩
  | .hbm, ⟨70, _⟩ => ⟨S32768x512, .f32⟩
  | .hbm, ⟨71, _⟩ => ⟨S_, .f32⟩
  | .hbm, ⟨72, _⟩ => ⟨S32768x1, .f32⟩
  | .hbm, ⟨73, _⟩ => ⟨S32768x1, .f32⟩
  | .hbm, ⟨74, _⟩ => ⟨S32768x1, .f32⟩
  | .hbm, ⟨75, _⟩ => ⟨S32768x512, .f32⟩
  | .hbm, ⟨76, _⟩ => ⟨S32768x512, .f32⟩
  | .hbm, ⟨77, _⟩ => ⟨S1x512, .f32⟩
  | .hbm, ⟨78, _⟩ => ⟨S32768x512, .f32⟩
  | .hbm, ⟨79, _⟩ => ⟨S32768x512, .f32⟩
  | .hbm, ⟨80, _⟩ => ⟨S1x512, .f32⟩
  | .hbm, ⟨81, _⟩ => ⟨S32768x512, .f32⟩
  | .hbm, ⟨82, _⟩ => ⟨S32768x512, .f32⟩
  | .hbm, ⟨83, _⟩ => ⟨S4x64x128x4x128, .f32⟩
  | .hbm, ⟨84, _⟩ => ⟨S_, .i1⟩
  | .hbm, ⟨85, _⟩ => ⟨S128x128, .i1⟩
  | .hbm, ⟨86, _⟩ => ⟨S128x128, .i32⟩
  | .hbm, ⟨87, _⟩ => ⟨S_, .i32⟩
  | .hbm, ⟨88, _⟩ => ⟨S128x128, .i32⟩
  | .hbm, ⟨89, _⟩ => ⟨S128x128, .i32⟩
  | .hbm, ⟨90, _⟩ => ⟨S128x128, .i32⟩
  | .hbm, ⟨91, _⟩ => ⟨S128x128, .i1⟩
  | .hbm, ⟨92, _⟩ => ⟨S_, .i1⟩
  | .hbm, ⟨93, _⟩ => ⟨S128x128, .i1⟩
  | .hbm, ⟨94, _⟩ => ⟨S128x128, .i1⟩
  | .hbm, ⟨95, _⟩ => ⟨S1x128x128, .i1⟩
  | .hbm, ⟨96, _⟩ => ⟨S_, .f32⟩
  | .hbm, ⟨97, _⟩ => ⟨S4x128x128, .f32⟩
  | .hbm, ⟨98, _⟩ => ⟨S4x128x128, .i1⟩
  | .hbm, ⟨99, _⟩ => ⟨S4x128x128, .f32⟩
  | .hbm, ⟨100, _⟩ => ⟨S4x4x64x128x128, .f32⟩
  | .hbm, ⟨101, _⟩ => ⟨S4x64x128x4x128, .f32⟩
  | .hbm, ⟨102, _⟩ => ⟨S128x4, .f32⟩
  | .hbm, ⟨103, _⟩ => ⟨S1x1x128x4x1, .f32⟩
  | .hbm, ⟨104, _⟩ => ⟨S4x64x128x4x128, .f32⟩
  | .hbm, ⟨105, _⟩ => ⟨S4x64x128x4x128, .f32⟩
  | .hbm, ⟨106, _⟩ => ⟨S32768x512, .f32⟩
  | .hbm, ⟨107, _⟩ => ⟨S32768x512, .f32⟩
  | .hbm, ⟨108, _⟩ => ⟨S_, .f32⟩
  | .hbm, ⟨109, _⟩ => ⟨S32768x512, .f32⟩
  | .hbm, ⟨110, _⟩ => ⟨S32768x512, .f32⟩
  | .hbm, ⟨111, _⟩ => ⟨S32768x512, .bf16⟩
  | .hbm, ⟨112, _⟩ => ⟨S32768x512, .bf16⟩
  | .hbm, ⟨113, _⟩ => ⟨S32768x512, .bf16⟩
  | .hbm, ⟨114, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c : Ref sig .tc := ⟨.hbm, 84, rfl⟩
abbrev main_v65 : Ref sig .tc := ⟨.hbm, 85, rfl⟩
abbrev main_call0_v0 : Ref sig .tc := ⟨.hbm, 86, rfl⟩
abbrev main_call0_c : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_c_0 : Ref sig .tc := ⟨.hbm, 92, rfl⟩
abbrev main_call0_v5 : Ref sig .tc := ⟨.hbm, 93, rfl⟩
abbrev main_v66 : Ref sig .tc := ⟨.hbm, 94, rfl⟩
abbrev main_v67 : Ref sig .tc := ⟨.hbm, 95, rfl⟩
abbrev main_cst_11 : Ref sig .tc := ⟨.hbm, 96, rfl⟩
abbrev main_v68 : Ref sig .tc := ⟨.hbm, 97, rfl⟩
abbrev main_call1_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_12 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩

abbrev nD : Nat := 1
abbrev τ : Topo := Topo.v7x

variable {F : FTy → Type} [FloatOps F]
-- ==== InC.lean ====
abbrev S32768x1024 : Shape := ⟨2, ![32768, 1024]⟩
abbrev S2x1024 : Shape := ⟨2, ![2, 1024]⟩
abbrev S1x1024x3088 : Shape := ⟨3, ![1, 1024, 3088]⟩
abbrev S1x16x512 : Shape := ⟨3, ![1, 16, 512]⟩
abbrev S1x512 : Shape := ⟨2, ![1, 512]⟩
abbrev S1024x3088 : Shape := ⟨2, ![1024, 3088]⟩
abbrev S_ : Shape := ⟨0, ![]⟩
abbrev S1024x3200 : Shape := ⟨2, ![1024, 3200]⟩
abbrev S1x1024 : Shape := ⟨2, ![1, 1024]⟩
abbrev S1024 : Shape := ⟨1, ![1024]⟩
abbrev S16x512 : Shape := ⟨2, ![16, 512]⟩
abbrev S512 : Shape := ⟨1, ![512]⟩
abbrev S32768x512 : Shape := ⟨2, ![32768, 512]⟩
abbrev S1024x1024 : Shape := ⟨2, ![1024, 1024]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩
abbrev S1024x1152 : Shape := ⟨2, ![1024, 1152]⟩
abbrev S256x1152 : Shape := ⟨2, ![256, 1152]⟩
abbrev S1024x2048 : Shape := ⟨2, ![1024, 2048]⟩
abbrev S256x2048 : Shape := ⟨2, ![256, 2048]⟩
abbrev S256x16 : Shape := ⟨2, ![256, 16]⟩
abbrev S256x512 : Shape := ⟨2, ![256, 512]⟩

abbrev nBuf : Space → Nat
  | .hbm => 22
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x3088, .f32⟩
  | .hbm, ⟨3, _⟩ => ⟨S1x16x512, .f32⟩
  | .hbm, ⟨4, _⟩ => ⟨S1x512, .f32⟩
  | .hbm, ⟨5, _⟩ => ⟨S1024x3088, .f32⟩
  | .hbm, ⟨6, _⟩ => ⟨S_, .i32⟩
  | .hbm, ⟨7, _⟩ => ⟨S_, .f32⟩
  | .hbm, ⟨8, _⟩ => ⟨S1024x3200, .f32⟩
  | .hbm, ⟨9, _⟩ => ⟨S1024x3200, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S16x512, .f32⟩
  | .hbm, ⟨14, _⟩ => ⟨S16x512, .bf16⟩
  | .hbm, ⟨15, _⟩ => ⟨S512, .f32⟩
  | .hbm, ⟨16, _⟩ => ⟨S1x512, .f32⟩
  | .hbm, ⟨17, _⟩ => ⟨S32768x512, .bf16⟩
  | .hbm, ⟨18, _⟩ => ⟨S32768x512, .bf16⟩
  | .hbm, ⟨19, _⟩ => ⟨S32768x1024, .bf16⟩
  | .hbm, ⟨20, _⟩ => ⟨S32768x1024, .bf16⟩
  | .hbm, ⟨21, _⟩ => ⟨S32768x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3200, .bf16⟩
  | .local _ .vmem, ⟨4, _⟩ => ⟨S16x512, .bf16⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x512, .f32⟩
  | .local _ .vmem, ⟨15, _⟩ => ⟨S1024x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InCRefIdeal.lean ====
abbrev S32768x1024 : Shape := ⟨2, ![32768, 1024]⟩
abbrev S2x1024 : Shape := ⟨2, ![2, 1024]⟩
abbrev S1x1024x3088 : Shape := ⟨3, ![1, 1024, 3088]⟩
abbrev S1x16x512 : Shape := ⟨3, ![1, 16, 512]⟩
abbrev S1x512 : Shape := ⟨2, ![1, 512]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x3088 : Shape := ⟨2, ![1024, 3088]⟩
abbrev S32768x3088 : Shape := ⟨2, ![32768, 3088]⟩
abbrev S32768x512 : Shape := ⟨2, ![32768, 512]⟩
abbrev S32768x16 : Shape := ⟨2, ![32768, 16]⟩
abbrev S16x512 : Shape := ⟨2, ![16, 512]⟩
abbrev S512 : Shape := ⟨1, ![512]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S1x1024x3088, .f32⟩
  | .hbm, ⟨3, _⟩ => ⟨S1x16x512, .f32⟩
  | .hbm, ⟨4, _⟩ => ⟨S1x512, .f32⟩
  | .hbm, ⟨5, _⟩ => ⟨S1x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1024x3088, .f32⟩
  | .hbm, ⟨24, _⟩ => ⟨S32768x3088, .f32⟩
  | .hbm, ⟨25, _⟩ => ⟨S32768x512, .f32⟩
  | .hbm, ⟨26, _⟩ => ⟨S32768x512, .f32⟩
  | .hbm, ⟨27, _⟩ => ⟨S32768x1024, .f32⟩
  | .hbm, ⟨28, _⟩ => ⟨S32768x1024, .f32⟩
  | .hbm, ⟨29, _⟩ => ⟨S32768x16, .f32⟩
  | .hbm, ⟨30, _⟩ => ⟨S16x512, .f32⟩
  | .hbm, ⟨31, _⟩ => ⟨S32768x512, .f32⟩
  | .hbm, ⟨32, _⟩ => ⟨S512, .f32⟩
  | .hbm, ⟨33, _⟩ => ⟨S1x512, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S_, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S32768x512, .i1⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S32768x512, .f32⟩
  | .hbm, ⟨48, _⟩ => ⟨S32768x512, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S_, .f32⟩
  | .hbm, ⟨53, _⟩ => ⟨S32768x512, .f32⟩
  | .hbm, ⟨54, _⟩ => ⟨S32768x512, .f32⟩
  | .hbm, ⟨55, _⟩ => ⟨S_, .f32⟩
  | .hbm, ⟨56, _⟩ => ⟨S32768x512, .f32⟩
  | .hbm, ⟨57, _⟩ => ⟨S32768x512, .f32⟩
  | .hbm, ⟨58, _⟩ => ⟨S32768x512, .bf16⟩
  | .hbm, ⟨59, _⟩ => ⟨S32768x512, .bf16⟩
  | .hbm, ⟨60, _⟩ => ⟨S32768x1024, .bf16⟩
  | .hbm, ⟨61, _⟩ => ⟨S32768x1024, .f32⟩
  | .hbm, ⟨62, _⟩ => ⟨S32768x1024, .f32⟩
  | .hbm, ⟨63, _⟩ => ⟨S_, .f32⟩
  | .hbm, ⟨64, _⟩ => ⟨S32768x1024, .f32⟩
  | .hbm, ⟨65, _⟩ => ⟨S32768x1024, .f32⟩
  | .hbm, ⟨66, _⟩ => ⟨S_, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v28 : Ref sig .tc := ⟨.hbm, 51, rfl⟩
abbrev main_cst_2 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v36 : Ref sig .tc := ⟨.hbm, 69, rfl⟩
abbrev main_v37 : Ref sig .tc := ⟨.hbm, 70, rfl⟩

abbrev nD : Nat := 1
abbrev τ : Topo := Topo.v7x

variable {F : FTy → Type} [FloatOps F]
-- ==== Gla.lean ====
abbrev S32768x512 : Shape := ⟨2, ![32768, 512]⟩
abbrev S32768x1024 : Shape := ⟨2, ![32768, 1024]⟩
abbrev S1x1024 : Shape := ⟨2, ![1, 1024]⟩
abbrev S1024 : Shape := ⟨1, ![1024]⟩
abbrev S1024x512 : Shape := ⟨2, ![1024, 512]⟩
abbrev S1024x1024 : Shape := ⟨2, ![1024, 1024]⟩
abbrev S4x256x128 : Shape := ⟨3, ![4, 256, 128]⟩
abbrev S384x128 : Shape := ⟨2, ![384, 128]⟩
abbrev S128x128 : Shape := ⟨2, ![128, 128]⟩
abbrev S128x1 : Shape := ⟨2, ![128, 1]⟩
abbrev S128x512 : Shape := ⟨2, ![128, 512]⟩
abbrev S384x512 : Shape := ⟨2, ![384, 512]⟩
abbrev S1x128 : Shape := ⟨2, ![1, 128]⟩
abbrev S64x128 : Shape := ⟨2, ![64, 128]⟩
abbrev S32x128 : Shape := ⟨2, ![32, 128]⟩
abbrev S16x128 : Shape := ⟨2, ![16, 128]⟩
abbrev S8x128 : Shape := ⟨2, ![8, 128]⟩
abbrev S128 : Shape := ⟨1, ![128]⟩
abbrev S128x256 : Shape := ⟨2, ![128, 256]⟩
abbrev S1x256x128 : Shape := ⟨3, ![1, 256, 128]⟩
abbrev S256x128 : Shape := ⟨2, ![256, 128]⟩
abbrev S1x256 : Shape := ⟨2, ![1, 256]⟩

abbrev nBuf : Space → Nat
  | .hbm => 10
  | .vmem => 18
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .bf16⟩
  | .hbm, ⟨3, _⟩ => ⟨S32768x1024, .bf16⟩
  | .hbm, ⟨4, _⟩ => ⟨S32768x512, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S32768x512, .bf16⟩
  | .hbm, ⟨9, _⟩ => ⟨S32768x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .f32⟩
  | .local _ .vmem, ⟨9, _⟩ => ⟨S1024x512, .f32⟩
  | .local _ .vmem, ⟨10, _⟩ => ⟨S1x1024, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S4x256x128, .f32⟩
  | .local _ .vmem, ⟨16, _⟩ => ⟨S1024x512, .f32⟩
  | .local _ .vmem, ⟨17, _⟩ => ⟨S384x128, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GlaIdeal.lean ====
variable {F : FTy → Type} [FloatOps F] [Named F]
def κ : String → Option EReal := fun
  | "log2e" => some (((Real.log 2)⁻¹ : ℝ) : EReal)
  | _ => none
-- ==== Proof.AttnPre.lean ====
/-
  The precondition of the attention's value claim, read: every query, key and bias is a real number.
-/
module

public import proofs.«01_k».proof.Proof.Gen.Pre_finite
public import proofs.«01_k».proof.Defs
public import Idealize.ShloMosaic.Lib.Pointwise
public import Idealize.ShloMosaic.Lib.ReduceAll

@[expose] public section

noncomputable section

namespace Cert.Proof.Attn

open Idealize.ShloMosaic Idealize.ShloMosaic.Tactic

/-- An element that passes the comparison `|x| < ∞` is a real number. -/
theorem real_of_lt {x : EReal} (h : FloatOps.cmpf (F := Ideal) (φ := .f32) .olt (max x (-x)) (Ideal.ofBits .f32 0x7F800000#32) = 1#1) :
    ∃ r : ℝ, x = (r : EReal) := by
  have hinf : Ideal.ofBits .f32 0x7F800000#32 = (⊤ : EReal) := by simp [Ideal.ofBits, Ideal.ieee]
  rw [hinf] at h
  induction x with
  | bot => exact absurd h (by simp [FloatOps.cmpf, Ideal.cmp])
  | top => exact absurd h (by simp [FloatOps.cmpf, Ideal.cmp])
  | coe r => exact ⟨r, rfl⟩

theorem reals_of_pre (q k v : FVec Ideal Cert.Pre_finite.S32768x512 .bf16) (rb : FVec Ideal Cert.Pre_finite.S8x513 .f32)
    (h : Cert.Pre_finite.fn (F := Ideal) q k v rb = fun _ => 1#1) :
    (∀ i, ∃ r : ℝ, q i = (r : EReal)) ∧ (∀ i, ∃ r : ℝ, k i = (r : EReal)) ∧ (∀ i, ∃ r : ℝ, rb i = (r : EReal)) := by
  have h0 := congrFun h (Shape.Idx.first Cert.Pre_finite.Gen.h_S_)
  unfold Cert.Pre_finite.fn at h0
  obtain ⟨h01, h2⟩ := IntOp.andi_eq_one.1 h0
  obtain ⟨h1, h3⟩ := IntOp.andi_eq_one.1 h01
  haveI : Subsingleton Cert.Pre_finite.S_.Idx := ⟨fun a b => funext fun x => x.elim0⟩
  exact ⟨fun i => real_of_lt (Host.reduce_andi_all _ _ _ _ _ h1 i), fun i => real_of_lt (Host.reduce_andi_all _ _ _ _ _ h3 i),
    fun i => real_of_lt (Host.reduce_andi_all _ _ _ _ _ h2 i)⟩

end Cert.Proof.Attn
-- ==== Proof.AttnTile.lean ====
/-
  One tile of the attention kernel: 256 queries against the 768 keys that hold their band, two heads at a time (the
  kernel keeps two 64-wide heads side by side in 128 lanes). The definitions are the kernel's own operations in order,
  stated once over the tile's operands; `pairOut_apply` reads one element.
-/
module

public import proofs.«01_k».proof.Proof.Gen.AttnIdeal.Value
public import Idealize.ShloMosaic.Lib.Pointwise

@[expose] public section

set_option maxRecDepth 16384

noncomputable section

namespace Cert.Proof.Attn

open Idealize.ShloMosaic Idealize.ShloMosaic.Tactic Idealize.ShloMosaic.ValueIdx
open Cert.AttnIdeal Cert.AttnIdeal.Gen

section Defs

variable {F : FTy → Type} [FloatOps F] [Named F]

/-- The lanes of a pair's first head: those below 64. -/
def loLanes : IVec S1x128 1 := cmpi .slt (iota .tc S1x128 32 [1] iota_S1x128_d1_w32) (broadcast S1x128 64#32)

/-- The lanes of a pair's second head. -/
def hiLanes : IVec S1x128 1 := xori loLanes (constantI S1x128 1 1#1)

/-- Scores of one head: the pair's queries with the other head's lanes zeroed, times the pair's keys, plus the bias. -/
def scores (lanes : IVec S1x128 1) (qp : Vec F S256x128 .bf16) (kt : FVec F S768x128 .bf16)
    (b : Vec F S1x1x256x768 .f32) : FVec F S256x768 .f32 :=
  addf (matmul dot_S256x128_S768x128_S256x768_1_1_0_0_n_n none
      (select (broadcastTo S256x128 (shapeCast S1x128 lanes shapeCasts_S1x128_S1x128) broadcasts_S1x128_S256x128) qp
        (broadcast S256x128 (Scalar.ofBits .bf16 0x0000#16)) : FVec F S256x128 .bf16)
      kt (constant S256x768 .f32 0x00000000#32))
    (shapeCast S256x768 b shapeCasts_S1x1x256x768_S256x768)

/-- Powers of two of the scores, each row's maximum taken off. -/
def weights (s : FVec F S256x768 .f32) : FVec F S256x768 .bf16 :=
  truncf .bf16 (exp2 (subf s (broadcastTo S256x768
    (shapeCast S256x1 (multiReduction .maximumf [1] S256 s 0xFF800000#32 reduces_S256x768_S256 (.inl rfl) rfl)
      shapeCasts_S256_S256x1) broadcasts_S256x1_S256x768))) bitsLt_bf16_f32

/-- The pair's values with the other head's lanes replaced: a one in lane `one`, zeros in the rest. -/
def maskedValues (lanes : IVec S1x128 1) (one : BitVec 32) (vt : FVec F S768x128 .bf16) : FVec F S768x128 .bf16 :=
  select (broadcastTo S768x128 (shapeCast S1x128 lanes shapeCasts_S1x128_S1x128) broadcasts_S1x128_S768x128) vt
    (broadcastTo S768x128
      (shapeCast S1x128
        (truncf .bf16 (sitofp .f32 (extui 32
          (cmpi .eq (iota .tc S1x128 32 [1] iota_S1x128_d1_w32) (broadcast S1x128 one)) natLt_1_32)) bitsLt_bf16_f32
          : FVec F S1x128 .bf16)
        shapeCasts_S1x128_S1x128) broadcasts_S1x128_S768x128)

/-- Weighted values, the weights' sum in the replaced lane. -/
def weighted (e : FVec F S256x768 .bf16) (vh : FVec F S768x128 .bf16) : FVec F S256x128 .f32 :=
  matmul dot_S256x768_S768x128_S256x128_1_0_0_1_n_n none e vh (constant S256x128 .f32 0x00000000#32)

/-- The first head of a pair, divided by the sum in lane 64. -/
def headLo (e : FVec F S256x768 .bf16) (vt : FVec F S768x128 .bf16) : FVec F S256x128 .f32 :=
  divf (weighted e (maskedValues loLanes 64#32 vt))
    (broadcastTo S256x128 (extractStridedSlice S256x1 ![0, 64] (weighted e (maskedValues loLanes 64#32 vt))
      slices_S256x128_o0_64_S256x1) broadcasts_S256x1_S256x128)

/-- The second head of a pair, divided by the sum in lane 0. -/
def headHi (e : FVec F S256x768 .bf16) (vt : FVec F S768x128 .bf16) : FVec F S256x128 .f32 :=
  divf (weighted e (maskedValues hiLanes 0#32 vt))
    (broadcastTo S256x128 (extractStridedSlice S256x1 ![0, 0] (weighted e (maskedValues hiLanes 0#32 vt))
      slices_S256x128_o0_0_S256x1) broadcasts_S256x1_S256x128)

/-- What one store of the kernel writes: two heads of a tile side by side. -/
def pairOut (qp : Vec F S256x128 .bf16) (kt vt : FVec F S768x128 .bf16) (b0 b1 : Vec F S1x1x256x768 .f32) :
    FVec F S256x128 .bf16 :=
  truncf .bf16 (select (broadcastTo S256x128 (shapeCast S1x128 loLanes shapeCasts_S1x128_S1x128)
      broadcasts_S1x128_S256x128)
    (headLo (weights (scores loLanes qp kt b0)) vt) (headHi (weights (scores hiLanes qp kt b1)) vt)) bitsLt_bf16_f32

end Defs

end Cert.Proof.Attn
-- ==== Proof.AttnPoint.lean ====
/-
  One grid point of the attention kernel: what its body leaves in the output block and in the bias table it keeps between
  points. A point whose position in the sequence is 0 or 1 builds the table (`outA`, `tableA`); the others reuse the one
  the point before left (`outB`).
-/
module

public import proofs.«01_k».proof.Proof.AttnTile
public import Idealize.ShloMosaic.Lib.Pipeline.ValueKit.Tiles

@[expose] public section

set_option maxRecDepth 16384

noncomputable section

namespace Cert.Proof.Attn

open Idealize.ShloMosaic Idealize.ShloMosaic.Tactic Idealize.ShloMosaic.ValueIdx Idealize.ShloMosaic.TcCoe
open Cert.AttnIdeal Cert.AttnIdeal.Gen

variable {F : FTy → Type} [FloatOps F] [Named F]

/-- The keys (or values) a point sees: the 512 rows before its own, then its own. -/
def twoBlocks (x y : Vec F S512x512 .bf16) : FVec F S1024x512 .bf16 :=
  concatenate S1024x512 0 [⟨S512x512, x⟩, ⟨S512x512, y⟩] concatenates_S512x512_S512x512_S1024x512_d0

/-- The bias of one tile and head, masked: entry `(r, k)` is the head's bias row turned right by `r` lanes, at lane `k`,
    in units of ln 2; −∞ outside the band and before the start of the sequence. `off` is the tile's first row. -/
def biasTile (p off : BitVec 32) (row : Vec F S1x1024 .f32) : FVec F S1x1x256x768 .f32 :=
  shapeCast S1x1x256x768
    (select (andi k0_pay2
        (cmpi .sge (addi (iota .tc S256x768 32 [1] iota_S256x768_d1_w32)
          (broadcast S256x768 (Scalar.subi (Scalar.addi (Scalar.muli p 512#32) off) 512#32))) (broadcast S256x768 0#32)))
      (mulf (extractStridedSlice S256x768 ![0, 0]
          (dynamicRotate 1 0#32 (some (1, 0))
            (broadcastTo S256x1024 (shapeCast S1x1024 (shapeCast S1x1024 row shapeCasts_S1x1024_S1x1024)
              shapeCasts_S1x1024_S1x1024) broadcasts_S1x1024_S256x1024) rotates_S256x1024_d1s1a0)
          slices_S256x1024_o0_0_S256x768)
        (broadcast S256x768 (Named.named κ "log2e" 0x3FB8AA3B#32)))
      (broadcast S256x768 (Named.named κ "masked" 0xFF7F0000#32)) : FVec F S256x768 .f32)
    shapeCasts_S256x768_S1x1x256x768

/-! The sixteen stored tables are one function of the place, the tile and the head's row. -/

section Tables

variable (p : BitVec 32) (i : grid0.Coords) (row : Vec F S1x1024 .f32)

theorem table_0_0 : k0_pay4 (iota Kind.tc S256x768 32 [1] iota_S256x768_d1_w32) k0_pay2 (k0_pay3 row) (Scalar.subi (Scalar.addi (Scalar.muli p 512#32) 0#32) 512#32)
    = biasTile p 0#32 row := rfl

theorem table_0_1 : k0_pay8 k0_pay2 (k0_pay6 row) (k0_pay7 p (iota Kind.tc S256x768 32 [1] iota_S256x768_d1_w32))
    = biasTile p 0#32 row := rfl

theorem table_0_2 : k0_pay13 k0_pay2 (k0_pay10 row) (k0_pay11 p (iota Kind.tc S256x768 32 [1] iota_S256x768_d1_w32)) k0_pay12
    = biasTile p 0#32 row := rfl

theorem table_0_3 : k0_pay17 (k0_pay15 row) (k0_pay16 p (iota Kind.tc S256x768 32 [1] iota_S256x768_d1_w32) k0_pay2)
    = biasTile p 0#32 row := rfl

theorem table_0_4 : k0_pay22 (k0_pay19 row) (k0_pay20 p (iota Kind.tc S256x768 32 [1] iota_S256x768_d1_w32) k0_pay2) k0_pay21
    = biasTile p 0#32 row := rfl

theorem table_0_5 : k0_pay26 (k0_pay25 p (iota Kind.tc S256x768 32 [1] iota_S256x768_d1_w32) k0_pay2 row)
    = biasTile p 0#32 row := rfl

theorem table_0_6 : k0_pay30 (k0_pay29 p (iota Kind.tc S256x768 32 [1] iota_S256x768_d1_w32) k0_pay2 row)
    = biasTile p 0#32 row := rfl

theorem table_0_7 : k0_pay34 (k0_pay33 p (iota Kind.tc S256x768 32 [1] iota_S256x768_d1_w32) k0_pay2 row)
    = biasTile p 0#32 row := rfl

theorem table_1_0 : k0_pay5 p (iota Kind.tc S256x768 32 [1] iota_S256x768_d1_w32) k0_pay2 (k0_pay3 row)
    = biasTile p 256#32 row := rfl

theorem table_1_1 : k0_pay9 p (iota Kind.tc S256x768 32 [1] iota_S256x768_d1_w32) k0_pay2 (k0_pay6 row)
    = biasTile p 256#32 row := rfl

theorem table_1_2 : k0_pay14 p (iota Kind.tc S256x768 32 [1] iota_S256x768_d1_w32) k0_pay2 (k0_pay10 row)
    = biasTile p 256#32 row := rfl

theorem table_1_3 : k0_pay18 p (iota Kind.tc S256x768 32 [1] iota_S256x768_d1_w32) k0_pay2 (k0_pay15 row)
    = biasTile p 256#32 row := rfl

theorem table_1_4 : k0_pay23 p (iota Kind.tc S256x768 32 [1] iota_S256x768_d1_w32) k0_pay2 (k0_pay19 row)
    = biasTile p 256#32 row := rfl

theorem table_1_5 : k0_pay27 p (iota Kind.tc S256x768 32 [1] iota_S256x768_d1_w32) k0_pay2 (k0_pay24 row)
    = biasTile p 256#32 row := rfl

theorem table_1_6 : k0_pay31 p (iota Kind.tc S256x768 32 [1] iota_S256x768_d1_w32) k0_pay2 (k0_pay28 row)
    = biasTile p 256#32 row := rfl

theorem table_1_7 : k0_pay35 i (iota Kind.tc S256x768 32 [1] iota_S256x768_d1_w32) k0_pay2 (k0_pay32 row)
    = biasTile (BitVec.ofNat 32 (i 1).val) 256#32 row := rfl

end Tables

/-- The table of biases as the sixteen stores that fill it, last first. `p` is the point's place in its sequence. -/
def tablePieces (p : BitVec 32) (rb : Vec F S8x1024 .f32) : List (View.Piece (Elt F) S2x8x256x768 .f32) :=
  [⟨Rect.unit (s := S2x8x256x768) ![1, 7, 0, 0] S1x1x256x768.size inb_S2x8x256x768_S1x1x256x768_1_7_0_0,
      biasTile p 256#32 (View.ld rb (Rect.unit (s := S8x1024) ![7, 0] S1x1024.size inb_S8x1024_S1x1024_7_0))⟩,
   ⟨Rect.unit (s := S2x8x256x768) ![0, 7, 0, 0] S1x1x256x768.size inb_S2x8x256x768_S1x1x256x768_0_7_0_0,
      biasTile p 0#32 (View.ld rb (Rect.unit (s := S8x1024) ![7, 0] S1x1024.size inb_S8x1024_S1x1024_7_0))⟩,
   ⟨Rect.unit (s := S2x8x256x768) ![1, 6, 0, 0] S1x1x256x768.size inb_S2x8x256x768_S1x1x256x768_1_6_0_0,
      biasTile p 256#32 (View.ld rb (Rect.unit (s := S8x1024) ![6, 0] S1x1024.size inb_S8x1024_S1x1024_6_0))⟩,
   ⟨Rect.unit (s := S2x8x256x768) ![0, 6, 0, 0] S1x1x256x768.size inb_S2x8x256x768_S1x1x256x768_0_6_0_0,
      biasTile p 0#32 (View.ld rb (Rect.unit (s := S8x1024) ![6, 0] S1x1024.size inb_S8x1024_S1x1024_6_0))⟩,
   ⟨Rect.unit (s := S2x8x256x768) ![1, 5, 0, 0] S1x1x256x768.size inb_S2x8x256x768_S1x1x256x768_1_5_0_0,
      biasTile p 256#32 (View.ld rb (Rect.unit (s := S8x1024) ![5, 0] S1x1024.size inb_S8x1024_S1x1024_5_0))⟩,
   ⟨Rect.unit (s := S2x8x256x768) ![0, 5, 0, 0] S1x1x256x768.size inb_S2x8x256x768_S1x1x256x768_0_5_0_0,
      biasTile p 0#32 (View.ld rb (Rect.unit (s := S8x1024) ![5, 0] S1x1024.size inb_S8x1024_S1x1024_5_0))⟩,
   ⟨Rect.unit (s := S2x8x256x768) ![1, 4, 0, 0] S1x1x256x768.size inb_S2x8x256x768_S1x1x256x768_1_4_0_0,
      biasTile p 256#32 (View.ld rb (Rect.unit (s := S8x1024) ![4, 0] S1x1024.size inb_S8x1024_S1x1024_4_0))⟩,
   ⟨Rect.unit (s := S2x8x256x768) ![0, 4, 0, 0] S1x1x256x768.size inb_S2x8x256x768_S1x1x256x768_0_4_0_0,
      biasTile p 0#32 (View.ld rb (Rect.unit (s := S8x1024) ![4, 0] S1x1024.size inb_S8x1024_S1x1024_4_0))⟩,
   ⟨Rect.unit (s := S2x8x256x768) ![1, 3, 0, 0] S1x1x256x768.size inb_S2x8x256x768_S1x1x256x768_1_3_0_0,
      biasTile p 256#32 (View.ld rb (Rect.unit (s := S8x1024) ![3, 0] S1x1024.size inb_S8x1024_S1x1024_3_0))⟩,
   ⟨Rect.unit (s := S2x8x256x768) ![0, 3, 0, 0] S1x1x256x768.size inb_S2x8x256x768_S1x1x256x768_0_3_0_0,
      biasTile p 0#32 (View.ld rb (Rect.unit (s := S8x1024) ![3, 0] S1x1024.size inb_S8x1024_S1x1024_3_0))⟩,
   ⟨Rect.unit (s := S2x8x256x768) ![1, 2, 0, 0] S1x1x256x768.size inb_S2x8x256x768_S1x1x256x768_1_2_0_0,
      biasTile p 256#32 (View.ld rb (Rect.unit (s := S8x1024) ![2, 0] S1x1024.size inb_S8x1024_S1x1024_2_0))⟩,
   ⟨Rect.unit (s := S2x8x256x768) ![0, 2, 0, 0] S1x1x256x768.size inb_S2x8x256x768_S1x1x256x768_0_2_0_0,
      biasTile p 0#32 (View.ld rb (Rect.unit (s := S8x1024) ![2, 0] S1x1024.size inb_S8x1024_S1x1024_2_0))⟩,
   ⟨Rect.unit (s := S2x8x256x768) ![1, 1, 0, 0] S1x1x256x768.size inb_S2x8x256x768_S1x1x256x768_1_1_0_0,
      biasTile p 256#32 (View.ld rb (Rect.unit (s := S8x1024) ![1, 0] S1x1024.size inb_S8x1024_S1x1024_1_0))⟩,
   ⟨Rect.unit (s := S2x8x256x768) ![0, 1, 0, 0] S1x1x256x768.size inb_S2x8x256x768_S1x1x256x768_0_1_0_0,
      biasTile p 0#32 (View.ld rb (Rect.unit (s := S8x1024) ![1, 0] S1x1024.size inb_S8x1024_S1x1024_1_0))⟩,
   ⟨Rect.unit (s := S2x8x256x768) ![1, 0, 0, 0] S1x1x256x768.size inb_S2x8x256x768_S1x1x256x768_1_0_0_0,
      biasTile p 256#32 (View.ld rb (Rect.unit (s := S8x1024) ![0, 0] S1x1024.size inb_S8x1024_S1x1024_0_0))⟩,
   ⟨Rect.unit (s := S2x8x256x768) ![0, 0, 0, 0] S1x1x256x768.size inb_S2x8x256x768_S1x1x256x768_0_0_0_0,
      biasTile p 0#32 (View.ld rb (Rect.unit (s := S8x1024) ![0, 0] S1x1024.size inb_S8x1024_S1x1024_0_0))⟩]

/-- The table of biases a point at place `p` builds. -/
def table (p : BitVec 32) (rb : Vec F S8x1024 .f32) : Vec F S2x8x256x768 .f32 := View.canon (tablePieces p rb)

/-- The output block as the eight stores that fill it, last first. -/
def outPieces (q : Vec F S512x512 .bf16) (kc vc : FVec F S1024x512 .bf16) (B : Vec F S2x8x256x768 .f32) :
    List (View.Piece (Elt F) S512x512 .bf16) :=
  [⟨Rect.unit (s := S512x512) ![256, 384] S256x128.size inb_S512x512_S256x128_256_384,
      pairOut (View.ld q (Rect.unit (s := S512x512) ![256, 384] S256x128.size inb_S512x512_S256x128_256_384))
        (extractStridedSlice S768x128 ![256, 384] kc slices_S1024x512_o256_384_S768x128)
        (extractStridedSlice S768x128 ![256, 384] vc slices_S1024x512_o256_384_S768x128)
        (View.ld B (Rect.unit (s := S2x8x256x768) ![1, 6, 0, 0] S1x1x256x768.size inb_S2x8x256x768_S1x1x256x768_1_6_0_0))
        (View.ld B (Rect.unit (s := S2x8x256x768) ![1, 7, 0, 0] S1x1x256x768.size inb_S2x8x256x768_S1x1x256x768_1_7_0_0))⟩,
   ⟨Rect.unit (s := S512x512) ![256, 256] S256x128.size inb_S512x512_S256x128_256_256,
      pairOut (View.ld q (Rect.unit (s := S512x512) ![256, 256] S256x128.size inb_S512x512_S256x128_256_256))
        (extractStridedSlice S768x128 ![256, 256] kc slices_S1024x512_o256_256_S768x128)
        (extractStridedSlice S768x128 ![256, 256] vc slices_S1024x512_o256_256_S768x128)
        (View.ld B (Rect.unit (s := S2x8x256x768) ![1, 4, 0, 0] S1x1x256x768.size inb_S2x8x256x768_S1x1x256x768_1_4_0_0))
        (View.ld B (Rect.unit (s := S2x8x256x768) ![1, 5, 0, 0] S1x1x256x768.size inb_S2x8x256x768_S1x1x256x768_1_5_0_0))⟩,
   ⟨Rect.unit (s := S512x512) ![256, 128] S256x128.size inb_S512x512_S256x128_256_128,
      pairOut (View.ld q (Rect.unit (s := S512x512) ![256, 128] S256x128.size inb_S512x512_S256x128_256_128))
        (extractStridedSlice S768x128 ![256, 128] kc slices_S1024x512_o256_128_S768x128)
        (extractStridedSlice S768x128 ![256, 128] vc slices_S1024x512_o256_128_S768x128)
        (View.ld B (Rect.unit (s := S2x8x256x768) ![1, 2, 0, 0] S1x1x256x768.size inb_S2x8x256x768_S1x1x256x768_1_2_0_0))
        (View.ld B (Rect.unit (s := S2x8x256x768) ![1, 3, 0, 0] S1x1x256x768.size inb_S2x8x256x768_S1x1x256x768_1_3_0_0))⟩,
   ⟨Rect.unit (s := S512x512) ![256, 0] S256x128.size inb_S512x512_S256x128_256_0,
      pairOut (View.ld q (Rect.unit (s := S512x512) ![256, 0] S256x128.size inb_S512x512_S256x128_256_0))
        (extractStridedSlice S768x128 ![256, 0] kc slices_S1024x512_o256_0_S768x128)
        (extractStridedSlice S768x128 ![256, 0] vc slices_S1024x512_o256_0_S768x128)
        (View.ld B (Rect.unit (s := S2x8x256x768) ![1, 0, 0, 0] S1x1x256x768.size inb_S2x8x256x768_S1x1x256x768_1_0_0_0))
        (View.ld B (Rect.unit (s := S2x8x256x768) ![1, 1, 0, 0] S1x1x256x768.size inb_S2x8x256x768_S1x1x256x768_1_1_0_0))⟩,
   ⟨Rect.unit (s := S512x512) ![0, 384] S256x128.size inb_S512x512_S256x128_0_384,
      pairOut (View.ld q (Rect.unit (s := S512x512) ![0, 384] S256x128.size inb_S512x512_S256x128_0_384))
        (extractStridedSlice S768x128 ![0, 384] kc slices_S1024x512_o0_384_S768x128)
        (extractStridedSlice S768x128 ![0, 384] vc slices_S1024x512_o0_384_S768x128)
        (View.ld B (Rect.unit (s := S2x8x256x768) ![0, 6, 0, 0] S1x1x256x768.size inb_S2x8x256x768_S1x1x256x768_0_6_0_0))
        (View.ld B (Rect.unit (s := S2x8x256x768) ![0, 7, 0, 0] S1x1x256x768.size inb_S2x8x256x768_S1x1x256x768_0_7_0_0))⟩,
   ⟨Rect.unit (s := S512x512) ![0, 256] S256x128.size inb_S512x512_S256x128_0_256,
      pairOut (View.ld q (Rect.unit (s := S512x512) ![0, 256] S256x128.size inb_S512x512_S256x128_0_256))
        (extractStridedSlice S768x128 ![0, 256] kc slices_S1024x512_o0_256_S768x128)
        (extractStridedSlice S768x128 ![0, 256] vc slices_S1024x512_o0_256_S768x128)
        (View.ld B (Rect.unit (s := S2x8x256x768) ![0, 4, 0, 0] S1x1x256x768.size inb_S2x8x256x768_S1x1x256x768_0_4_0_0))
        (View.ld B (Rect.unit (s := S2x8x256x768) ![0, 5, 0, 0] S1x1x256x768.size inb_S2x8x256x768_S1x1x256x768_0_5_0_0))⟩,
   ⟨Rect.unit (s := S512x512) ![0, 128] S256x128.size inb_S512x512_S256x128_0_128,
      pairOut (View.ld q (Rect.unit (s := S512x512) ![0, 128] S256x128.size inb_S512x512_S256x128_0_128))
        (extractStridedSlice S768x128 ![0, 128] kc slices_S1024x512_o0_128_S768x128)
        (extractStridedSlice S768x128 ![0, 128] vc slices_S1024x512_o0_128_S768x128)
        (View.ld B (Rect.unit (s := S2x8x256x768) ![0, 2, 0, 0] S1x1x256x768.size inb_S2x8x256x768_S1x1x256x768_0_2_0_0))
        (View.ld B (Rect.unit (s := S2x8x256x768) ![0, 3, 0, 0] S1x1x256x768.size inb_S2x8x256x768_S1x1x256x768_0_3_0_0))⟩,
   ⟨Rect.unit (s := S512x512) ![0, 0] S256x128.size inb_S512x512_S256x128_0_0,
      pairOut (View.ld q (Rect.unit (s := S512x512) ![0, 0] S256x128.size inb_S512x512_S256x128_0_0))
        (extractStridedSlice S768x128 ![0, 0] kc slices_S1024x512_o0_0_S768x128)
        (extractStridedSlice S768x128 ![0, 0] vc slices_S1024x512_o0_0_S768x128)
        (View.ld B (Rect.unit (s := S2x8x256x768) ![0, 0, 0, 0] S1x1x256x768.size inb_S2x8x256x768_S1x1x256x768_0_0_0_0))
        (View.ld B (Rect.unit (s := S2x8x256x768) ![0, 1, 0, 0] S1x1x256x768.size inb_S2x8x256x768_S1x1x256x768_0_1_0_0))⟩]

/-- The output block of one point, from its queries, keys, values and table of biases. -/
def outBlock (q : Vec F S512x512 .bf16) (kc vc : FVec F S1024x512 .bf16) (B : Vec F S2x8x256x768 .f32) :
    Vec F S512x512 .bf16 := View.canon (outPieces q kc vc B)

/-- Reading a whole block through its full rectangle. -/
theorem ld_block (x : Vec F S512x512 .bf16) :
    View.ld x (Rect.unit (s := S512x512) ![0, 0] ![512, 512] inb_S512x512_S512x512_0_0) = x :=
  funext fun j => View.ld_unit_apply_of x _ _ _ j j (fun a => match a with
    | ⟨0, _⟩ => (Nat.zero_add _).symm
    | ⟨1, _⟩ => (Nat.zero_add _).symm)

/-- A point that reuses the table. -/
theorem outB (c : Dev nD) (t : Fin cfg0.N) (h0 : ¬t.val % 16 ≤ 1) (x0 x1 x2 x3 x4 : Vec F S512x512 .bf16)
    (x5 : Vec F S8x1024 .f32) (B : Vec F S2x8x256x768 .f32) :
    out0_B_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      (fun h => h0 ((hcond0_0 t).mp h)) x0 x1 x2 x3 x4 x5 B
      = outBlock x0 (twoBlocks x1 x2) (twoBlocks x3 x4) B := by
  unfold out0_B_6
  rw [View.read_writes_junk_eq_canon]
  unfold kernelRun0_B
  dsimp only
  sl_unfold_words
  simp only [View.readAt_eq_ld, (hs0_0 t).read_unread, (hs0_1 t).read_unread, (hs0_2 t).read_unread,
    (hs0_3 t).read_unread, (hs0_4 t).read_unread, (hs0_5 t).read_unread, (Memref.isWhole_whole _).read_unread, ld_block]
  rfl

/-- A point that builds the table: its output. -/
theorem outA (c : Dev nD) (t : Fin cfg0.N) (h0 : t.val % 16 ≤ 1) (x0 x1 x2 x3 x4 : Vec F S512x512 .bf16)
    (x5 : Vec F S8x1024 .f32) :
    out0_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      ((hcond0_0 t).mpr h0) x0 x1 x2 x3 x4 x5
      = outBlock x0 (twoBlocks x1 x2) (twoBlocks x3 x4) (table (BitVec.ofNat 32 (grid0.coords t 1).val) x5) := by
  unfold out0_A_6
  rw [View.read_writes_junk_eq_canon]
  unfold kernelRun0_A
  dsimp only
  sl_unfold_words
  simp only [View.readCov_eq_canon', View.readAt_eq_ld, (hs0_0 t).read_unread, (hs0_1 t).read_unread,
    (hs0_2 t).read_unread, (hs0_3 t).read_unread, (hs0_4 t).read_unread, (hs0_5 t).read_unread, ld_block]
  rfl

/-- A point that builds the table: the table. -/
theorem tableA (c : Dev nD) (t : Fin cfg0.N) (h0 : t.val % 16 ≤ 1) (x0 x1 x2 x3 x4 : Vec F S512x512 .bf16)
    (x5 : Vec F S8x1024 .f32) :
    sout0_A_0 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      ((hcond0_0 t).mpr h0) x0 x1 x2 x3 x4 x5
      = table (BitVec.ofNat 32 (grid0.coords t 1).val) x5 := by
  unfold sout0_A_0
  rw [View.read_writes_junk_eq_canon]
  unfold kernelRun0_A
  dsimp only
  sl_unfold_words
  simp only [View.readAt_eq_ld, (hs0_5 t).read_unread]
  rfl

end Cert.Proof.Attn
-- ==== Proof.AttnSoftmax.lean ====
/-
  The softmax of one query's row, in extended reals, computed two ways.

  The reference takes the row's scores `t j` over the keys of the band, subtracts their maximum, exponentiates, divides
  every weight by the sum of the weights, and sums the weighted values. The kernel keeps its scores in units of ln 2, on a
  wider row of keys that has −∞ outside the band; it takes powers of two, sums the weighted values and the weights, and
  divides once. `softmax_row` says the two agree whenever every score of the band is a real number or −∞ and one is real.
  Nothing is asked of the values.
-/
module

public import Mathlib.Data.EReal.Inv
public import Mathlib.Analysis.SpecialFunctions.Pow.Real
public import Idealize.ShloMosaic.PureOps.Ideal

@[expose] public section

noncomputable section

namespace Cert.Proof.Attn

open Idealize.ShloMosaic

/-- log₂ e, the factor between a score and the score in units of ln 2. -/
def log2e : EReal := (((Real.log 2)⁻¹ : ℝ) : EReal)

theorem log2_pos : (0 : ℝ) < (Real.log 2)⁻¹ := inv_pos.mpr (Real.log_pos one_lt_two)

/-- A power of two at a score in units of ln 2 is the exponential of the score. -/
theorem exp2_mul_log2e (x : EReal) : Ideal.exp2 (x * log2e) = Ideal.exp x := by
  unfold log2e
  induction x with
  | bot => rw [EReal.bot_mul_coe_of_pos log2_pos]; rfl
  | top => rw [EReal.top_mul_coe_of_pos log2_pos]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos two_pos, mul_comm r, ← mul_assoc, mul_inv_cancel₀ (Real.log_pos one_lt_two).ne', one_mul]

/-- Scaling a difference by log₂ e, when what is taken away is real. -/
theorem sub_mul_log2e (x : EReal) (r : ℝ) : x * log2e - (r : EReal) * log2e = (x - (r : EReal)) * log2e := by
  unfold log2e
  induction x with
  | bot => rw [EReal.bot_mul_coe_of_pos log2_pos, EReal.bot_sub, EReal.bot_sub, EReal.bot_mul_coe_of_pos log2_pos]
  | top =>
    rw [EReal.top_mul_coe_of_pos log2_pos, ← EReal.coe_mul, EReal.top_sub_coe, EReal.top_sub_coe,
      EReal.top_mul_coe_of_pos log2_pos]
  | coe y => rw [← EReal.coe_mul, ← EReal.coe_mul, ← EReal.coe_sub, ← EReal.coe_sub, ← EReal.coe_mul, sub_mul]

/-- A factor that is a nonnegative real goes inside a finite sum of extended reals. -/
theorem sum_mul_real {ι : Type*} (s : Finset ι) (f : ι → EReal) (a : ℝ) (ha : 0 ≤ a) :
    (∑ k ∈ s, f k) * (a : EReal) = ∑ k ∈ s, f k * (a : EReal) := by
  classical
  induction s using Finset.induction_on with
  | empty => simp
  | insert k s hk ih =>
    rw [Finset.sum_insert hk, Finset.sum_insert hk, ← ih]
    exact EReal.right_distrib_of_nonneg_of_ne_top (EReal.coe_nonneg.mpr ha) (EReal.coe_ne_top a) _ _

/-- A finite sum of reals, read in the extended reals. -/
theorem sum_coe_real {ι : Type*} (s : Finset ι) (f : ι → ℝ) :
    ∑ k ∈ s, ((f k : ℝ) : EReal) = ((∑ k ∈ s, f k : ℝ) : EReal) := by
  classical
  induction s using Finset.induction_on with
  | empty => simp
  | insert k s hk ih => rw [Finset.sum_insert hk, Finset.sum_insert hk, ih, EReal.coe_add]

/-- Folding the maximum from −∞ is the supremum. -/
theorem fold_max_eq_sup {n : ℕ} (f : Fin n → EReal) : Finset.univ.fold max ⊥ f = Finset.univ.sup f := rfl

variable {n N : ℕ}

/-- A row whose scores are real or −∞, one of them real, attains its maximum at a real score. -/
theorem sup_real (t : Fin n → EReal) (ht : ∀ j, t j ≠ ⊤) (j0 : Fin n) (h0 : t j0 ≠ ⊥) :
    ∃ (j1 : Fin n) (r : ℝ), t j1 = (r : EReal) ∧ Finset.univ.sup t = (r : EReal) := by
  obtain ⟨j1, -, h1⟩ := Finset.exists_mem_eq_sup Finset.univ ⟨j0, Finset.mem_univ j0⟩ t
  have hb : t j1 ≠ ⊥ := by
    intro hb
    have hle : t j0 ≤ Finset.univ.sup t := Finset.le_sup (Finset.mem_univ j0)
    rw [h1, hb] at hle
    exact h0 (le_bot_iff.mp hle)
  have hr := EReal.coe_toReal (ht j1) hb
  exact ⟨j1, (t j1).toReal, hr.symm, by rw [h1, hr]⟩

/-- The kernel's row — powers of two, one division — is the reference's: exponentials, every weight divided. `φ` sends a
    key of the band to its place on the kernel's wider row, which is −∞ elsewhere. -/
theorem softmax_row (φ : Fin n → Fin N) (hφ : Function.Injective φ) (t : Fin n → EReal) (ht : ∀ j, t j ≠ ⊤)
    (j0 : Fin n) (h0 : t j0 ≠ ⊥) (u : Fin N → EReal) (hu : ∀ j, u (φ j) = t j * log2e)
    (hu' : ∀ k, k ∉ Set.range φ → u k = ⊥) (v : Fin N → EReal) :
    Ideal.div (∑ k, Ideal.exp2 (u k - Finset.univ.sup u) * v k) (∑ k, Ideal.exp2 (u k - Finset.univ.sup u))
      = ∑ j, Ideal.div (Ideal.exp (t j - Finset.univ.sup t)) (∑ i, Ideal.exp (t i - Finset.univ.sup t)) * v (φ j) := by
  obtain ⟨j1, r, h1, hs⟩ := sup_real t ht j0 h0
  -- the maximum of the kernel's row
  have hsu : Finset.univ.sup u = (r : EReal) * log2e := by
    refine le_antisymm (Finset.sup_le fun k _ => ?_) ?_
    · by_cases hk : k ∈ Set.range φ
      · obtain ⟨j, rfl⟩ := hk
        rw [hu, ← hs]
        exact mul_le_mul_of_nonneg_right (Finset.le_sup (Finset.mem_univ j)) (EReal.coe_nonneg.mpr log2_pos.le)
      · rw [hu' k hk]; exact bot_le
    · rw [← h1, ← hu]; exact Finset.le_sup (Finset.mem_univ _)
  -- the weights of the kernel's row
  have he : ∀ j, Ideal.exp2 (u (φ j) - Finset.univ.sup u) = Ideal.exp (t j - (r : EReal)) := fun j => by
    rw [hu, hsu, sub_mul_log2e, exp2_mul_log2e]
  have he' : ∀ k, k ∉ Set.range φ → Ideal.exp2 (u k - Finset.univ.sup u) = 0 := fun k hk => by
    rw [hu' k hk, EReal.bot_sub]; rfl
  -- every weight is a real number
  have hw : ∀ j, ∃ w : ℝ, 0 ≤ w ∧ Ideal.exp (t j - (r : EReal)) = (w : EReal) := fun j => by
    by_cases hb : t j = ⊥
    · exact ⟨0, le_rfl, by rw [hb, EReal.bot_sub]; rfl⟩
    · refine ⟨Real.exp ((t j).toReal - r), (Real.exp_pos _).le, ?_⟩
      conv_lhs => rw [← EReal.coe_toReal (ht j) hb, ← EReal.coe_sub]
      rfl
  choose w hw0 hw using hw
  have hw1 : w j1 = 1 := by
    have h := hw j1
    rw [h1, ← EReal.coe_sub, sub_self] at h
    have h' : ((Real.exp 0 : ℝ) : EReal) = (w j1 : EReal) := h
    rw [Real.exp_zero] at h'
    exact_mod_cast h'.symm
  have hW : 0 < ∑ j, w j :=
    Finset.sum_pos' (fun j _ => hw0 j) ⟨j1, Finset.mem_univ _, by rw [hw1]; exact one_pos⟩
  have hden : (∑ k, Ideal.exp2 (u k - Finset.univ.sup u)) = ((∑ j, w j : ℝ) : EReal) := by
    rw [← sum_coe_real]
    refine (Fintype.sum_of_injective φ hφ _ _ (fun k hk => he' k hk) fun j => ?_).symm
    rw [he, hw]
  have hnum : (∑ k, Ideal.exp2 (u k - Finset.univ.sup u) * v k) = ∑ j, (w j : EReal) * v (φ j) := by
    refine (Fintype.sum_of_injective φ hφ _ _ (fun k hk => ?_) fun j => ?_).symm
    · rw [he' k hk, zero_mul]
    · rw [he, hw]
  have hdenR : (∑ i, Ideal.exp (t i - Finset.univ.sup t)) = ((∑ j, w j : ℝ) : EReal) := by
    rw [hs, ← sum_coe_real]; exact Finset.sum_congr rfl fun j _ => hw j
  have hdiv : ∀ x : EReal, Ideal.div x ((∑ j, w j : ℝ) : EReal) = x * (((∑ j, w j)⁻¹ : ℝ) : EReal) := fun x => by
    unfold Ideal.div
    rw [if_neg (by exact_mod_cast hW.ne'), EReal.coe_inv]
  rw [hden, hnum, hdiv, hdenR, sum_mul_real _ _ _ (inv_pos.mpr hW).le]
  refine Finset.sum_congr rfl fun j _ => ?_
  rw [hs, hw, hdiv, mul_assoc, mul_assoc, mul_comm (v (φ j))]

theorem exp_nonneg (x : EReal) : 0 ≤ Ideal.exp x := by
  induction x with
  | bot => exact le_rfl
  | top => exact le_top
  | coe r => exact EReal.coe_nonneg.mpr (Real.exp_pos r).le

/-- The weights of such a row do not sum to zero. -/
theorem weights_ne_zero (t : Fin n → EReal) (ht : ∀ j, t j ≠ ⊤) (j0 : Fin n) (h0 : t j0 ≠ ⊥) :
    ∑ i, Ideal.exp (t i - Finset.univ.sup t) ≠ 0 := by
  obtain ⟨j1, r, h1, hs⟩ := sup_real t ht j0 h0
  have hle : Ideal.exp (t j1 - Finset.univ.sup t) ≤ ∑ i, Ideal.exp (t i - Finset.univ.sup t) :=
    Finset.single_le_sum (f := fun i => Ideal.exp (t i - Finset.univ.sup t)) (fun i _ => exp_nonneg _) (Finset.mem_univ j1)
  have hone : Ideal.exp (t j1 - Finset.univ.sup t) = 1 := by
    rw [h1, hs, ← EReal.coe_sub, sub_self]
    show ((Real.exp 0 : ℝ) : EReal) = 1
    rw [Real.exp_zero]
    rfl
  rw [hone] at hle
  exact (lt_of_lt_of_le zero_lt_one hle).ne'

/-- The value a maximum starts from. -/
theorem sup_start : Idealize.ShloMosaic.Ideal.ofBits .f32 0xFF800000#32 = (⊥ : EReal) := by
  simp [Ideal.ofBits, Ideal.ieee]

end Cert.Proof.Attn
-- ==== Proof.AttnRead.lean ====
/-
  The attention kernel's arithmetic on one tile, read at an element.
-/
module

public import proofs.«01_k».proof.Proof.AttnTile
public import proofs.«01_k».proof.Proof.AttnSoftmax

@[expose] public section

set_option maxRecDepth 16384

noncomputable section

namespace Cert.Proof.Attn

open Idealize.ShloMosaic Idealize.ShloMosaic.Tactic Idealize.ShloMosaic.TcCoe
open Cert.AttnIdeal Cert.AttnIdeal.Gen
open scoped BigOperators

theorem loLanes_apply (a : Fin 1) (l : Fin 128) : loLanes (ix2 a l) = if l.val < 64 then 1#1 else 0#1 := by
  revert a l; decide

theorem hiLanes_apply (a : Fin 1) (l : Fin 128) : hiLanes (ix2 a l) = if l.val < 64 then 0#1 else 1#1 := by
  revert a l; decide

/-- A score: the pair's query row over the head's lanes times a key row, plus the bias. -/
theorem scores_apply (lanes : IVec S1x128 1) (qp : Vec Ideal S256x128 .bf16) (kt : FVec Ideal S768x128 .bf16)
    (b : Vec Ideal S1x1x256x768 .f32) (r : Fin 256) (k : Fin 768) :
    scores (F := Ideal) lanes qp kt b (ix2 r k)
      = (∑ l : Fin 128, if lanes (ix2 0 l) = 1#1 then qp (ix2 r l) * kt (ix2 k l) else 0) + b (ix4 0 0 r k) := by
  unfold scores
  pointwise
  rfl

/-- A weight: two to the score less the row's largest. -/
theorem weights_apply (s : FVec Ideal S256x768 .f32) (r : Fin 256) (k : Fin 768) :
    weights (F := Ideal) s (ix2 r k) = Ideal.exp2 (s (ix2 r k) - Finset.univ.sup fun k => s (ix2 r k)) := by
  unfold weights
  pointwise
  rw [sup_start, fold_max_eq_sup]
  rfl

/-- A masked value: the head's own lanes as they are, a one in lane `one`, zeros in the rest. -/
theorem maskedValues_apply (lanes : IVec S1x128 1) (one : BitVec 32) (vt : FVec Ideal S768x128 .bf16) (k : Fin 768)
    (l : Fin 128) :
    maskedValues (F := Ideal) lanes one vt (ix2 k l)
      = if lanes (ix2 0 l) = 1#1 then vt (ix2 k l) else if BitVec.ofNat 32 l.val = one then 1 else 0 := by
  unfold maskedValues
  pointwise
  unfold Scalar.select
  refine if_congr Iff.rfl rfl ?_
  by_cases h : BitVec.ofNat 32 l.val = one
  · rw [if_pos h, h]
    simp [IntOp.cmpi, FloatOps.sitofp]
  · rw [if_neg h]
    have hb : (BitVec.ofNat 32 l.val == one) = false := by simpa using h
    simp [IntOp.cmpi, FloatOps.sitofp, hb]

/-- Weighted values of one lane. -/
theorem weighted_apply (e : FVec Ideal S256x768 .bf16) (vh : FVec Ideal S768x128 .bf16) (r : Fin 256) (l : Fin 128) :
    weighted (F := Ideal) e vh (ix2 r l) = ∑ k : Fin 768, e (ix2 r k) * vh (ix2 k l) := by
  unfold weighted
  pointwise

/-- The first head's output in one of its own lanes. -/
theorem headLo_apply (e : FVec Ideal S256x768 .bf16) (vt : FVec Ideal S768x128 .bf16) (r : Fin 256) (l : Fin 128)
    (hl : l.val < 64) :
    headLo (F := Ideal) e vt (ix2 r l)
      = Ideal.div (∑ k : Fin 768, e (ix2 r k) * vt (ix2 k l)) (∑ k : Fin 768, e (ix2 r k)) := by
  unfold headLo
  pointwise
  have h64 : ¬(64 : Fin 128).val < 64 := by decide
  have h64' : BitVec.ofNat 32 (64 : Fin 128).val = 64#32 := by decide
  have h01 : ¬(0#1 = 1#1) := by decide
  simp only [weighted_apply, maskedValues_apply, loLanes_apply, hl, h64, h64', h01, if_true, if_false, mul_one]

/-- The second head's output in one of its own lanes. -/
theorem headHi_apply (e : FVec Ideal S256x768 .bf16) (vt : FVec Ideal S768x128 .bf16) (r : Fin 256) (l : Fin 128)
    (hl : ¬l.val < 64) :
    headHi (F := Ideal) e vt (ix2 r l)
      = Ideal.div (∑ k : Fin 768, e (ix2 r k) * vt (ix2 k l)) (∑ k : Fin 768, e (ix2 r k)) := by
  unfold headHi
  pointwise
  have h0 : (0 : Fin 128).val < 64 := by decide
  have h0' : BitVec.ofNat 32 (0 : Fin 128).val = 0#32 := by decide
  have h01 : ¬(0#1 = 1#1) := by decide
  simp only [weighted_apply, maskedValues_apply, hiLanes_apply, hl, h0, h0', h01, if_true, if_false, mul_one]

/-- The lanes of the head that lane `l` belongs to. -/
def sameHead (l x : Fin 128) : Prop := (l.val < 64 ↔ x.val < 64)

instance (l x : Fin 128) : Decidable (sameHead l x) := inferInstanceAs (Decidable (_ ↔ _))

/-- Scores of one tile row and head: `bias` is that head's row of biases. -/
def rowScore (qp : Vec Ideal S256x128 .bf16) (kt : FVec Ideal S768x128 .bf16) (bias : Fin 768 → EReal) (r : Fin 256)
    (l : Fin 128) (k : Fin 768) : EReal :=
  (∑ x : Fin 128, if sameHead l x then qp (ix2 r x) * kt (ix2 k x) else 0) + bias k

/-- One element of a tile: the weighted mean of the lane's values, weights two to the score less the largest. -/
theorem pairOut_apply (qp : Vec Ideal S256x128 .bf16) (kt vt : FVec Ideal S768x128 .bf16)
    (b0 b1 : Vec Ideal S1x1x256x768 .f32) (bias : Fin 768 → EReal) (r : Fin 256) (l : Fin 128)
    (hb : ∀ k, (if l.val < 64 then b0 else b1) (ix4 0 0 r k) = bias k) :
    pairOut (F := Ideal) qp kt vt b0 b1 (ix2 r l)
      = Ideal.div
          (∑ k : Fin 768, Ideal.exp2 (rowScore qp kt bias r l k - Finset.univ.sup (rowScore qp kt bias r l)) * vt (ix2 k l))
          (∑ k : Fin 768, Ideal.exp2 (rowScore qp kt bias r l k - Finset.univ.sup (rowScore qp kt bias r l))) := by
  have h01 : ¬(0#1 = 1#1) := by decide
  unfold pairOut
  pointwise
  by_cases hl : l.val < 64
  · have hs : ∀ k, scores (F := Ideal) loLanes qp kt b0 (ix2 r k) = rowScore qp kt bias r l k := by
      intro k
      rw [scores_apply, rowScore, ← hb k, if_pos hl]
      refine congrArg (· + _) (Finset.sum_congr rfl fun x _ => ?_)
      rw [loLanes_apply]
      by_cases hx : x.val < 64 <;> simp [sameHead, hl, hx]
    rw [loLanes_apply, if_pos hl]
    simp only [Scalar.select, headLo_apply _ _ r l hl, weights_apply, hs, if_true]
    rfl
  · have hs : ∀ k, scores (F := Ideal) hiLanes qp kt b1 (ix2 r k) = rowScore qp kt bias r l k := by
      intro k
      rw [scores_apply, rowScore, ← hb k, if_neg hl]
      refine congrArg (· + _) (Finset.sum_congr rfl fun x _ => ?_)
      rw [hiLanes_apply]
      by_cases hx : x.val < 64 <;> simp [sameHead, hl, hx]
    rw [loLanes_apply, if_neg hl]
    simp only [Scalar.select, headHi_apply _ _ r l hl, weights_apply, hs, h01, if_false]
    rfl

end Cert.Proof.Attn
-- ==== Proof.AttnBias.lean ====
/-
  The kernel's table of biases at an entry.
-/
module

public import proofs.«01_k».proof.Proof.AttnPoint
public import proofs.«01_k».proof.Proof.AttnRead
public import proofs.«01_k».proof.Proof.AttnSoftmax

@[expose] public section

set_option maxRecDepth 16384

noncomputable section

namespace Cert.Proof.Attn

open Idealize.ShloMosaic Idealize.ShloMosaic.Tactic Idealize.ShloMosaic.TcCoe
open Cert.AttnIdeal Cert.AttnIdeal.Gen

/-- The keys of a query's band among the tile's 768. -/
def inBand (r : Fin 256) (k : Fin 768) : Prop := r.val / 64 * 64 ≤ k.val ∧ k.val < r.val / 64 * 64 + 576

instance (r : Fin 256) (k : Fin 768) : Decidable (inBand r k) := inferInstanceAs (Decidable (_ ∧ _))

theorem named_log2e : (Named.named (F := Ideal) (φ := .f32) κ "log2e" 0x3FB8AA3B#32 : EReal) = log2e := by
  exact IdealRules.named_const.ideal_named_scalar _ _ _ _ rfl

theorem named_masked : (Named.named (F := Ideal) (φ := .f32) κ "masked" 0xFF7F0000#32 : EReal) = ⊥ := by
  exact IdealRules.named_const.ideal_named_scalar _ _ _ _ rfl

/-- A row over 64, rounded down, in words. -/
theorem floor_word : ∀ r : Fin 256, Scalar.select
    (IntOp.andi
      (IntOp.cmpi .ne
        (IntOp.subi (BitVec.setWidth 32 (IntOp.cmpi .sgt (BitVec.ofNat 32 r.val) 0#32))
          (BitVec.setWidth 32 (IntOp.cmpi .slt (BitVec.ofNat 32 r.val) 0#32)))
        (Scalar.subi (Scalar.extui (Scalar.cmpi .sgt 64#32 0#32)) (Scalar.extui (Scalar.cmpi .slt 64#32 0#32))))
      (IntOp.cmpi .ne (IntOp.remsi .vector (BitVec.ofNat 32 r.val) 64#32) 0#32))
    (IntOp.subi (IntOp.divsi .vector (BitVec.ofNat 32 r.val) 64#32) 1#32)
    (IntOp.divsi .vector (BitVec.ofNat 32 r.val) 64#32) = BitVec.ofNat 32 (r.val / 64) := by
  decide +kernel

theorem band_word : ∀ (b : Fin 4) (k : Fin 768),
    IntOp.andi (IntOp.cmpi .sge (BitVec.ofNat 32 k.val) (IntOp.muli (BitVec.ofNat 32 b.val) 64#32))
      (IntOp.cmpi .slt (BitVec.ofNat 32 k.val) (IntOp.addi (IntOp.muli (BitVec.ofNat 32 b.val) 64#32) 576#32))
      = if b.val * 64 ≤ k.val ∧ k.val < b.val * 64 + 576 then 1#1 else 0#1 := by
  decide +kernel

theorem bandMask_apply (r : Fin 256) (k : Fin 768) : k0_pay2 (ix2 r k) = if inBand r k then 1#1 else 0#1 := by
  unfold k0_pay2
  dsimp only
  pointwise
  rw [floor_word r]
  exact band_word ⟨r.val / 64, by omega⟩ k

/-- Whether a tile's key is past the start of its sequence, in words. -/
theorem start_word : ∀ (p : Fin 16) (tile : Fin 2) (k : Fin 768),
    IntOp.cmpi .sge (IntOp.addi (BitVec.ofNat 32 k.val)
        (Scalar.subi (Scalar.addi (Scalar.muli (BitVec.ofNat 32 p.val) 512#32) (BitVec.ofNat 32 (tile.val * 256))) 512#32)) 0#32
      = if 512 ≤ p.val * 512 + tile.val * 256 + k.val then 1#1 else 0#1 := by
  decide +kernel

/-- The bias of query `r` and key `k` of a tile: the head's row at `k - r`, in units of ln 2, −∞ outside the band and
    before the start of the sequence. -/
def tileBias (p : Fin 16) (tile : Fin 2) (row : Fin 1024 → EReal) (r : Fin 256) (k : Fin 768) : EReal :=
  if inBand r k ∧ 512 ≤ p.val * 512 + tile.val * 256 + k.val then
    row ⟨(k.val + 1024 - r.val) % 1024, by omega⟩ * log2e
  else ⊥

theorem biasTile_apply (p : Fin 16) (tile : Fin 2) (row : Vec Ideal S1x1024 .f32) (r : Fin 256) (k : Fin 768) :
    biasTile (F := Ideal) (BitVec.ofNat 32 p.val) (BitVec.ofNat 32 (tile.val * 256)) row (ix4 0 0 r k)
      = tileBias p tile (fun x => row (ix2 0 x)) r k := by
  unfold biasTile
  pointwise
  rw [start_word p tile k, bandMask_apply, named_masked]
  have e : row (ix2 0 ⟨(k.val + 1024 - r.val % 1024) % 1024, by omega⟩)
      = row (ix2 0 ⟨(k.val + 1024 - r.val) % 1024, by omega⟩) :=
    congrArg (fun x => row (ix2 0 x)) (Fin.ext (by show (k.val + 1024 - r.val % 1024) % 1024 = (k.val + 1024 - r.val) % 1024; omega))
  rw [e, named_log2e]
  unfold tileBias
  by_cases h1 : inBand r k <;> by_cases h2 : 512 ≤ p.val * 512 + tile.val * 256 + k.val
  · rw [if_pos h1, if_pos h2, if_pos ⟨h1, h2⟩]; rfl
  · rw [if_pos h1, if_neg h2, if_neg (fun h => h2 h.2)]; rfl
  · rw [if_neg h1, if_pos h2, if_neg (fun h => h1 h.1)]; rfl
  · rw [if_neg h1, if_neg h2, if_neg (fun h => h1 h.1)]; rfl

/-- One stored tile of the table, whatever row of the host's biases it reads. -/
theorem tile_piece (p : Fin 16) (tile : Fin 2) (h : Fin 8) (rb : Vec Ideal S8x1024 .f32) (off : BitVec 32)
    (row : Vec Ideal S1x1024 .f32) (r : Fin 256) (k : Fin 768) (x : S1x1x256x768.Idx)
    (hoff : off = BitVec.ofNat 32 (tile.val * 256)) (hrow : ∀ z, row (ix2 0 z) = rb (ix2 h z))
    (hr : r.val = (x 2).val) (hk : k.val = (x 3).val) :
    biasTile (F := Ideal) (BitVec.ofNat 32 p.val) off row x = tileBias p tile (fun z => rb (ix2 h z)) r k := by
  have hx0 : (x 0).val < 1 := (x 0).isLt
  have hx1 : (x 1).val < 1 := (x 1).isLt
  have hx : x = ix4 0 0 r k := funext fun a => Fin.ext (match a with
    | ⟨0, _⟩ => Nat.lt_one_iff.mp hx0
    | ⟨1, _⟩ => Nat.lt_one_iff.mp hx1
    | ⟨2, _⟩ => hr.symm
    | ⟨3, _⟩ => hk.symm)
  rw [hx, hoff, biasTile_apply]
  exact congrArg (fun f => tileBias p tile f r k) (funext hrow)

/-- The table at an entry. -/
theorem table_apply (p : Fin 16) (rb : Vec Ideal S8x1024 .f32) (tile : Fin 2) (h : Fin 8) (r : Fin 256) (k : Fin 768) :
    table (F := Ideal) (BitVec.ofNat 32 p.val) rb (ix4 tile h r k) = tileBias p tile (fun x => rb (ix2 h x)) r k := by
  unfold table tablePieces
  canon_tiles x e
  all_goals
    change tile.val = _ at e0
    change h.val = _ at e1
    refine tile_piece p tile h rb _ _ r k x ?_ (fun z => View.ld_unit_apply_of rb _ _ _ (ix2 0 z) (ix2 h z) ?_) e2 e3
    · first
        | have ht : tile.val = 0 := by omega
          exact (congrArg (fun t => BitVec.ofNat 32 (t * 256)) ht).symm
        | have ht : tile.val = 1 := by omega
          exact (congrArg (fun t => BitVec.ofNat 32 (t * 256)) ht).symm
    · have hx : (x 1).val = 0 := by omega
      intro a
      match a with
      | ⟨0, _⟩ =>
        first
          | rw [hx] at e1
            exact e1
          | exact (e1.trans hx).trans (Nat.zero_add 0).symm
      | ⟨1, _⟩ => exact (Nat.zero_add _).symm

end Cert.Proof.Attn
-- ==== Proof.AttnBlock.lean ====
/-
  The output block of one grid point at an element: the softmax of the query's scores over the 768 keys of its tile.
-/
module

public import proofs.«01_k».proof.Proof.AttnPoint
public import proofs.«01_k».proof.Proof.AttnRead

@[expose] public section

set_option maxRecDepth 16384

noncomputable section

namespace Cert.Proof.Attn

open Idealize.ShloMosaic Idealize.ShloMosaic.Tactic Idealize.ShloMosaic.TcCoe
open Cert.AttnIdeal Cert.AttnIdeal.Gen

/-- A pair's lanes of one head, numbered within the head. -/
theorem sum_sameHead (l : Fin 128) (f : Fin 128 → EReal) :
    (∑ x : Fin 128, if sameHead l x then f x else 0) = ∑ d : Fin 64, f ⟨l.val / 64 * 64 + d.val, by omega⟩ := by
  have hs := Fin.sum_univ_add (a := 64) (b := 64) (fun x : Fin (64 + 64) => if sameHead l x then f x else 0)
  refine hs.trans ?_
  by_cases hl : l.val < 64
  · have h1 : ∀ d : Fin 64, (if sameHead l (Fin.castAdd 64 d) then f (Fin.castAdd 64 d) else 0)
        = f ⟨l.val / 64 * 64 + d.val, by omega⟩ := by
      intro d
      have hs : sameHead l (Fin.castAdd 64 d) := ⟨fun _ => d.isLt, fun _ => hl⟩
      rw [if_pos hs]
      exact congrArg f (Fin.ext (by show d.val = l.val / 64 * 64 + d.val; omega))
    have h2 : ∀ d : Fin 64, (if sameHead l (Fin.natAdd 64 d) then f (Fin.natAdd 64 d) else 0) = 0 := by
      intro d
      exact if_neg (fun h : l.val < 64 ↔ 64 + d.val < 64 => by have := h.mp hl; omega)
    rw [Finset.sum_congr rfl fun d _ => h1 d, Finset.sum_congr rfl fun d _ => h2 d, Finset.sum_const_zero, add_zero]
  · have h1 : ∀ d : Fin 64, (if sameHead l (Fin.castAdd 64 d) then f (Fin.castAdd 64 d) else 0) = 0 := by
      intro d
      exact if_neg (fun h : l.val < 64 ↔ d.val < 64 => hl (h.mpr d.isLt))
    have h2 : ∀ d : Fin 64, (if sameHead l (Fin.natAdd 64 d) then f (Fin.natAdd 64 d) else 0)
        = f ⟨l.val / 64 * 64 + d.val, by omega⟩ := by
      intro d
      have hs : sameHead l (Fin.natAdd 64 d) :=
        ⟨fun h => absurd h hl, fun h => absurd (show 64 + d.val < 64 from h) (by omega)⟩
      rw [if_pos hs]
      exact congrArg f (Fin.ext (by show 64 + d.val = l.val / 64 * 64 + d.val; omega))
    rw [Finset.sum_congr rfl fun d _ => h1 d, Finset.sum_congr rfl fun d _ => h2 d, Finset.sum_const_zero, zero_add]

/-- The score of key `k` of the tile of block row `y`, for the head of lane `l`. -/
def blockScore (q : Vec Ideal S512x512 .bf16) (kc : FVec Ideal S1024x512 .bf16) (B : Vec Ideal S2x8x256x768 .f32)
    (y l : Fin 512) (k : Fin 768) : EReal :=
  (∑ d : Fin 64, q (ix2 y ⟨l.val / 64 * 64 + d.val, by omega⟩)
      * kc (ix2 ⟨y.val / 256 * 256 + k.val, by omega⟩ ⟨l.val / 64 * 64 + d.val, by omega⟩))
    + B (ix4 ⟨y.val / 256, by omega⟩ ⟨l.val / 64, by omega⟩ ⟨y.val % 256, by omega⟩ k)

/-- The output at block row `y`, lane `l`. -/
def blockOut (q : Vec Ideal S512x512 .bf16) (kc vc : FVec Ideal S1024x512 .bf16) (B : Vec Ideal S2x8x256x768 .f32)
    (y l : Fin 512) : EReal :=
  Ideal.div
    (∑ k : Fin 768, Ideal.exp2 (blockScore q kc B y l k - Finset.univ.sup (blockScore q kc B y l))
      * vc (ix2 ⟨y.val / 256 * 256 + k.val, by omega⟩ l))
    (∑ k : Fin 768, Ideal.exp2 (blockScore q kc B y l k - Finset.univ.sup (blockScore q kc B y l)))

/-- One stored piece of the output: tile `t0`, the pair of heads `h0` and `h1`. -/
theorem out_piece (q : Vec Ideal S512x512 .bf16) (kc vc : FVec Ideal S1024x512 .bf16) (B : Vec Ideal S2x8x256x768 .f32)
    (ro co t0 h0 h1 : ℕ) (hro : ro = t0 * 256) (hco : co = h0 * 64) (hh : h0 % 2 = 0) (h01 : h1 = h0 + 1)
    (i1 : ∀ a, ![ro, co] a + S256x128.size a ≤ S512x512.size a) (i2 : S1024x512.Slices ![ro, co] S768x128)
    (i3 : ∀ a, ![t0, h0, 0, 0] a + S1x1x256x768.size a ≤ S2x8x256x768.size a)
    (i4 : ∀ a, ![t0, h1, 0, 0] a + S1x1x256x768.size a ≤ S2x8x256x768.size a)
    (x : S256x128.Idx) (y l : Fin 512) (ey : y.val = ro + (x 0).val) (el : l.val = co + (x 1).val) :
    pairOut (F := Ideal) (View.ld q (Rect.unit (s := S512x512) ![ro, co] S256x128.size i1))
        (extractStridedSlice S768x128 ![ro, co] kc i2) (extractStridedSlice S768x128 ![ro, co] vc i2)
        (View.ld B (Rect.unit (s := S2x8x256x768) ![t0, h0, 0, 0] S1x1x256x768.size i3))
        (View.ld B (Rect.unit (s := S2x8x256x768) ![t0, h1, 0, 0] S1x1x256x768.size i4)) x
      = blockOut q kc vc B y l := by
  have hx0 : (x 0).val < 256 := (x 0).isLt
  have hx1 : (x 1).val < 128 := (x 1).isLt
  have hy := y.isLt
  have hl := l.isLt
  obtain ⟨r, z, rfl⟩ : ∃ (r : Fin 256) (z : Fin 128), x = ix2 r z := ⟨x 0, x 1, funext fun a => match a with
    | ⟨0, _⟩ => rfl
    | ⟨1, _⟩ => rfl⟩
  change y.val = ro + r.val at ey
  change l.val = co + z.val at el
  change r.val < 256 at hx0
  change z.val < 128 at hx1
  have hq : ∀ u : Fin 128, View.ld q (Rect.unit (s := S512x512) ![ro, co] S256x128.size i1) (ix2 r u)
      = q (ix2 y ⟨co + u.val, by omega⟩) := fun u =>
    View.ld_unit_apply_of q _ _ _ (ix2 r u) _ (fun a => match a with
      | ⟨0, _⟩ => ey
      | ⟨1, _⟩ => rfl)
  have hs : ∀ (w : FVec Ideal S1024x512 .bf16) (k : Fin 768) (u : Fin 128),
      extractStridedSlice S768x128 ![ro, co] w i2 (ix2 k u)
        = w (ix2 ⟨y.val / 256 * 256 + k.val, by omega⟩ ⟨co + u.val, by omega⟩) := fun w k u =>
    congrArg w (funext fun a => Fin.ext (match a with
      | ⟨0, _⟩ => by show ro + k.val = y.val / 256 * 256 + k.val; omega
      | ⟨1, _⟩ => rfl))
  have hb : ∀ k : Fin 768, (if z.val < 64
        then View.ld B (Rect.unit (s := S2x8x256x768) ![t0, h0, 0, 0] S1x1x256x768.size i3)
        else View.ld B (Rect.unit (s := S2x8x256x768) ![t0, h1, 0, 0] S1x1x256x768.size i4)) (ix4 0 0 r k)
      = B (ix4 ⟨y.val / 256, by omega⟩ ⟨l.val / 64, by omega⟩ ⟨y.val % 256, by omega⟩ k) := by
    intro k
    by_cases hz : z.val < 64
    · rw [if_pos hz]
      exact View.ld_unit_apply_of B _ _ _ (ix4 0 0 r k) _ (fun a => match a with
        | ⟨0, _⟩ => by show y.val / 256 = t0 + 0; omega
        | ⟨1, _⟩ => by show l.val / 64 = h0 + 0; omega
        | ⟨2, _⟩ => by show y.val % 256 = 0 + r.val; omega
        | ⟨3, _⟩ => (Nat.zero_add _).symm)
    · rw [if_neg hz]
      exact View.ld_unit_apply_of B _ _ _ (ix4 0 0 r k) _ (fun a => match a with
        | ⟨0, _⟩ => by show y.val / 256 = t0 + 0; omega
        | ⟨1, _⟩ => by show l.val / 64 = h1 + 0; omega
        | ⟨2, _⟩ => by show y.val % 256 = 0 + r.val; omega
        | ⟨3, _⟩ => (Nat.zero_add _).symm)
  rw [pairOut_apply _ _ _ _ _ _ r z hb]
  have hsc : rowScore (View.ld q (Rect.unit (s := S512x512) ![ro, co] S256x128.size i1))
      (extractStridedSlice S768x128 ![ro, co] kc i2)
      (fun k => B (ix4 ⟨y.val / 256, by omega⟩ ⟨l.val / 64, by omega⟩ ⟨y.val % 256, by omega⟩ k)) r z
      = blockScore q kc B y l := by
    funext k
    unfold rowScore blockScore
    refine congrArg (· + _) ((sum_sameHead z _).trans (Finset.sum_congr rfl fun d _ => ?_))
    rw [hq, hs]
    have e : co + (z.val / 64 * 64 + d.val) = l.val / 64 * 64 + d.val := by omega
    simp only [e]
  rw [hsc]
  unfold blockOut
  refine congrArg (Ideal.div · _) (Finset.sum_congr rfl fun k _ => congrArg (_ * ·) ((hs vc k z).trans ?_))
  exact congrArg (fun u => vc (ix2 ⟨y.val / 256 * 256 + k.val, by omega⟩ u)) (Fin.ext el.symm)

/-- The output block at an element. -/
theorem outBlock_apply (q : Vec Ideal S512x512 .bf16) (kc vc : FVec Ideal S1024x512 .bf16) (B : Vec Ideal S2x8x256x768 .f32)
    (y l : Fin 512) : outBlock (F := Ideal) q kc vc B (ix2 y l) = blockOut q kc vc B y l := by
  unfold outBlock outPieces
  canon_tiles x e
  all_goals
    change y.val = _ at e0
    change l.val = _ at e1
    refine out_piece q kc vc B _ _ _ _ _ (by decide) (by decide) (by decide) (by decide) _ _ _ _ x y l ?_ ?_
    · first
        | exact e0
        | exact e0.trans (Nat.zero_add _).symm
    · first
        | exact e1
        | exact e1.trans (Nat.zero_add _).symm

end Cert.Proof.Attn
-- ==== Proof.AttnHost.lean ====
/-
  What one grid point of the attention kernel reads, as rows of the arguments, and the table of biases it finds: point `t`
  is place `t % 16` of sequence `t / 16`, its queries are rows `512 t …` and its keys those rows and the 512 before.
-/
module

public import proofs.«01_k».proof.Proof.AttnBias
public import proofs.«01_k».proof.Proof.AttnBlock
public import Idealize.ShloMosaic.Lib.StableHlo.ReadAt

@[expose] public section

set_option maxRecDepth 16384

noncomputable section

namespace Cert.Proof.Attn

open Idealize.ShloMosaic Idealize.ShloMosaic.Tactic Idealize.ShloMosaic.TcCoe
open Cert.AttnIdeal Cert.AttnIdeal.Gen

variable (m : (ℓ : Loc nD τ sig) → Buf (Elt Ideal) ℓ) (c : Dev nD)

/-- The column of the relative biases that lane `x` of the kernel's row holds. -/
def rowCol (x : Fin 1024) : Fin 513 := ⟨if x.val < 256 ∨ 769 ≤ x.val then 512 else 768 - x.val, by split <;> omega⟩

/-- The kernel's row of biases, which the host lays out. -/
theorem row_apply (h : Fin 8) (x : Fin 1024) :
    V m c main_v4 (ix2 h x) = m ((c : Thread nD τ).loc main_arg3) (ix2 h (rowCol x)) := by
  have e1 : StableHlo.after (hostOps0.take 4) (fun b => m (c, b)) (Proc.devRef .tc main_v1)
      = broadcastInDim S8x256 ![0, 1] bcast_S8x1_S8x256_0_1
          (extractStridedSlice S8x1 ![0, 512] (m ((c : Thread nD τ).loc main_arg3)) slices_S8x513_S8x1_0_512) := by
    show StableHlo.after [_, _, _, _] _ _ = _
    after_results
  have e2 : StableHlo.after (hostOps0.take 4) (fun b => m (c, b)) (Proc.devRef .tc main_v2)
      = Host.reverse [1] (m ((c : Thread nD τ).loc main_arg3)) := by
    show StableHlo.after [_, _, _, _] _ _ = _
    after_results
  have e3 : StableHlo.after (hostOps0.take 4) (fun b => m (c, b)) (Proc.devRef .tc main_v3)
      = broadcastInDim S8x255 ![0, 1] bcast_S8x1_S8x255_0_1
          (extractStridedSlice S8x1 ![0, 512] (m ((c : Thread nD τ).loc main_arg3)) slices_S8x513_S8x1_0_512) := by
    show StableHlo.after [_, _, _, _] _ _ = _
    after_results
  have e : V m c main_v4 = concatenate S8x1024 1
      [⟨S8x256, StableHlo.after (hostOps0.take 4) (fun b => m (c, b)) (Proc.devRef .tc main_v1)⟩,
        ⟨S8x513, StableHlo.after (hostOps0.take 4) (fun b => m (c, b)) (Proc.devRef .tc main_v2)⟩,
        ⟨S8x255, StableHlo.after (hostOps0.take 4) (fun b => m (c, b)) (Proc.devRef .tc main_v3)⟩]
      concatenates_S8x256_S8x513_S8x255_S8x1024_d1 := by
    show StableHlo.after hostOps0 (fun b => m (c, b)) (Proc.devRef .tc main_v4) = _
    after_results
    rfl
  rw [e, e1, e2, e3]
  pointwise
  have hx := x.isLt
  unfold rowCol
  by_cases h1 : x.val < 256
  · rw [dif_pos h1]
    exact congrArg (fun z => m ((c : Thread nD τ).loc main_arg3) (ix2 h z)) (Fin.ext (if_pos (.inl h1)).symm)
  · by_cases h2 : x.val - 256 < 513
    · rw [dif_neg h1, dif_pos h2]
      refine congrArg (fun z => m ((c : Thread nD τ).loc main_arg3) (ix2 h z)) (Fin.ext ?_)
      show 513 - (x.val - 256 + 1) = if x.val < 256 ∨ 769 ≤ x.val then 512 else 768 - x.val
      rw [if_neg (by omega)]
      omega
    · rw [dif_neg h1, dif_neg h2]
      exact congrArg (fun z => m ((c : Thread nD τ).loc main_arg3) (ix2 h z))
        (Fin.ext (if_pos (.inr (by omega))).symm)

theorem index0 : ∀ t : Fin cfg0.N, win0_0.index t 0 = t.val ∧ win0_0.index t 1 = 0 := by decide +kernel
theorem index1 : ∀ t : Fin cfg0.N, win0_1.index t 0 = t.val / 16 * 16 + (t.val % 16 - 1) ∧ win0_1.index t 1 = 0 := by
  decide +kernel
theorem index2 : ∀ t : Fin cfg0.N, win0_2.index t 0 = t.val ∧ win0_2.index t 1 = 0 := by decide +kernel
theorem index3 : ∀ t : Fin cfg0.N, win0_3.index t 0 = t.val / 16 * 16 + (t.val % 16 - 1) ∧ win0_3.index t 1 = 0 := by
  decide +kernel
theorem index4 : ∀ t : Fin cfg0.N, win0_4.index t 0 = t.val ∧ win0_4.index t 1 = 0 := by decide +kernel
theorem index5 : ∀ t : Fin cfg0.N, win0_5.index t 0 = 0 ∧ win0_5.index t 1 = 0 := by decide +kernel

variable (t : Fin cfg0.N)

theorem t_lt : t.val < 64 := lt_of_lt_of_eq t.isLt N_0

theorem queries_apply (y l : Fin 512) (n : Fin 32768) (hn : n.val = t.val * 512 + y.val) :
    iblk m c 0 t (ix2 y l) = m ((c : Thread nD τ).loc main_arg0) (ix2 n l) := by
  rw [← V_main_arg0 m c]
  show V m c main_arg0 (((cfg0.win 0).blk t).view.emb (ix2 y l)) = _
  refine congrArg (V m c main_arg0) (funext fun a => Fin.ext ?_)
  obtain ⟨h0, h1⟩ := index0 t
  match a with
  | ⟨0, _⟩ => show win0_0.index t (0 : Fin 2) * 512 + 1 * y.val = n.val; rw [h0]; omega
  | ⟨1, _⟩ => show win0_0.index t (1 : Fin 2) * 512 + 1 * l.val = l.val; rw [h1]; omega

/-- The keys a point sees: row `u` of its 1024 is row `512 (t - 1) + u`, where that is in the point's sequence. -/
theorem keys_apply (u : Fin 1024) (l : Fin 512) (n : Fin 32768) (hn : n.val + 512 = t.val * 512 + u.val)
    (hs : 512 ≤ t.val % 16 * 512 + u.val) :
    twoBlocks (F := Ideal) (iblk m c 1 t) (iblk m c 2 t) (ix2 u l) = m ((c : Thread nD τ).loc main_arg1) (ix2 n l) := by
  unfold twoBlocks
  pointwise
  by_cases hu : u.val < 512
  · rw [dif_pos hu, ← V_main_arg1 m c]
    show V m c main_arg1 (((cfg0.win 1).blk t).view.emb (ix2 _ l)) = _
    refine congrArg (V m c main_arg1) (funext fun a => Fin.ext ?_)
    obtain ⟨h0, h1⟩ := index1 t
    match a with
    | ⟨0, _⟩ => show win0_1.index t (0 : Fin 2) * 512 + 1 * u.val = n.val; rw [h0]; omega
    | ⟨1, _⟩ => show win0_1.index t (1 : Fin 2) * 512 + 1 * l.val = l.val; rw [h1]; omega
  · rw [dif_neg hu, ← V_main_arg1 m c]
    show V m c main_arg1 (((cfg0.win 2).blk t).view.emb (ix2 _ l)) = _
    refine congrArg (V m c main_arg1) (funext fun a => Fin.ext ?_)
    obtain ⟨h0, h1⟩ := index2 t
    match a with
    | ⟨0, _⟩ => show win0_2.index t (0 : Fin 2) * 512 + 1 * (u.val - 512) = n.val; rw [h0]; omega
    | ⟨1, _⟩ => show win0_2.index t (1 : Fin 2) * 512 + 1 * l.val = l.val; rw [h1]; omega

/-- Every key a point holds is an element of the argument. -/
theorem keys_mem (u : Fin 1024) (l : Fin 512) :
    ∃ i, twoBlocks (F := Ideal) (iblk m c 1 t) (iblk m c 2 t) (ix2 u l) = m ((c : Thread nD τ).loc main_arg1) i := by
  unfold twoBlocks
  pointwise
  by_cases hu : u.val < 512
  · rw [dif_pos hu, ← V_main_arg1 m c]
    exact ⟨_, rfl⟩
  · rw [dif_neg hu, ← V_main_arg1 m c]
    exact ⟨_, rfl⟩

/-- The values a point sees, likewise. -/
theorem values_apply (u : Fin 1024) (l : Fin 512) (n : Fin 32768) (hn : n.val + 512 = t.val * 512 + u.val)
    (hs : 512 ≤ t.val % 16 * 512 + u.val) :
    twoBlocks (F := Ideal) (iblk m c 3 t) (iblk m c 4 t) (ix2 u l) = m ((c : Thread nD τ).loc main_arg2) (ix2 n l) := by
  unfold twoBlocks
  pointwise
  by_cases hu : u.val < 512
  · rw [dif_pos hu, ← V_main_arg2 m c]
    show V m c main_arg2 (((cfg0.win 3).blk t).view.emb (ix2 _ l)) = _
    refine congrArg (V m c main_arg2) (funext fun a => Fin.ext ?_)
    obtain ⟨h0, h1⟩ := index3 t
    match a with
    | ⟨0, _⟩ => show win0_3.index t (0 : Fin 2) * 512 + 1 * u.val = n.val; rw [h0]; omega
    | ⟨1, _⟩ => show win0_3.index t (1 : Fin 2) * 512 + 1 * l.val = l.val; rw [h1]; omega
  · rw [dif_neg hu, ← V_main_arg2 m c]
    show V m c main_arg2 (((cfg0.win 4).blk t).view.emb (ix2 _ l)) = _
    refine congrArg (V m c main_arg2) (funext fun a => Fin.ext ?_)
    obtain ⟨h0, h1⟩ := index4 t
    match a with
    | ⟨0, _⟩ => show win0_4.index t (0 : Fin 2) * 512 + 1 * (u.val - 512) = n.val; rw [h0]; omega
    | ⟨1, _⟩ => show win0_4.index t (1 : Fin 2) * 512 + 1 * l.val = l.val; rw [h1]; omega

theorem coords_place : ∀ t : Fin cfg0.N, (grid0.coords t 1).val = t.val % 16 := by decide +kernel

/-- The table does not change along a sequence past its first place. -/
theorem tileBias_later (p p' : Fin 16) (hp : 1 ≤ p.val) (hp' : 1 ≤ p'.val) (tile : Fin 2) (row : Fin 1024 → EReal)
    (r : Fin 256) (k : Fin 768) : tileBias p tile row r k = tileBias p' tile row r k := by
  unfold tileBias
  refine if_congr ?_ rfl rfl
  constructor <;> exact fun h => ⟨h.1, by omega⟩

/-- A point that reuses the table leaves it. -/
theorem tableB (c : Dev nD) (t : Fin cfg0.N) (h0 : ¬t.val % 16 ≤ 1) (x0 x1 x2 x3 x4 : Vec Ideal S512x512 .bf16)
    (x5 : Vec Ideal S8x1024 .f32) (B : Vec Ideal S2x8x256x768 .f32) :
    sout0_B_0 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      (fun h => h0 ((hcond0_0 t).mp h)) x0 x1 x2 x3 x4 x5 B = B := by
  unfold sout0_B_0
  rfl

theorem rows_block : iblk m c 5 t = V m c main_v4 := by
  funext i
  show V m c main_v4 (((cfg0.win 5).blk t).view.emb i) = _
  refine congrArg (V m c main_v4) (funext fun a => Fin.ext ?_)
  obtain ⟨h0, h1⟩ := index5 t
  match a with
  | ⟨0, _⟩ => show win0_5.index t (0 : Fin 2) * 8 + 1 * (i 0).val = (i 0).val; rw [h0]; omega
  | ⟨1, _⟩ => show win0_5.index t (1 : Fin 2) * 1024 + 1 * (i 1).val = (i 1).val; rw [h1]; omega

theorem fst_of_eq {α β : Type} {p : α × β} {a : α} {b : β} (h : p = (a, b)) : p.1 = a := by rw [h]

theorem snd_of_eq {α β : Type} {p : α × β} {a : α} {b : β} (h : p = (a, b)) : p.2 = b := by rw [h]

theorem scratchA (h0 : t.val % 16 ≤ 1) :
    (outsAt0 m c t.val t.isLt).2 = table (BitVec.ofNat 32 (t.val % 16)) (V m c main_v4) := by
  refine (snd_of_eq (outsAt0_A m c t h0)).trans ?_
  rw [tableA c t h0]
  rw [coords_place, rows_block]

theorem scratchB (h0 : ¬t.val % 16 ≤ 1) : (outsAt0 m c t.val t.isLt).2
    = (outsAt0 m c (t.val - 1) (Nat.lt_of_le_of_lt (Nat.sub_le _ _) t.isLt)).2 :=
  (snd_of_eq (outsAt0_B m c t h0)).trans (by rw [tableB c t h0])

/-- The table after each point. -/
theorem table_after : ∀ (n : ℕ) (hn : n < cfg0.N) (tile : Fin 2) (h : Fin 8) (r : Fin 256) (k : Fin 768),
    (outsAt0 m c n hn).2 (ix4 tile h r k)
      = tileBias ⟨n % 16, Nat.mod_lt _ (by decide)⟩ tile (fun x => V m c main_v4 (ix2 h x)) r k := by
  intro n
  induction n with
  | zero =>
    intro hn tile h r k
    exact (congrFun (scratchA m c ⟨0, hn⟩ (Nat.zero_le _)) _).trans (table_apply ⟨0, by decide⟩ _ tile h r k)
  | succ n ih =>
    intro hn tile h r k
    by_cases h0 : (n + 1) % 16 ≤ 1
    · exact (congrFun (scratchA m c ⟨n + 1, hn⟩ h0) _).trans
        (table_apply ⟨(n + 1) % 16, Nat.mod_lt _ (by decide)⟩ _ tile h r k)
    · refine (congrFun (scratchB m c ⟨n + 1, hn⟩ h0) _).trans ?_
      refine (ih (Nat.lt_of_succ_lt hn) tile h r k).trans (tileBias_later _ _ ?_ ?_ _ _ _ _)
      · show 1 ≤ n % 16; omega
      · show 1 ≤ (n + 1) % 16; omega

/-- What a point writes back, at block row `y` and lane `l`: the softmax over its tile, with the table of its place. -/
theorem block_apply (y l : Fin 512) :
    ∃ B : Vec Ideal S2x8x256x768 .f32,
      (∀ (tile : Fin 2) (h : Fin 8) (r : Fin 256) (k : Fin 768), B (ix4 tile h r k)
        = tileBias ⟨t.val % 16, Nat.mod_lt _ (by decide)⟩ tile (fun x => V m c main_v4 (ix2 h x)) r k) ∧
      (outsAt0 m c t.val t.isLt).1 (ix2 y l)
        = blockOut (iblk m c 0 t) (twoBlocks (F := Ideal) (iblk m c 1 t) (iblk m c 2 t))
            (twoBlocks (F := Ideal) (iblk m c 3 t) (iblk m c 4 t)) B y l := by
  by_cases h0 : t.val % 16 ≤ 1
  · refine ⟨_, table_apply ⟨t.val % 16, Nat.mod_lt _ (by decide)⟩ (V m c main_v4), ?_⟩
    refine (congrFun (fst_of_eq (outsAt0_A m c t h0)) _).trans ?_
    rw [outA c t h0, coords_place, rows_block]
    exact outBlock_apply _ _ _ _ y l
  · refine ⟨(outsAt0 m c t.val t.isLt).2, fun tile h r k => ?_, ?_⟩
    · exact table_after m c t.val t.isLt tile h r k
    · rw [scratchB m c t h0]
      refine (congrFun (fst_of_eq (outsAt0_B m c t h0)) _).trans ?_
      rw [outB c t h0]
      exact outBlock_apply _ _ _ _ y l

end Cert.Proof.Attn
-- ==== Proof.AttnRef.lean ====
/-
  The reference attention read at an element: a softmax over the 576 keys of the query's band.
-/
module

public import proofs.«01_k».proof.Proof.Gen.AttnRefIdeal.Read
public import Idealize.ShloMosaic.Lib.Pointwise
public import proofs.«01_k».proof.Proof.AttnSoftmax

@[expose] public section

set_option maxRecDepth 16384

noncomputable section

namespace Cert.Proof.AttnRef

open Idealize.ShloMosaic Idealize.ShloMosaic.Tactic Idealize.ShloMosaic.TcCoe Idealize.ShloMosaic.StableHlo
open Cert.AttnRefIdeal Cert.AttnRefIdeal.Gen Cert.AttnRefIdeal.Read
open Cert.Proof.Attn
open scoped BigOperators

variable {F : FTy → Type} [FloatOps F]

theorem toInt_small (n : ℕ) (h : n < 2 ^ 31) : (BitVec.ofNat 32 n).toInt = n := by
  rw [BitVec.toInt_eq_toNat_of_lt (by rw [BitVec.toNat_ofNat]; omega), BitVec.toNat_ofNat]
  omega

/-! ## The integer tables -/

/-- The padded chunk that band chunk `m` of chunk `c` is. -/
theorem chunk_val (c : Fin 128) (m : Fin 9) : val_main_v17 (F := F) (ix2 c m) = BitVec.ofNat 32 (c.val + m.val) := by
  rw [val_main_v17_apply, val_main_v15_apply, val_main_v16_apply, val_main_v12_apply, val_main_v14_apply,
    val_main_v11_apply, val_main_v13_apply]
  exact (BitVec.ofNat_add _ _).symm

theorem chunk_start (c : Fin 128) (m : Fin 9) :
    val_main_v23 (F := F) (ix3 c m (0 : Fin 1)) = BitVec.ofNat 32 (c.val + m.val) := by
  have h : idx_main_v23 (ix3 c m (0 : Fin 1)) = ix2 c m := funext fun a => match a with | ⟨0, _⟩ => rfl | ⟨1, _⟩ => rfl
  rw [val_main_v23_apply, h, val_main_v22_apply, val_main_v19_apply, val_main_v18_apply, val_main_c_1_apply, chunk_val]
  have hc := c.isLt
  have hm := m.isLt
  have h0 : BitVec.slt (BitVec.ofNat 32 (c.val + m.val)) 0#32 = false := by
    rw [BitVec.slt_eq_decide, toInt_small _ (by omega)]
    exact decide_eq_false (by have : (0#32).toInt = 0 := by decide
                              omega)
  simp [IntOp.cmpi, Scalar.select, h0]

theorem chunk_start' (c : Fin 128) (m : Fin 9) :
    val_main_v31 (F := F) (ix3 c m (0 : Fin 1)) = BitVec.ofNat 32 (c.val + m.val) := chunk_start c m

theorem chunk_valid (c : Fin 128) (m : Fin 9) :
    val_main_v57 (F := F) (ix2 c m) = if 8 ≤ c.val + m.val then 1#1 else 0#1 := by
  rw [val_main_v57_apply, val_main_v55_apply, val_main_v54_apply, val_main_c_11_apply, val_main_v56_apply, val_main_c_12_apply, chunk_val]
  have hc := c.isLt
  have hm := m.isLt
  have e : IntOp.subi (BitVec.ofNat 32 (c.val + m.val)) 8#32 = BitVec.ofInt 32 ((c.val + m.val : ℤ) - 8) := by
    simp only [IntOp.subi]
    apply BitVec.eq_of_toInt_eq
    rw [BitVec.toInt_sub, toInt_small _ (by omega), BitVec.toInt_ofInt]
    push_cast
    rfl
  have h8 : ((c.val + m.val : ℤ) - 8).bmod (2 ^ 32) = (c.val + m.val : ℤ) - 8 := by
    apply Int.bmod_eq_of_le <;> omega
  simp only [IntOp.cmpi, e, BitVec.sle_eq_decide, BitVec.toInt_ofInt, h8]
  by_cases h : 8 ≤ c.val + m.val
  · rw [if_pos h]
    have : (8 : ℤ) ≤ (c.val + m.val : ℤ) := by omega
    simp [this]
  · rw [if_neg h]
    have : ¬(8 : ℤ) ≤ (c.val + m.val : ℤ) := by omega
    simp [this]

/-- The bias column of query `q` and band key `j`. -/
def biasCol (q : Fin 64) (j : Fin 576) : Fin 513 := ⟨min (q.val + 768 - j.val) 512, by omega⟩

theorem bias_start (q : Fin 64) (j : Fin 576) :
    val_main_v52 (F := F) (ix3 q j (0 : Fin 1)) = BitVec.ofNat 32 (biasCol q j).val := by
  have h : idx_main_v52 (ix3 q j (0 : Fin 1)) = ix2 q j := funext fun a => match a with | ⟨0, _⟩ => rfl | ⟨1, _⟩ => rfl
  have h43 : val_main_v43 (F := F) (ix2 q j) = BitVec.ofNat 32 q.val + 512#32 - BitVec.ofNat 32 j.val := by
    rw [val_main_v43_apply, val_main_v41_apply, val_main_v40_apply, val_main_v36_apply, val_main_v35_apply, val_main_v39_apply,
      val_main_c_5_apply, val_main_v42_apply, val_main_v38_apply, val_main_v37_apply]
    rfl
  rw [val_main_v52_apply, h, val_main_v51_apply, val_main_v48_apply, val_main_v50_apply, val_main_v46_apply,
    val_main_v44_apply, val_main_v45_apply, val_main_v47_apply, val_main_v49_apply,
    val_main_c_8_apply, val_main_c_9_apply, val_main_c_10_apply, val_main_call2_v2_apply, val_main_call2_v1_apply,
    val_main_call2_v4_apply, val_main_call2_v0_apply, val_main_call2_v3_apply, val_main_c_6_apply, val_main_c_7_apply, h43]
  have hq := q.isLt
  have hj := j.isLt
  have hx : (BitVec.ofNat 32 q.val + 512#32 - BitVec.ofNat 32 j.val).toInt = (q.val : ℤ) + 512 - j.val := by
    have h512 : (512#32).toInt = 512 := by decide
    rw [BitVec.toInt_sub, BitVec.toInt_add, h512, toInt_small q.val (by omega), toInt_small j.val (by omega), Int.bmod_eq_of_le (n := (q.val : ℤ) + 512) (by omega) (by omega)]
    apply Int.bmod_eq_of_le <;> omega
  have hlo : (4294967040#32).toInt = -256 := by decide
  have hhi : (256#32).toInt = 256 := by decide
  generalize BitVec.ofNat 32 q.val + 512#32 - BitVec.ofNat 32 j.val = w at hx
  have hmax : (IntOp.maxsi 4294967040#32 w).toInt = (q.val : ℤ) + 512 - j.val := by
    unfold IntOp.maxsi
    simp only [BitVec.sle_eq_decide, BitVec.slt_eq_decide, hlo, hx]
    split <;> rename_i hh <;> simp at hh <;> omega
  generalize IntOp.maxsi 4294967040#32 w = w' at hmax
  have hmin : (IntOp.minsi 256#32 w').toInt = min 256 ((q.val : ℤ) + 512 - j.val) := by
    unfold IntOp.minsi
    simp only [BitVec.sle_eq_decide, BitVec.slt_eq_decide, hhi, hmax]
    split <;> rename_i hh <;> simp at hh <;> omega
  generalize IntOp.minsi 256#32 w' = w'' at hmin
  have hadd : IntOp.addi w'' 256#32 = BitVec.ofNat 32 (biasCol q j).val := by
    apply BitVec.eq_of_toInt_eq
    simp only [IntOp.addi]
    rw [BitVec.toInt_add, hmin, hhi, toInt_small _ (by have := (biasCol q j).isLt; omega)]
    rw [Int.bmod_eq_of_le (by omega) (by omega)]
    simp only [biasCol]
    omega
  rw [hadd]
  have h0 : BitVec.slt (BitVec.ofNat 32 (biasCol q j).val) 0#32 = false := by
    rw [BitVec.slt_eq_decide, toInt_small _ (by have := (biasCol q j).isLt; omega)]
    exact decide_eq_false (by have : (0#32).toInt = 0 := by decide
                              omega)
  simp [IntOp.cmpi, Scalar.select, h0]

/-! ## The gathers -/

theorem gather_band {α : Type} (x : S4x136x64x8x64.Idx → α) (s : IVec S128x9x1 32) (b : Fin 4) (c : Fin 128) (m : Fin 9)
    (r : Fin 64) (h : Fin 8) (d : Fin 64) (p : Fin 136) (hs : s (ix3 c m (0 : Fin 1)) = BitVec.ofNat 32 p.val) (j : S4x128x9x64x8x64.Idx)
    (h0 : (j 0).val = b.val) (h1 : (j 1).val = c.val) (h2 : (j 2).val = m.val) (h3 : (j 3).val = r.val) (h4 : (j 4).val = h.val) (h5 : (j 5).val = d.val) :
    Host.gather gather_S4x136x64x8x64_S128x9x1_S4x128x9x64x8x64_0345_1_n_n_1_2_4164864 x s j = x (ix5 b p r h d) := by
  unfold Host.gather
  refine congrArg x (funext fun a => Fin.ext ?_)
  match a with
  | ⟨0, _⟩ =>
    show GatherDims.start _ j s 0 + GatherDims.batchCoord _ j 0 + GatherDims.offCoord _ j 0 = _
    rw [GatherDims.batchCoord_eq_zero _ _ _ (by decide), Nat.add_zero]
    unfold GatherDims.start GatherDims.offCoord
    rw [dif_neg (by decide), dif_pos (by decide), Nat.zero_add]
    exact h0
  | ⟨1, _⟩ =>
    show GatherDims.start _ j s 1 + GatherDims.batchCoord _ j 1 + GatherDims.offCoord _ j 1 = _
    rw [GatherDims.batchCoord_eq_zero _ _ _ (by decide), GatherDims.offCoord_eq_zero _ _ _ (by decide)]
    unfold GatherDims.start
    have hm : (1 : Fin 5) ∈ gather_S4x136x64x8x64_S128x9x1_S4x128x9x64x8x64_0345_1_n_n_1_2_4164864.startIndexMap := by decide
    rw [dif_pos hm]
    have hsi : gather_S4x136x64x8x64_S128x9x1_S4x128x9x64x8x64_0345_1_n_n_1_2_4164864.siIdx j ⟨gather_S4x136x64x8x64_S128x9x1_S4x128x9x64x8x64_0345_1_n_n_1_2_4164864.startIndexMap.idxOf 1, List.idxOf_lt_length_iff.2 hm⟩ = ix3 c m (0 : Fin 1) := by
      funext a
      refine Fin.ext ?_
      match a with
      | ⟨0, _⟩ =>
        unfold GatherDims.siIdx
        rw [dif_neg (by show ¬(0 : ℕ) = 2; decide)]
        exact h1
      | ⟨1, _⟩ =>
        unfold GatherDims.siIdx
        rw [dif_neg (by show ¬(1 : ℕ) = 2; decide)]
        exact h2
      | ⟨2, _⟩ =>
        unfold GatherDims.siIdx
        rw [dif_pos (by show (2 : ℕ) = 2; decide)]
        rfl
    have hp := p.isLt
    rw [hsi, hs, toInt_small _ (by omega)]
    show min ((p.val : Int)).toNat (136 - 1) + 0 + 0 = p.val
    omega
  | ⟨2, _⟩ =>
    show GatherDims.start _ j s 2 + GatherDims.batchCoord _ j 2 + GatherDims.offCoord _ j 2 = _
    rw [GatherDims.batchCoord_eq_zero _ _ _ (by decide), Nat.add_zero]
    unfold GatherDims.start GatherDims.offCoord
    rw [dif_neg (by decide), dif_pos (by decide), Nat.zero_add]
    exact h3
  | ⟨3, _⟩ =>
    show GatherDims.start _ j s 3 + GatherDims.batchCoord _ j 3 + GatherDims.offCoord _ j 3 = _
    rw [GatherDims.batchCoord_eq_zero _ _ _ (by decide), Nat.add_zero]
    unfold GatherDims.start GatherDims.offCoord
    rw [dif_neg (by decide), dif_pos (by decide), Nat.zero_add]
    exact h4
  | ⟨4, _⟩ =>
    show GatherDims.start _ j s 4 + GatherDims.batchCoord _ j 4 + GatherDims.offCoord _ j 4 = _
    rw [GatherDims.batchCoord_eq_zero _ _ _ (by decide), Nat.add_zero]
    unfold GatherDims.start GatherDims.offCoord
    rw [dif_neg (by decide), dif_pos (by decide), Nat.zero_add]
    exact h5

theorem gather_bias {α : Type} (x : S8x513.Idx → α) (s : IVec S64x576x1 32) (h : Fin 8) (q : Fin 64) (k : Fin 576)
    (p : Fin 513) (hs : s (ix3 q k (0 : Fin 1)) = BitVec.ofNat 32 p.val) :
    Host.gather gather_S8x513_S64x576x1_S8x64x576_0_1_n_n_1_2_81 x s (ix3 h q k) = x (ix2 h p) := by
  unfold Host.gather
  refine congrArg x (funext fun a => Fin.ext ?_)
  match a with
  | ⟨0, _⟩ =>
    show GatherDims.start _ (ix3 h q k) s 0 + GatherDims.batchCoord _ (ix3 h q k) 0 + GatherDims.offCoord _ (ix3 h q k) 0 = _
    rw [GatherDims.batchCoord_eq_zero _ _ _ (by decide), Nat.add_zero]
    unfold GatherDims.start GatherDims.offCoord
    rw [dif_neg (by decide), dif_pos (by decide), Nat.zero_add]
    rfl
  | ⟨1, _⟩ =>
    show GatherDims.start _ (ix3 h q k) s 1 + GatherDims.batchCoord _ (ix3 h q k) 1 + GatherDims.offCoord _ (ix3 h q k) 1 = _
    rw [GatherDims.batchCoord_eq_zero _ _ _ (by decide), GatherDims.offCoord_eq_zero _ _ _ (by decide)]
    unfold GatherDims.start
    have hm : (1 : Fin 2) ∈ gather_S8x513_S64x576x1_S8x64x576_0_1_n_n_1_2_81.startIndexMap := by decide
    rw [dif_pos hm]
    have hsi : gather_S8x513_S64x576x1_S8x64x576_0_1_n_n_1_2_81.siIdx (ix3 h q k)
        ⟨gather_S8x513_S64x576x1_S8x64x576_0_1_n_n_1_2_81.startIndexMap.idxOf 1, List.idxOf_lt_length_iff.2 hm⟩
        = ix3 q k (0 : Fin 1) := by
      funext a
      refine Fin.ext ?_
      match a with
      | ⟨0, _⟩ =>
        unfold GatherDims.siIdx
        rw [dif_neg (by show ¬(0 : ℕ) = 2; decide)]
        rfl
      | ⟨1, _⟩ =>
        unfold GatherDims.siIdx
        rw [dif_neg (by show ¬(1 : ℕ) = 2; decide)]
        rfl
      | ⟨2, _⟩ =>
        unfold GatherDims.siIdx
        rw [dif_pos (by show (2 : ℕ) = 2; decide)]
        rfl
    have hp := p.isLt
    rw [hsi, hs, toInt_small _ (by omega)]
    show min ((p.val : Int)).toNat (513 - 1) + 0 + 0 = p.val
    omega

/-! ## Keys and values of the band -/

/-- Row `j` of the band of query row `n`, where there is one. -/
def bandRow (n : Fin 32768) (j : Fin 576) : Fin 32768 := ⟨n.val / 64 * 64 + j.val - 512, by omega⟩

/-- The band's row is inside the sequence. -/
def inSeq (n : Fin 32768) (j : Fin 576) : Prop := 512 ≤ n.val / 64 % 128 * 64 + j.val

instance (n : Fin 32768) (j : Fin 576) : Decidable (inSeq n j) := inferInstanceAs (Decidable (_ ≤ _))

/-- The lane of element `d` of head `h`. -/
def lane (h : Fin 8) (d : Fin 64) : Fin 512 := ⟨h.val * 64 + d.val, by omega⟩

/-- Rows by batch, chunk and place. -/
theorem rows_apply (x : Vec Ideal S32768x512 .bf16) (b : Fin 4) (c : Fin 128) (r : Fin 64) (h : Fin 8) (d : Fin 64)
    (n : Fin 32768) (hn : n.val = b.val * 8192 + c.val * 64 + r.val) :
    val_main_v6 (F := Ideal) x (ix5 b c r h d) = x (ix2 n (lane h d)) := by
  rw [val_main_v6_apply, val_main_v5_apply]
  refine congrArg x (funext fun a => Fin.ext ?_)
  match a with
  | ⟨0, _⟩ =>
    show ((((b.val * 128 + c.val) * 64 + r.val) * 8 + h.val) * 64 + d.val) / 512 = n.val
    omega
  | ⟨1, _⟩ =>
    show ((((b.val * 128 + c.val) * 64 + r.val) * 8 + h.val) * 64 + d.val) % 512 = h.val * 64 + d.val
    omega

theorem band_apply (x : Vec Ideal S32768x512 .bf16) (n : Fin 32768) (b : Fin 4) (c : Fin 128) (j : Fin 576) (h : Fin 8)
    (d : Fin 64) (hb : b.val = n.val / 8192) (hc : c.val = n.val / 64 % 128) (hv : inSeq n j) :
    val_main_v25 (F := Ideal) x (ix5 b c j h d) = x (ix2 (bandRow n j) (lane h d)) := by
  have hv' : 512 ≤ n.val / 64 % 128 * 64 + j.val := hv
  have hj := j.isLt
  have hcc := c.isLt
  unfold val_main_v25
  rw [Idealize.ShloMosaic.shapeCast_apply _ _ _ (fun a => match a with
    | ⟨0, _⟩ => b
    | ⟨1, _⟩ => c
    | ⟨2, _⟩ => (⟨j.val / 64, by omega⟩ : Fin 9)
    | ⟨3, _⟩ => (⟨j.val % 64, by omega⟩ : Fin 64)
    | ⟨4, _⟩ => h
    | ⟨5, _⟩ => d : S4x128x9x64x8x64.Idx)
    (by
      rw [Shape.rowMajor_val_five, Shape.rowMajor_val_six]
      show ((((b.val * 128 + c.val) * 9 + j.val / 64) * 64 + j.val % 64) * 8 + h.val) * 64 + d.val
        = (((b.val * 128 + c.val) * 576 + j.val) * 8 + h.val) * 64 + d.val
      omega)]
  unfold val_main_v24
  rw [gather_band _ _ b c ⟨j.val / 64, by omega⟩ ⟨j.val % 64, by omega⟩ h d ⟨c.val + j.val / 64, by omega⟩
    (chunk_start _ _) _ rfl rfl rfl rfl rfl rfl]
  unfold val_main_v7
  have hp : (8 ≤ c.val + j.val / 64 ∧ c.val + j.val / 64 - 8 < 128) ∧ j.val % 64 < 64 := by omega
  pointwise
  refine (dif_pos hp).trans ?_
  refine rows_apply x _ _ _ _ _ _ ?_
  show n.val / 64 * 64 + j.val - 512 = b.val * 8192 + (c.val + j.val / 64 - 8) * 64 + j.val % 64
  omega

/-- The score of band key `j`, −∞ before the start of the sequence. -/
def bandScore (q k : Vec Ideal S32768x512 .bf16) (rb : Vec Ideal S8x513 .f32) (n : Fin 32768) (h : Fin 8) (j : Fin 576) :
    EReal :=
  if inSeq n j then
    (∑ d : Fin 64, q (ix2 n (lane h d)) * Ideal.log 2 * k (ix2 (bandRow n j) (lane h d)))
      + rb (ix2 h (biasCol ⟨n.val % 64, by omega⟩ j))
  else ⊥

theorem two_bits : Ideal.ofBits .f32 0x40000000#32 = (2 : EReal) := by
  simp [Ideal.ofBits, Ideal.ieee]
  rw [← EReal.coe_mul]
  norm_num
  rfl

theorem score_apply (q k : Vec Ideal S32768x512 .bf16) (rb : Vec Ideal S8x513 .f32) (n : Fin 32768) (b : Fin 4)
    (c : Fin 128) (r : Fin 64) (h : Fin 8) (j : Fin 576)
    (hb : b.val = n.val / 8192) (hc : c.val = n.val / 64 % 128) (hr : r.val = n.val % 64) :
    val_main_v64 (F := Ideal) q k rb (ix5 b h c r j) = bandScore q k rb n h j := by
  have hj := j.isLt
  have hcc := c.isLt
  have h01 : ¬(0#1 = 1#1) := by decide
  have hmask : val_main_call3_v1 (F := Ideal) (ix5 b h c r j) = if inSeq n j then 1#1 else 0#1 := by
    rw [val_main_call3_v1_apply, val_main_v60_apply, val_main_v59_apply, val_main_v58_apply]
    have hi : idx_main_v58 (idx_main_v59 (idx_main_v60 (idx_main_call3_v1 (ix5 b h c r j)))) = ix2 c (⟨j.val / 64, by omega⟩ : Fin 9) :=
      funext fun a => Fin.ext (match a with
        | ⟨0, _⟩ => by show (c.val * 576 + j.val) / 576 = c.val; omega
        | ⟨1, _⟩ => by show (c.val * 576 + j.val) / 64 % 9 = j.val / 64; omega)
    rw [hi, chunk_valid]
    refine if_congr ?_ rfl rfl
    show 8 ≤ c.val + j.val / 64 ↔ 512 ≤ n.val / 64 % 128 * 64 + j.val
    omega
  rw [val_main_v64_apply, hmask]
  unfold bandScore
  by_cases hv : inSeq n j
  · rw [if_pos hv, if_pos hv]
    simp only [Scalar.select, if_true]
    rw [val_main_v63_apply, val_main_v34_apply, val_main_v62_apply, val_main_v61_apply]
    have hbias : idx_main_v61 (idx_main_v62 (ix5 b h c r j)) = ix3 h (⟨n.val % 64, by omega⟩ : Fin 64) j :=
      funext fun a => Fin.ext (match a with
        | ⟨0, _⟩ => rfl
        | ⟨1, _⟩ => hr
        | ⟨2, _⟩ => rfl)
    rw [hbias]
    unfold val_main_v53
    rw [gather_bias rb _ h _ j _ (bias_start _ _)]
    refine congrArg (· + _) (Finset.sum_congr rfl fun d _ => ?_)
    have hk : ridx_main_v34 (ix5 b h c r j) d = ix5 b c j h d :=
      funext fun a => match a with | ⟨0, _⟩ => rfl | ⟨1, _⟩ => rfl | ⟨2, _⟩ => rfl | ⟨3, _⟩ => rfl | ⟨4, _⟩ => rfl
    have hq : lidx_main_v34 (ix5 b h c r j) d = ix5 b c r h d :=
      funext fun a => match a with | ⟨0, _⟩ => rfl | ⟨1, _⟩ => rfl | ⟨2, _⟩ => rfl | ⟨3, _⟩ => rfl | ⟨4, _⟩ => rfl
    rw [hk, hq, band_apply k n b c j h d hb hc hv, val_main_v4_apply, val_main_v3_apply, val_main_v2_apply, val_main_cst_apply]
    have hrow : val_main_v1 (F := Ideal) q (ix5 b c r h d) = q (ix2 n (lane h d)) :=
      rows_apply q b c r h d n (by omega)
    rw [hrow]
    show q (ix2 n (lane h d)) * Ideal.log (Ideal.ofBits .f32 0x40000000#32) * _ = _
    rw [two_bits]
  · rw [if_neg hv, if_neg hv]
    simp only [Scalar.select, h01, if_false]
    rw [val_main_call3_v2_apply, val_main_call3_v0_apply, val_main_cst_13_apply]
    exact sup_start

/-- THE REFERENCE AT AN ELEMENT: the softmax of the band's scores, weighting the band's values. -/
theorem ref_apply (q k v : Vec Ideal S32768x512 .bf16) (rb : Vec Ideal S8x513 .f32) (n : Fin 32768) (h : Fin 8)
    (d : Fin 64) (vb : Fin 576 → EReal) (hvb : ∀ j, inSeq n j → vb j = v (ix2 (bandRow n j) (lane h d)))
    (hS : ∑ i : Fin 576, Ideal.exp (bandScore q k rb n h i - Finset.univ.sup (bandScore q k rb n h)) ≠ 0) :
    val_main_v79 (F := Ideal) q k v rb (ix2 n (lane h d))
      = ∑ j : Fin 576, Ideal.div (Ideal.exp (bandScore q k rb n h j - Finset.univ.sup (bandScore q k rb n h)))
          (∑ i : Fin 576, Ideal.exp (bandScore q k rb n h i - Finset.univ.sup (bandScore q k rb n h))) * vb j := by
  rw [val_main_v79_apply, val_main_v78_apply, val_main_v77_apply, val_main_v76_apply]
  have hn := n.isLt
  let b : Fin 4 := ⟨n.val / 8192, by omega⟩
  let c : Fin 128 := ⟨n.val / 64 % 128, by omega⟩
  let r : Fin 64 := ⟨n.val % 64, by omega⟩
  have hsc : ∀ j, val_main_v64 (F := Ideal) q k rb (ix5 b h c r j) = bandScore q k rb n h j :=
    fun j => score_apply q k rb n b c r h j rfl rfl rfl
  have hmax : val_main_v67 (F := Ideal) q k rb (ix4 b h c r) = Finset.univ.sup (bandScore q k rb n h) := by
    rw [val_main_v67_apply, val_main_v66_apply, val_main_cst_15_apply]
    unfold val_main_v65
    pointwise
    simp only [hsc]
    have hst : val_main_cst_14 (F := Ideal) (Shape.Idx.first h_S_) = ⊥ := sup_start
    rw [hst, sup_start, max_eq_right bot_le]
    exact fold_max_eq_sup _
  have hexp : ∀ j, val_main_v71 (F := Ideal) q k rb (ix5 b h c r j)
      = Ideal.exp (bandScore q k rb n h j - Finset.univ.sup (bandScore q k rb n h)) := by
    intro j
    rw [val_main_v71_apply, val_main_v70_apply, val_main_v69_apply, val_main_v68_apply, hsc]
    have hi : idx_main_v68 (idx_main_v69 (ix5 b h c r j)) = ix4 b h c r :=
      funext fun a => match a with | ⟨0, _⟩ => rfl | ⟨1, _⟩ => rfl | ⟨2, _⟩ => rfl | ⟨3, _⟩ => rfl
    rw [hi, hmax]
    rfl
  have hsum : val_main_v72 (F := Ideal) q k rb (ix4 b h c r)
      = ∑ i : Fin 576, Ideal.exp (bandScore q k rb n h i - Finset.univ.sup (bandScore q k rb n h)) := by
    rw [val_main_v72_apply, val_main_cst_16_apply]
    have hi : ∀ i, idx_main_v72 (ix4 b h c r) i = ix5 b h c r i := fun i =>
      funext fun a => match a with | ⟨0, _⟩ => rfl | ⟨1, _⟩ => rfl | ⟨2, _⟩ => rfl | ⟨3, _⟩ => rfl | ⟨4, _⟩ => rfl
    simp only [hi, hexp]
    refine (congrArg (· + _) ?_).trans (zero_add _)
    show Ideal.ofBits .f32 0#32 = 0
    simp [Ideal.ofBits, Ideal.ieee]
  refine Finset.sum_congr rfl fun j _ => ?_
  have hl : lidx_main_v76 (idx_main_v77 (idx_main_v78 (ix2 n (lane h d)))) j = ix5 b c j h d :=
    funext fun a => Fin.ext (match a with
      | ⟨0, _⟩ => by show (n.val * 512 + (h.val * 64 + d.val)) / 4194304 = n.val / 8192; omega
      | ⟨1, _⟩ => by show (n.val * 512 + (h.val * 64 + d.val)) / 32768 % 128 = n.val / 64 % 128; omega
      | ⟨2, _⟩ => rfl
      | ⟨3, _⟩ => by show (n.val * 512 + (h.val * 64 + d.val)) / 64 % 8 = h.val; omega
      | ⟨4, _⟩ => by show (n.val * 512 + (h.val * 64 + d.val)) % 64 = d.val; omega)
  have hrr : ridx_main_v76 (idx_main_v77 (idx_main_v78 (ix2 n (lane h d)))) j = ix5 b h c r j :=
    funext fun a => Fin.ext (match a with
      | ⟨0, _⟩ => by show (n.val * 512 + (h.val * 64 + d.val)) / 4194304 = n.val / 8192; omega
      | ⟨1, _⟩ => by show (n.val * 512 + (h.val * 64 + d.val)) / 64 % 8 = h.val; omega
      | ⟨2, _⟩ => by show (n.val * 512 + (h.val * 64 + d.val)) / 32768 % 128 = n.val / 64 % 128; omega
      | ⟨3, _⟩ => by show (n.val * 512 + (h.val * 64 + d.val)) / 512 % 64 = n.val % 64; omega
      | ⟨4, _⟩ => rfl)
  rw [hl, hrr, val_main_v75_apply, val_main_v74_apply, val_main_v73_apply, hexp]
  have hi : idx_main_v73 (idx_main_v74 (ix5 b h c r j)) = ix4 b h c r :=
    funext fun a => match a with | ⟨0, _⟩ => rfl | ⟨1, _⟩ => rfl | ⟨2, _⟩ => rfl | ⟨3, _⟩ => rfl
  rw [hi, hsum]
  rw [mul_comm]
  by_cases hv : inSeq n j
  · rw [hvb j hv]
    exact congrArg (_ * ·) (band_apply v n b c j h d rfl rfl hv)
  · have h0 : bandScore q k rb n h j = ⊥ := if_neg hv
    rw [h0]
    have hz : Ideal.exp (⊥ - Finset.univ.sup (bandScore q k rb n h)) = 0 := by
      rw [sub_eq_add_neg, EReal.bot_add]
      rfl
    have hd : ∀ y : EReal, y ≠ 0 → Ideal.div 0 y = 0 := by
      intro y hy
      unfold Ideal.div
      rw [if_neg hy, zero_mul]
    rw [hz, hd _ hS, zero_mul]
    show Ideal.div 0 _ * _ = _
    rw [hd _ hS, zero_mul]

end Cert.Proof.AttnRef
-- ==== Proof.AttnValue.lean ====
/-
  The attention kernel's result is the reference's, element by element, on real queries, keys and biases.
-/
module

public import proofs.«01_k».proof.Proof.AttnHost
public import proofs.«01_k».proof.Proof.AttnRef
public import proofs.«01_k».proof.Proof.AttnPre

@[expose] public section

set_option maxRecDepth 16384

noncomputable section

namespace Cert.Proof.Attn

open Idealize.ShloMosaic Idealize.ShloMosaic.Tactic Idealize.ShloMosaic.TcCoe
open Cert.AttnIdeal Cert.AttnIdeal.Gen
open Cert.Proof.AttnRef (lane biasCol bandRow inSeq bandScore)

/-- Every element is a real number. -/
def Reals {ι : Type} (x : ι → EReal) : Prop := ∀ i, ∃ r : ℝ, x i = (r : EReal)

section Row

variable (q k : Vec Ideal S32768x512 .bf16) (rb : Vec Ideal S8x513 .f32) (hq : Reals q) (hk : Reals k) (hb : Reals rb)
variable (n : Fin 32768) (h : Fin 8)

theorem log_two : Ideal.log 2 = ((Real.log 2 : ℝ) : EReal) :=
  (if_neg (by norm_num) : (if (2 : ℝ) ≤ 0 then (⊥ : EReal) else ((Real.log 2 : ℝ) : EReal)) = _)

include hq hk hb in
/-- A score inside the sequence is a real number, and log₂ e times it is the kernel's score. -/
theorem score_real (j : Fin 576) (hv : inSeq n j) :
    ∃ r : ℝ, bandScore q k rb n h j = (r : EReal) ∧
      (∑ d : Fin 64, q (ix2 n (lane h d)) * k (ix2 (bandRow n j) (lane h d)))
        + rb (ix2 h (biasCol ⟨n.val % 64, by omega⟩ j)) * log2e = (r : EReal) * log2e := by
  choose q' hq' using hq
  choose k' hk' using hk
  choose b' hb' using hb
  refine ⟨(∑ d : Fin 64, q' (ix2 n (lane h d)) * Real.log 2 * k' (ix2 (bandRow n j) (lane h d)))
    + b' (ix2 h (biasCol ⟨n.val % 64, by omega⟩ j)), ?_, ?_⟩
  · unfold bandScore
    rw [if_pos hv, EReal.coe_add, ← hb', ← sum_coe_real]
    refine congrArg (· + _) (Finset.sum_congr rfl fun d _ => ?_)
    rw [hq', hk', log_two, EReal.coe_mul, EReal.coe_mul]
  · unfold log2e
    rw [hb', ← EReal.coe_mul, ← EReal.coe_mul, add_mul, EReal.coe_add, Finset.sum_mul, ← sum_coe_real]
    refine congrArg (· + _) (Finset.sum_congr rfl fun d _ => ?_)
    rw [hq', hk', ← EReal.coe_mul]
    refine congrArg _ ?_
    have hl : Real.log 2 ≠ 0 := (Real.log_pos one_lt_two).ne'
    field_simp

include hq hk hb in
theorem score_ne_top (j : Fin 576) : bandScore q k rb n h j ≠ ⊤ := by
  by_cases hv : inSeq n j
  · obtain ⟨r, hr, -⟩ := score_real q k rb hq hk hb n h j hv
    rw [hr]
    exact EReal.coe_ne_top r
  · unfold bandScore
    rw [if_neg hv]
    exact bot_ne_top

include hq hk hb in
/-- The first key of a query's own chunk is inside the sequence. -/
theorem score_ne_bot : bandScore q k rb n h ⟨512, by decide⟩ ≠ ⊥ := by
  have hv : inSeq n ⟨512, by decide⟩ := by show 512 ≤ n.val / 64 % 128 * 64 + 512; omega
  obtain ⟨r, hr, -⟩ := score_real q k rb hq hk hb n h _ hv
  rw [hr]
  exact EReal.coe_ne_bot r

end Row

variable (m : (ℓ : Loc nD τ sig) → Buf (Elt Ideal) ℓ) (c : Dev nD)

/-- One element of what point `t` writes back is the reference's. -/
theorem point_eq (hq : Reals (m ((c : Thread nD τ).loc main_arg0))) (hk : Reals (m ((c : Thread nD τ).loc main_arg1)))
    (hb : Reals (m ((c : Thread nD τ).loc main_arg3))) (t : Fin cfg0.N) (y l : Fin 512) (n : Fin 32768)
    (hn : n.val = t.val * 512 + y.val) :
    (outsAt0 m c t.val t.isLt).1 (ix2 y l)
      = Cert.AttnRefIdeal.Read.val_main_v79 (F := Ideal) (m ((c : Thread nD τ).loc main_arg0)) (m ((c : Thread nD τ).loc main_arg1))
          (m ((c : Thread nD τ).loc main_arg2)) (m ((c : Thread nD τ).loc main_arg3)) (ix2 n l) := by
  have ht := t_lt t
  have hy := y.isLt
  have hl := l.isLt
  obtain ⟨B, hB, e⟩ := block_apply m c t y l
  rw [e]
  generalize hqa : m ((c : Thread nD τ).loc main_arg0) = q at *
  generalize hka : m ((c : Thread nD τ).loc main_arg1) = k at *
  generalize hba : m ((c : Thread nD τ).loc main_arg3) = rb at *
  let h : Fin 8 := ⟨l.val / 64, by omega⟩
  let d : Fin 64 := ⟨l.val % 64, by omega⟩
  have hld : lane h d = l := Fin.ext (by show l.val / 64 * 64 + l.val % 64 = l.val; omega)
  let r : Fin 256 := ⟨y.val % 256, by omega⟩
  let φ : Fin 576 → Fin 768 := fun j => ⟨j.val + 64 * (y.val % 256 / 64), by omega⟩
  have hφv : ∀ j, (φ j).val = j.val + 64 * (y.val % 256 / 64) := fun _ => rfl
  have hφ : Function.Injective φ := fun i j hij => Fin.ext (by
    have := congrArg Fin.val hij
    rw [hφv, hφv] at this
    omega)
  have hseq : ∀ j, inSeq n j ↔ 512 ≤ t.val % 16 * 512 + y.val / 256 * 256 + (φ j).val := by
    intro j
    rw [hφv]
    show 512 ≤ n.val / 64 % 128 * 64 + j.val ↔ _
    omega
  have hbias : ∀ x : Fin 768, B (ix4 ⟨y.val / 256, by omega⟩ ⟨l.val / 64, by omega⟩ ⟨y.val % 256, by omega⟩ x)
      = tileBias ⟨t.val % 16, Nat.mod_lt _ (by decide)⟩ ⟨y.val / 256, by omega⟩ (fun z => rb (ix2 h (rowCol z))) r x := by
    intro x
    rw [hB]
    refine congrArg (fun f => tileBias _ _ f _ _) (funext fun z => ?_)
    rw [row_apply, hba]
  have hu : ∀ j, blockScore (iblk m c 0 t) (twoBlocks (F := Ideal) (iblk m c 1 t) (iblk m c 2 t)) B y l (φ j)
      = bandScore q k rb n h j * log2e := by
    intro j
    have hj := j.isLt
    unfold blockScore
    rw [hbias]
    unfold tileBias
    by_cases hv : inSeq n j
    · have hs := (hseq j).mp hv
      obtain ⟨s, hs1, hs2⟩ := score_real q k rb hq hk hb n h j hv
      rw [hs1, ← hs2, if_pos ⟨(by
        show y.val % 256 / 64 * 64 ≤ (φ j).val ∧ (φ j).val < y.val % 256 / 64 * 64 + 576
        rw [hφv]; omega), hs⟩]
      congr 1
      · refine Finset.sum_congr rfl fun z _ => ?_
        rw [queries_apply m c t y _ n hn, keys_apply m c t _ _ (bandRow n j) (by
          show n.val / 64 * 64 + j.val - 512 + 512 = t.val * 512 + (y.val / 256 * 256 + (φ j).val)
          rw [hφv] at hs ⊢; omega) (by
          show 512 ≤ t.val % 16 * 512 + (y.val / 256 * 256 + (φ j).val)
          omega), hqa, hka]
        rfl
      · refine congrArg (fun z : EReal => z * log2e) (congrArg (fun z => rb (ix2 h z)) (Fin.ext ?_))
        show (if ((φ j).val + 1024 - y.val % 256) % 1024 < 256 ∨ 769 ≤ ((φ j).val + 1024 - y.val % 256) % 1024 then 512
          else 768 - ((φ j).val + 1024 - y.val % 256) % 1024) = min (n.val % 64 + 768 - j.val) 512
        rw [hφv]
        split <;> omega
    · have hnb : ¬(inBand r (φ j) ∧ 512 ≤ t.val % 16 * 512 + y.val / 256 * 256 + (φ j).val) :=
        fun hh => hv ((hseq j).mpr hh.2)
      rw [if_neg hnb, EReal.add_bot]
      unfold bandScore log2e
      rw [if_neg hv, EReal.bot_mul_coe_of_pos log2_pos]
  have hu' : ∀ x, x ∉ Set.range φ →
      blockScore (iblk m c 0 t) (twoBlocks (F := Ideal) (iblk m c 1 t) (iblk m c 2 t)) B y l x = ⊥ := by
    intro x hx
    unfold blockScore
    rw [hbias]
    unfold tileBias
    rw [if_neg, EReal.add_bot]
    rintro ⟨⟨h1, h2⟩, -⟩
    change y.val % 256 / 64 * 64 ≤ x.val at h1
    change x.val < y.val % 256 / 64 * 64 + 576 at h2
    exact hx ⟨⟨x.val - 64 * (y.val % 256 / 64), by omega⟩, Fin.ext (by rw [hφv]; show x.val - 64 * (y.val % 256 / 64) + 64 * (y.val % 256 / 64) = x.val; omega)⟩
  unfold blockOut
  rw [softmax_row φ hφ (bandScore q k rb n h) (score_ne_top q k rb hq hk hb n h) ⟨512, by decide⟩
    (score_ne_bot q k rb hq hk hb n h) _ hu hu'
    (fun x => twoBlocks (F := Ideal) (iblk m c 3 t) (iblk m c 4 t) (ix2 ⟨y.val / 256 * 256 + x.val, by omega⟩ l))]
  rw [congrArg (ix2 n) hld.symm]
  refine (Cert.Proof.AttnRef.ref_apply q k _ rb n h d _ (fun j hv => ?_)
    (weights_ne_zero _ (score_ne_top q k rb hq hk hb n h) ⟨512, by decide⟩ (score_ne_bot q k rb hq hk hb n h))).symm
  have hs := (hseq j).mp hv
  rw [hld]
  exact values_apply m c t _ l (bandRow n j) (by
    show n.val / 64 * 64 + j.val - 512 + 512 = t.val * 512 + (y.val / 256 * 256 + (φ j).val)
    rw [hφv] at hs ⊢; omega) (by
    show 512 ≤ t.val % 16 * 512 + (y.val / 256 * 256 + (φ j).val)
    omega)

/-- The whole result. -/
theorem result_eq (hq : Reals (m ((c : Thread nD τ).loc main_arg0))) (hk : Reals (m ((c : Thread nD τ).loc main_arg1)))
    (hb : Reals (m ((c : Thread nD τ).loc main_arg3))) :
    Cert.AttnIdeal.Value.G6 m c
      = Cert.AttnRefIdeal.Read.val_main_v79 (F := Ideal) (m ((c : Thread nD τ).loc main_arg0)) (m ((c : Thread nD τ).loc main_arg1))
          (m ((c : Thread nD τ).loc main_arg2)) (m ((c : Thread nD τ).loc main_arg3)) := by
  funext i
  obtain ⟨n, l, rfl⟩ : ∃ (n : Fin 32768) (l : Fin 512), i = ix2 n l := ⟨i 0, i 1, funext fun a => match a with
    | ⟨0, _⟩ => rfl
    | ⟨1, _⟩ => rfl⟩
  have hn := n.isLt
  have hl := l.isLt
  have hp : Cert.AttnIdeal.Value.pt6Of (ix2 n l) = n.val / 512 := by
    show 1 * (n.val / 512 - 0) + 1 * (l.val / 512 - 0) = n.val / 512
    omega
  have hN : n.val / 512 < cfg0.N := lt_of_lt_of_eq (by omega) N_0.symm
  have hloc : Cert.AttnIdeal.Value.loc6Of (ix2 n l) = ix2 ⟨n.val % 512, by omega⟩ l := funext fun a => Fin.ext (match a with
    | ⟨0, _⟩ => rfl
    | ⟨1, _⟩ => Nat.mod_eq_of_lt hl)
  unfold Cert.AttnIdeal.Value.G6
  rw [dif_pos (hp ▸ hN), hloc, Cert.AttnIdeal.Value.fold0_congr m c _ _ (n.val / 512) (by rw [Nat.zero_add]; exact hN) hp,
    ← Cert.AttnIdeal.Value.outsAt0_sweep m c (n.val / 512) hN]
  exact point_eq m c hq hk hb ⟨n.val / 512, hN⟩ ⟨n.val % 512, by omega⟩ l n (by show n.val = n.val / 512 * 512 + n.val % 512; omega)

end Cert.Proof.Attn
-- ==== Proof.FfnHost.lean ====
/-
  What one grid point of the second-half kernel reads, as elements of the arguments: point `t` has rows `1024 t …` of the
  streams, and the whole of the first layer's weights and gains.
-/
module

public import proofs.«01_k».proof.Proof.Gen.FfnIdeal.Value
public import Idealize.ShloMosaic.Lib.StableHlo.ReadAt
public import Idealize.ShloMosaic.Lib.Pointwise

@[expose] public section

set_option maxRecDepth 16384

noncomputable section

namespace Cert.Proof.Ffn

open Idealize.ShloMosaic Idealize.ShloMosaic.Tactic Idealize.ShloMosaic.TcCoe
open Cert.FfnIdeal Cert.FfnIdeal.Gen

variable (m : (ℓ : Loc nD τ sig) → Buf (Elt Ideal) ℓ) (c : Dev nD)

theorem mixerGains_apply (k : Fin 1024) :
    V m c main_v0 (ix3 0 0 k) = m ((c : Thread nD τ).loc main_arg4) (ix2 0 k) := by
  show StableHlo.after hostOps0 (fun b => m (c, b)) (Proc.devRef .tc main_v0) _ = _
  after_results
  pointwise

theorem inGains_apply (k : Fin 1024) :
    V m c main_v1 (ix3 0 0 k) = m ((c : Thread nD τ).loc main_arg5) (ix2 0 k) := by
  show StableHlo.after hostOps0 (fun b => m (c, b)) (Proc.devRef .tc main_v1) _ = _
  after_results
  pointwise

theorem outGains_apply (k : Fin 1024) :
    V m c main_v2 (ix3 0 0 k) = m ((c : Thread nD τ).loc main_arg6) (ix2 0 k) := by
  show StableHlo.after hostOps0 (fun b => m (c, b)) (Proc.devRef .tc main_v2) _ = _
  after_results
  pointwise

theorem wOut_eq : V m c main_v3 = m ((c : Thread nD τ).loc main_arg3) := by
  show StableHlo.after hostOps0 (fun b => m (c, b)) (Proc.devRef .tc main_v3) = _
  after_results
  rfl

theorem wGate_eq : V m c main_v4 = m ((c : Thread nD τ).loc main_arg7) := by
  show StableHlo.after hostOps0 (fun b => m (c, b)) (Proc.devRef .tc main_v4) = _
  after_results
  rfl

theorem wUp_eq : V m c main_v5 = m ((c : Thread nD τ).loc main_arg8) := by
  show StableHlo.after hostOps0 (fun b => m (c, b)) (Proc.devRef .tc main_v5) = _
  after_results
  rfl

theorem wDown_eq : V m c main_v6 = m ((c : Thread nD τ).loc main_arg9) := by
  show StableHlo.after hostOps0 (fun b => m (c, b)) (Proc.devRef .tc main_v6) = _
  after_results
  rfl

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = 0 ∧ win0_3.index t 1 = 0 ∧ win0_3.index t 2 = 0 := by decide +kernel
theorem index4 : ∀ t : Fin cfg0.N, win0_4.index t 0 = 0 ∧ win0_4.index t 1 = 1 ∧ win0_4.index t 2 = 0 := by decide +kernel
theorem index5 : ∀ t : Fin cfg0.N, win0_5.index t 0 = 0 ∧ win0_5.index t 1 = 0 ∧ win0_5.index t 2 = 0 := by decide +kernel
theorem index6 : ∀ t : Fin cfg0.N, win0_6.index t 0 = 0 ∧ win0_6.index t 1 = 0 ∧ win0_6.index t 2 = 0 := by decide +kernel
theorem index7 : ∀ t : Fin cfg0.N, win0_7.index t 0 = 0 ∧ win0_7.index t 1 = 0 ∧ win0_7.index t 2 = 0 := by decide +kernel
theorem index8 : ∀ t : Fin cfg0.N, win0_8.index t 0 = 0 ∧ win0_8.index t 1 = 0 ∧ win0_8.index t 2 = 0 := by decide +kernel
theorem index9 : ∀ t : Fin cfg0.N, win0_9.index t 0 = 0 ∧ win0_9.index t 1 = 0 ∧ win0_9.index t 2 = 0 := by decide +kernel
theorem index10 : ∀ t : Fin cfg0.N, win0_10.index t 0 = 0 ∧ win0_10.index t 1 = 0 ∧ win0_10.index t 2 = 0 := by decide +kernel
theorem index11 : ∀ t : Fin cfg0.N, win0_11.index t 0 = t.val ∧ win0_11.index t 1 = 0 := by decide +kernel

variable (t : Fin cfg0.N)

theorem t_lt : t.val < 32 := lt_of_lt_of_eq t.isLt N_0

/-- The stream's block. -/
theorem stream_read (y : Fin 1024) (l : Fin 1024) (n : Fin 32768) (hn : n.val = t.val * 1024 + y.val) :
    iblk m c 0 t (ix2 y l) = m ((c : Thread nD τ).loc main_arg0) (ix2 n l) := by
  rw [← V_main_arg0 m c]
  show V m c main_arg0 (((cfg0.win 0).blk t).view.emb (ix2 y l)) = _
  refine congrArg (V m c main_arg0) (funext fun a => Fin.ext ?_)
  obtain ⟨h0, h1⟩ := index0 t
  match a with
  | ⟨0, _⟩ => show win0_0.index t (0 : Fin 2) * 1024 + 1 * y.val = n.val; rw [h0]; omega
  | ⟨1, _⟩ => show win0_0.index t (1 : Fin 2) * 1024 + 1 * l.val = l.val; rw [h1]; omega

/-- The first mixer's block. -/
theorem mixA_read (y : Fin 1024) (l : Fin 512) (n : Fin 32768) (hn : n.val = t.val * 1024 + y.val) :
    iblk m c 1 t (ix2 y l) = m ((c : Thread nD τ).loc main_arg1) (ix2 n l) := by
  rw [← V_main_arg1 m c]
  show V m c main_arg1 (((cfg0.win 1).blk t).view.emb (ix2 y l)) = _
  refine congrArg (V m c main_arg1) (funext fun a => Fin.ext ?_)
  obtain ⟨h0, h1⟩ := index1 t
  match a with
  | ⟨0, _⟩ => show win0_1.index t (0 : Fin 2) * 1024 + 1 * y.val = n.val; rw [h0]; omega
  | ⟨1, _⟩ => show win0_1.index t (1 : Fin 2) * 512 + 1 * l.val = l.val; rw [h1]; omega

/-- The second mixer's block. -/
theorem mixB_read (y : Fin 1024) (l : Fin 512) (n : Fin 32768) (hn : n.val = t.val * 1024 + y.val) :
    iblk m c 2 t (ix2 y l) = m ((c : Thread nD τ).loc main_arg2) (ix2 n l) := by
  rw [← V_main_arg2 m c]
  show V m c main_arg2 (((cfg0.win 2).blk t).view.emb (ix2 y l)) = _
  refine congrArg (V m c main_arg2) (funext fun a => Fin.ext ?_)
  obtain ⟨h0, h1⟩ := index2 t
  match a with
  | ⟨0, _⟩ => show win0_2.index t (0 : Fin 2) * 1024 + 1 * y.val = n.val; rw [h0]; omega
  | ⟨1, _⟩ => show win0_2.index t (1 : Fin 2) * 512 + 1 * l.val = l.val; rw [h1]; omega

/-- The output projection's upper half. -/
theorem wOutA_read (r : Fin 512) (l : Fin 1024) :
    iblk m c 3 t (ix3 0 r l) = m ((c : Thread nD τ).loc main_arg3) (ix3 0 ⟨r.val, by omega⟩ l) := by
  rw [← wOut_eq m c]
  show V m c main_v3 (((cfg0.win 3).blk t).view.emb (ix3 0 r l)) = _
  refine congrArg (V m c main_v3) (funext fun a => Fin.ext ?_)
  obtain ⟨h0, h1, h2⟩ := index3 t
  match a with
  | ⟨0, _⟩ => show win0_3.index t (0 : Fin 3) * 1 + 1 * 0 = 0; rw [h0]
  | ⟨1, _⟩ => show win0_3.index t (1 : Fin 3) * 512 + 1 * r.val = r.val; rw [h1]; omega
  | ⟨2, _⟩ => show win0_3.index t (2 : Fin 3) * 1024 + 1 * l.val = l.val; rw [h2]; omega

/-- The output projection's lower half. -/
theorem wOutB_read (r : Fin 512) (l : Fin 1024) :
    iblk m c 4 t (ix3 0 r l) = m ((c : Thread nD τ).loc main_arg3) (ix3 0 ⟨512 + r.val, by omega⟩ l) := by
  rw [← wOut_eq m c]
  show V m c main_v3 (((cfg0.win 4).blk t).view.emb (ix3 0 r l)) = _
  refine congrArg (V m c main_v3) (funext fun a => Fin.ext ?_)
  obtain ⟨h0, h1, h2⟩ := index4 t
  match a with
  | ⟨0, _⟩ => show win0_4.index t (0 : Fin 3) * 1 + 1 * 0 = 0; rw [h0]
  | ⟨1, _⟩ => show win0_4.index t (1 : Fin 3) * 512 + 1 * r.val = 512 + r.val; rw [h1]; omega
  | ⟨2, _⟩ => show win0_4.index t (2 : Fin 3) * 1024 + 1 * l.val = l.val; rw [h2]; omega

/-- The mixers' gains. -/
theorem mixerGains_read (l : Fin 1024) :
    iblk m c 5 t (ix3 0 0 l) = m ((c : Thread nD τ).loc main_arg4) (ix2 0 l) := by
  rw [← mixerGains_apply m c]
  show V m c main_v0 (((cfg0.win 5).blk t).view.emb (ix3 0 0 l)) = _
  refine congrArg (V m c main_v0) (funext fun a => Fin.ext ?_)
  obtain ⟨h0, h1, h2⟩ := index5 t
  match a with
  | ⟨0, _⟩ => show win0_5.index t (0 : Fin 3) * 1 + 1 * 0 = 0; rw [h0]
  | ⟨1, _⟩ => show win0_5.index t (1 : Fin 3) * 1 + 1 * 0 = 0; rw [h1]
  | ⟨2, _⟩ => show win0_5.index t (2 : Fin 3) * 1024 + 1 * l.val = l.val; rw [h2]; omega

/-- The gains on the way in. -/
theorem inGains_read (l : Fin 1024) :
    iblk m c 6 t (ix3 0 0 l) = m ((c : Thread nD τ).loc main_arg5) (ix2 0 l) := by
  rw [← inGains_apply m c]
  show V m c main_v1 (((cfg0.win 6).blk t).view.emb (ix3 0 0 l)) = _
  refine congrArg (V m c main_v1) (funext fun a => Fin.ext ?_)
  obtain ⟨h0, h1, h2⟩ := index6 t
  match a with
  | ⟨0, _⟩ => show win0_6.index t (0 : Fin 3) * 1 + 1 * 0 = 0; rw [h0]
  | ⟨1, _⟩ => show win0_6.index t (1 : Fin 3) * 1 + 1 * 0 = 0; rw [h1]
  | ⟨2, _⟩ => show win0_6.index t (2 : Fin 3) * 1024 + 1 * l.val = l.val; rw [h2]; omega

/-- The gains on the way out. -/
theorem outGains_read (l : Fin 1024) :
    iblk m c 7 t (ix3 0 0 l) = m ((c : Thread nD τ).loc main_arg6) (ix2 0 l) := by
  rw [← outGains_apply m c]
  show V m c main_v2 (((cfg0.win 7).blk t).view.emb (ix3 0 0 l)) = _
  refine congrArg (V m c main_v2) (funext fun a => Fin.ext ?_)
  obtain ⟨h0, h1, h2⟩ := index7 t
  match a with
  | ⟨0, _⟩ => show win0_7.index t (0 : Fin 3) * 1 + 1 * 0 = 0; rw [h0]
  | ⟨1, _⟩ => show win0_7.index t (1 : Fin 3) * 1 + 1 * 0 = 0; rw [h1]
  | ⟨2, _⟩ => show win0_7.index t (2 : Fin 3) * 1024 + 1 * l.val = l.val; rw [h2]; omega

/-- The gate's weights. -/
theorem wGate_read (r : Fin 1024) (l : Fin 2816) :
    iblk m c 8 t (ix3 0 r l) = m ((c : Thread nD τ).loc main_arg7) (ix3 0 r l) := by
  rw [← wGate_eq m c]
  show V m c main_v4 (((cfg0.win 8).blk t).view.emb (ix3 0 r l)) = _
  refine congrArg (V m c main_v4) (funext fun a => Fin.ext ?_)
  obtain ⟨h0, h1, h2⟩ := index8 t
  match a with
  | ⟨0, _⟩ => show win0_8.index t (0 : Fin 3) * 1 + 1 * 0 = 0; rw [h0]
  | ⟨1, _⟩ => show win0_8.index t (1 : Fin 3) * 1024 + 1 * r.val = r.val; rw [h1]; omega
  | ⟨2, _⟩ => show win0_8.index t (2 : Fin 3) * 2816 + 1 * l.val = l.val; rw [h2]; omega

/-- The weights up. -/
theorem wUp_read (r : Fin 1024) (l : Fin 2816) :
    iblk m c 9 t (ix3 0 r l) = m ((c : Thread nD τ).loc main_arg8) (ix3 0 r l) := by
  rw [← wUp_eq m c]
  show V m c main_v5 (((cfg0.win 9).blk t).view.emb (ix3 0 r l)) = _
  refine congrArg (V m c main_v5) (funext fun a => Fin.ext ?_)
  obtain ⟨h0, h1, h2⟩ := index9 t
  match a with
  | ⟨0, _⟩ => show win0_9.index t (0 : Fin 3) * 1 + 1 * 0 = 0; rw [h0]
  | ⟨1, _⟩ => show win0_9.index t (1 : Fin 3) * 1024 + 1 * r.val = r.val; rw [h1]; omega
  | ⟨2, _⟩ => show win0_9.index t (2 : Fin 3) * 2816 + 1 * l.val = l.val; rw [h2]; omega

/-- The weights down. -/
theorem wDown_read (r : Fin 2816) (l : Fin 1024) :
    iblk m c 10 t (ix3 0 r l) = m ((c : Thread nD τ).loc main_arg9) (ix3 0 r l) := by
  rw [← wDown_eq m c]
  show V m c main_v6 (((cfg0.win 10).blk t).view.emb (ix3 0 r l)) = _
  refine congrArg (V m c main_v6) (funext fun a => Fin.ext ?_)
  obtain ⟨h0, h1, h2⟩ := index10 t
  match a with
  | ⟨0, _⟩ => show win0_10.index t (0 : Fin 3) * 1 + 1 * 0 = 0; rw [h0]
  | ⟨1, _⟩ => show win0_10.index t (1 : Fin 3) * 2816 + 1 * r.val = r.val; rw [h1]; omega
  | ⟨2, _⟩ => show win0_10.index t (2 : Fin 3) * 1024 + 1 * l.val = l.val; rw [h2]; omega

end Cert.Proof.Ffn

end
-- ==== Proof.Rows.lean ====
/-
  The layer's mathematics on one token: functions of a row of numbers, which the kernels and the references both compute.
-/
module

public import Mathlib.Algebra.BigOperators.Fin
public import Idealize.ShloMosaic.PureOps.Ideal

@[expose] public section

noncomputable section

namespace Cert.Proof.Rows

open Idealize.ShloMosaic

/-- The norms' small constant, as the programs write it. -/
def eps : EReal := Ideal.ofBits .f32 0x358637BD#32

/-- The width 1024, as the programs write it. -/
def dModel : EReal := Ideal.ofBits .f32 0x44800000#32

/-- Root-mean-square normalization of a row, with gains `g`. -/
def rmsNorm (x g : Fin 1024 → EReal) (j : Fin 1024) : EReal :=
  x j * Ideal.rsqrt (Ideal.div (∑ k, x k * x k) dModel + eps) * g j

/-- `x` times its logistic. -/
def silu (x : EReal) : EReal := x * Ideal.logistic x

/-- A row times a matrix. -/
def rowMul {m n : ℕ} (x : Fin m → EReal) (w : Fin m → Fin n → EReal) (j : Fin n) : EReal := ∑ k, x k * w k j

/-- The second half of a layer on one token: `x` the residual stream, `y` the mixers' output. The stream takes the
    normalized mixers' output, then the normalized output of the gated feed-forward network. -/
def mixFfn (x y gm gf go : Fin 1024 → EReal) (wg wu : Fin 1024 → Fin 2816 → EReal) (wd : Fin 2816 → Fin 1024 → EReal)
    (j : Fin 1024) : EReal :=
  (x j + rmsNorm y gm j)
    + rmsNorm (rowMul (fun f => silu (rowMul (rmsNorm (fun k => x k + rmsNorm y gm k) gf) wg f)
        * rowMul (rmsNorm (fun k => x k + rmsNorm y gm k) gf) wu f) wd) go j

/-- The inner product of two rows. -/
def dot {n : ℕ} (x w : Fin n → EReal) : EReal := ∑ k, x k * w k

/-- The logarithm of the logistic. -/
def logSigmoid (z : EReal) : EReal := min z 0 - Ideal.log1p (Ideal.exp (-max z (-z)))

end Cert.Proof.Rows

end
-- ==== Proof.FfnTile.lean ====
/-
  One tile of the output-projection and feed-forward kernel: 256 tokens. The definitions are the kernel's own operations
  in order, stated once; `tile_apply` reads one element as a function of the token's row.
-/
module

public import proofs.«01_k».proof.Proof.Rows
public import proofs.«01_k».proof.Proof.Gen.FfnIdeal.Value
public import Idealize.ShloMosaic.Lib.Pointwise

@[expose] public section

set_option maxRecDepth 16384

noncomputable section

namespace Cert.Proof.Ffn

open Idealize.ShloMosaic Idealize.ShloMosaic.Tactic Idealize.ShloMosaic.TcCoe
open Cert.FfnIdeal Cert.FfnIdeal.Gen
open Cert.Proof.Rows

section Defs

variable {F : FTy → Type} [FloatOps F]

/-- The mixers' outputs through their halves of the output projection. -/
def mixed (a b : Vec F S256x512 .bf16) (wa wb : Vec F S1x512x1024 .bf16) : FVec F S256x1024 .f32 :=
  addf
    (matmul dot_S256x512_S512x1024_S256x1024_1_0_0_1_n_n none a
      (shapeCast S512x1024 wa shapeCasts_S1x512x1024_S512x1024 : FVec F S512x1024 .bf16) (constant S256x1024 .f32 0x00000000#32))
    (matmul dot_S256x512_S512x1024_S256x1024_1_0_0_1_n_n none b
      (shapeCast S512x1024 wb shapeCasts_S1x512x1024_S512x1024 : FVec F S512x1024 .bf16) (constant S256x1024 .f32 0x00000000#32))

/-- Normalized rows, with gains. -/
def norm (x : FVec F S256x1024 .f32) (g : Vec F S1x1x1024 .f32) : FVec F S256x1024 .f32 :=
  mulf (mulf x (broadcastTo S256x1024
      (rsqrt (addf
        (divf (shapeCast S256x1 (multiReduction .add [1] S256 (mulf x x) 0x00000000#32 reduces_S256x1024_S256 (.inl rfl) rfl)
          shapeCasts_S256_S256x1 : FVec F S256x1 .f32) (broadcast S256x1 (Scalar.ofBits .f32 0x44800000#32)))
        (broadcast S256x1 (Scalar.ofBits .f32 0x358637BD#32)))) broadcasts_S256x1_S256x1024))
    (broadcastTo S256x1024 (shapeCast S1x1024 g shapeCasts_S1x1x1024_S1x1024 : FVec F S1x1024 .f32) broadcasts_S1x1024_S256x1024)

/-- Hidden rows through the gate's or the up projection's weights. -/
def expand (h : FVec F S256x1024 .bf16) (w : Vec F S1x1024x2816 .bf16) : FVec F S256x2816 .f32 :=
  matmul dot_S256x1024_S1024x2816_S256x2816_1_0_0_1_n_n none h
    (shapeCast S1024x2816 w shapeCasts_S1x1024x2816_S1024x2816 : FVec F S1024x2816 .bf16) (constant S256x2816 .f32 0x00000000#32)

/-- The gated activation. -/
def gated (g u : FVec F S256x2816 .f32) : FVec F S256x2816 .bf16 :=
  truncf .bf16 (mulf (mulf g (logistic g)) u) bitsLt_bf16_f32

/-- The down projection. -/
def contract (a : FVec F S256x2816 .bf16) (w : Vec F S1x2816x1024 .bf16) : FVec F S256x1024 .f32 :=
  matmul dot_S256x2816_S2816x1024_S256x1024_1_0_0_1_n_n none a
    (shapeCast S2816x1024 w shapeCasts_S1x2816x1024_S2816x1024 : FVec F S2816x1024 .bf16) (constant S256x1024 .f32 0x00000000#32)

/-- The residual stream after the mixers. -/
def stream (x : Vec F S256x1024 .f32) (a b : Vec F S256x512 .bf16) (wa wb : Vec F S1x512x1024 .bf16)
    (gm : Vec F S1x1x1024 .f32) : FVec F S256x1024 .f32 := addf x (norm (mixed a b wa wb) gm)

/-- The stream's hidden rows. -/
def hidden (x1 : FVec F S256x1024 .f32) (gf : Vec F S1x1x1024 .f32) : FVec F S256x1024 .bf16 :=
  truncf .bf16 (norm x1 gf) bitsLt_bf16_f32

/-- What the tile stores, from the stream after the mixers. -/
def finish (x1 : FVec F S256x1024 .f32) (gf go : Vec F S1x1x1024 .f32) (wg wu : Vec F S1x1024x2816 .bf16)
    (wd : Vec F S1x2816x1024 .bf16) : FVec F S256x1024 .f32 :=
  addf x1 (norm (contract (gated (expand (hidden x1 gf) wg) (expand (hidden x1 gf) wu)) wd) go)

/-- The tile. -/
def tile (x : Vec F S256x1024 .f32) (a b : Vec F S256x512 .bf16) (wa wb : Vec F S1x512x1024 .bf16)
    (gm gf go : Vec F S1x1x1024 .f32) (wg wu : Vec F S1x1024x2816 .bf16) (wd : Vec F S1x2816x1024 .bf16) :
    FVec F S256x1024 .f32 := finish (stream x a b wa wb gm) gf go wg wu wd

/-- What a point stores: its four tiles. -/
theorem out_eq (x0 : Vec F S1024x1024 .f32) (x1 x2 : Vec F S1024x512 .bf16) (x3 x4 : Vec F S1x512x1024 .bf16)
    (x5 x6 x7 : Vec F S1x1x1024 .f32) (x8 x9 : Vec F S1x1024x2816 .bf16) (x10 : Vec F S1x2816x1024 .bf16) :
    out0_11 x0 x1 x2 x3 x4 x5 x6 x7 x8 x9 x10 = View.canon
      [⟨r0_11, tile (View.ld x0 r0_11) (View.ld x1 r0_9) (View.ld x2 r0_9) (View.ld x3 r0_1) (View.ld x4 r0_1)
          (View.ld x5 r0_3) (View.ld x6 r0_3) (View.ld x7 r0_3) (View.ld x8 r0_5) (View.ld x9 r0_5) (View.ld x10 r0_10)⟩,
        ⟨r0_8, tile (View.ld x0 r0_8) (View.ld x1 r0_7) (View.ld x2 r0_7) (View.ld x3 r0_1) (View.ld x4 r0_1)
          (View.ld x5 r0_3) (View.ld x6 r0_3) (View.ld x7 r0_3) (View.ld x8 r0_5) (View.ld x9 r0_5) (View.ld x10 r0_10)⟩,
        ⟨r0_6, tile (View.ld x0 r0_6) (View.ld x1 r0_4) (View.ld x2 r0_4) (View.ld x3 r0_1) (View.ld x4 r0_1)
          (View.ld x5 r0_3) (View.ld x6 r0_3) (View.ld x7 r0_3) (View.ld x8 r0_5) (View.ld x9 r0_5) (View.ld x10 r0_10)⟩,
        ⟨r0_2, tile (View.ld x0 r0_2) (View.ld x1 r0_0) (View.ld x2 r0_0) (View.ld x3 r0_1) (View.ld x4 r0_1)
          (View.ld x5 r0_3) (View.ld x6 r0_3) (View.ld x7 r0_3) (View.ld x8 r0_5) (View.ld x9 r0_5) (View.ld x10 r0_10)⟩] := by
  rfl

end Defs

/-! ## One element -/

theorem mixed_apply (a b : Vec Ideal S256x512 .bf16) (wa wb : Vec Ideal S1x512x1024 .bf16) (r : Fin 256) (j : Fin 1024) :
    mixed (F := Ideal) a b wa wb (ix2 r j)
      = (∑ k : Fin 512, a (ix2 r k) * wa (ix3 0 k j)) + ∑ k : Fin 512, b (ix2 r k) * wb (ix3 0 k j) := by
  unfold mixed
  pointwise

theorem norm_apply (x : FVec Ideal S256x1024 .f32) (g : Vec Ideal S1x1x1024 .f32) (r : Fin 256) (j : Fin 1024) :
    norm (F := Ideal) x g (ix2 r j) = rmsNorm (fun k => x (ix2 r k)) (fun k => g (ix3 0 0 k)) j := by
  unfold norm
  pointwise
  rfl

theorem expand_apply (h : FVec Ideal S256x1024 .bf16) (w : Vec Ideal S1x1024x2816 .bf16) (r : Fin 256) (f : Fin 2816) :
    expand (F := Ideal) h w (ix2 r f) = rowMul (fun k => h (ix2 r k)) (fun k f => w (ix3 0 k f)) f := by
  unfold expand
  pointwise
  rfl

theorem gated_apply (g u : FVec Ideal S256x2816 .f32) (r : Fin 256) (f : Fin 2816) :
    gated (F := Ideal) g u (ix2 r f) = silu (g (ix2 r f)) * u (ix2 r f) := rfl

theorem contract_apply (a : FVec Ideal S256x2816 .bf16) (w : Vec Ideal S1x2816x1024 .bf16) (r : Fin 256) (j : Fin 1024) :
    contract (F := Ideal) a w (ix2 r j) = rowMul (fun f => a (ix2 r f)) (fun f j => w (ix3 0 f j)) j := by
  unfold contract
  pointwise
  rfl

/-- A tile's element is the layer's second half on its token. -/
theorem tile_apply (x : Vec Ideal S256x1024 .f32) (a b : Vec Ideal S256x512 .bf16) (wa wb : Vec Ideal S1x512x1024 .bf16)
    (gm gf go : Vec Ideal S1x1x1024 .f32) (wg wu : Vec Ideal S1x1024x2816 .bf16) (wd : Vec Ideal S1x2816x1024 .bf16)
    (r : Fin 256) (j : Fin 1024) :
    tile (F := Ideal) x a b wa wb gm gf go wg wu wd (ix2 r j)
      = mixFfn (fun k => x (ix2 r k))
          (fun j => (∑ k : Fin 512, a (ix2 r k) * wa (ix3 0 k j)) + ∑ k : Fin 512, b (ix2 r k) * wb (ix3 0 k j))
          (fun k => gm (ix3 0 0 k)) (fun k => gf (ix3 0 0 k)) (fun k => go (ix3 0 0 k))
          (fun k f => wg (ix3 0 k f)) (fun k f => wu (ix3 0 k f)) (fun f j => wd (ix3 0 f j)) j := by
  have hx1 : ∀ k, stream (F := Ideal) x a b wa wb gm (ix2 r k)
      = x (ix2 r k) + rmsNorm
          (fun j => (∑ k : Fin 512, a (ix2 r k) * wa (ix3 0 k j)) + ∑ k : Fin 512, b (ix2 r k) * wb (ix3 0 k j))
          (fun k => gm (ix3 0 0 k)) k := by
    intro k
    show x (ix2 r k) + norm (F := Ideal) _ gm (ix2 r k) = _
    rw [norm_apply]
    simp only [mixed_apply]
  have hh : ∀ k, hidden (F := Ideal) (stream (F := Ideal) x a b wa wb gm) gf (ix2 r k)
      = rmsNorm (fun k => stream (F := Ideal) x a b wa wb gm (ix2 r k)) (fun k => gf (ix3 0 0 k)) k :=
    fun k => norm_apply _ gf r k
  show stream (F := Ideal) x a b wa wb gm (ix2 r j) + norm (F := Ideal) _ go (ix2 r j) = _
  rw [norm_apply]
  simp only [contract_apply, gated_apply, expand_apply, hh, hx1]
  rfl

end Cert.Proof.Ffn

end
-- ==== Proof.FfnBlock.lean ====
/-
  The block that one grid point of the second-half kernel writes, at an element: the four tiles of 256 rows compute the
  same function of a row.
-/
module

public import proofs.«01_k».proof.Proof.FfnTile
public import Idealize.ShloMosaic.Lib.Pipeline.ValueKit

@[expose] public section

set_option maxRecDepth 16384

noncomputable section

namespace Cert.Proof.Ffn

open Idealize.ShloMosaic Idealize.ShloMosaic.Tactic Idealize.ShloMosaic.TcCoe
open Cert.FfnIdeal Cert.FfnIdeal.Gen Cert.Proof.Rows

variable (x : Vec Ideal S1024x1024 .f32) (a b : Vec Ideal S1024x512 .bf16) (wa wb : Vec Ideal S1x512x1024 .bf16)
  (gm gf go : Vec Ideal S1x1x1024 .f32) (wg wu : Vec Ideal S1x1024x2816 .bf16) (wd : Vec Ideal S1x2816x1024 .bf16)

/-- Row `y` of the block, element `j`. -/
def blockOut (y j : Fin 1024) : EReal :=
  mixFfn (fun k => x (ix2 y k))
    (fun j => (∑ k : Fin 512, a (ix2 y k) * wa (ix3 0 k j)) + ∑ k : Fin 512, b (ix2 y k) * wb (ix3 0 k j))
    (fun k => gm (ix3 0 0 k)) (fun k => gf (ix3 0 0 k)) (fun k => go (ix3 0 0 k))
    (fun k f => wg (ix3 0 k f)) (fun k f => wu (ix3 0 k f)) (fun f j => wd (ix3 0 f j)) j

theorem tile_eq (X : Vec Ideal S256x1024 .f32) (A B : Vec Ideal S256x512 .bf16) (r : Fin 256) (y j : Fin 1024)
    (hx : ∀ k, X (ix2 r k) = x (ix2 y k)) (ha : ∀ k, A (ix2 r k) = a (ix2 y k)) (hb : ∀ k, B (ix2 r k) = b (ix2 y k)) :
    tile (F := Ideal) X A B wa wb gm gf go wg wu wd (ix2 r j) = blockOut x a b wa wb gm gf go wg wu wd y j := by
  rw [tile_apply]
  simp only [hx, ha, hb]
  rfl

/-- One stored tile: the rows from `ro` on. -/
theorem out_piece (ro : ℕ) (i1 : ∀ a, ![ro, 0] a + S256x1024.size a ≤ S1024x1024.size a)
    (i2 : ∀ a, ![ro, 0] a + S256x512.size a ≤ S1024x512.size a)
    (z : S256x1024.Idx) (y j : Fin 1024) (ey : y.val = ro + (z 0).val) (ej : j.val = (z 1).val) :
    tile (F := Ideal) (View.ld x (Rect.unit (s := S1024x1024) ![ro, 0] S256x1024.size i1))
        (View.ld a (Rect.unit (s := S1024x512) ![ro, 0] S256x512.size i2))
        (View.ld b (Rect.unit (s := S1024x512) ![ro, 0] S256x512.size i2))
        (View.ld wa r0_1) (View.ld wb r0_1) (View.ld gm r0_3) (View.ld gf r0_3) (View.ld go r0_3)
        (View.ld wg r0_5) (View.ld wu r0_5) (View.ld wd r0_10) z
      = blockOut x a b wa wb gm gf go wg wu wd y j := by
  obtain ⟨r, l, rfl⟩ : ∃ (r : Fin 256) (l : Fin 1024), z = ix2 r l := ⟨z 0, z 1, funext fun a => match a with
    | ⟨0, _⟩ => rfl
    | ⟨1, _⟩ => rfl⟩
  change y.val = ro + r.val at ey
  obtain rfl : j = l := Fin.ext ej
  have hx : ∀ k : Fin 1024, View.ld x (Rect.unit (s := S1024x1024) ![ro, 0] S256x1024.size i1) (ix2 r k) = x (ix2 y k) :=
    fun k => View.ld_unit_apply_of x _ _ _ (ix2 r k) _ (fun a => match a with
      | ⟨0, _⟩ => ey
      | ⟨1, _⟩ => (Nat.zero_add _).symm)
  have ha : ∀ (v : Vec Ideal S1024x512 .bf16) (k : Fin 512),
      View.ld v (Rect.unit (s := S1024x512) ![ro, 0] S256x512.size i2) (ix2 r k) = v (ix2 y k) :=
    fun v k => View.ld_unit_apply_of v _ _ _ (ix2 r k) _ (fun a => match a with
      | ⟨0, _⟩ => ey
      | ⟨1, _⟩ => (Nat.zero_add _).symm)
  have h1 : ∀ v : Vec Ideal S1x512x1024 .bf16, View.ld v r0_1 = v := fun v => View.ld_unit_lit _ v (by decide)
  have h3 : ∀ v : Vec Ideal S1x1x1024 .f32, View.ld v r0_3 = v := fun v => View.ld_unit_lit _ v (by decide)
  have h5 : ∀ v : Vec Ideal S1x1024x2816 .bf16, View.ld v r0_5 = v := fun v => View.ld_unit_lit _ v (by decide)
  have h10 : ∀ v : Vec Ideal S1x2816x1024 .bf16, View.ld v r0_10 = v := fun v => View.ld_unit_lit _ v (by decide)
  rw [h1 wa, h1 wb, h3 gm, h3 gf, h3 go, h5 wg, h5 wu, h10 wd]
  exact tile_eq x a b wa wb gm gf go wg wu wd _ _ _ r y j hx (ha a) (ha b)

theorem out_apply (y j : Fin 1024) :
    out0_11 (F := Ideal) x a b wa wb gm gf go wg wu wd (ix2 y j) = blockOut x a b wa wb gm gf go wg wu wd y j := by
  rw [out_eq]
  canon_tiles z e
  all_goals
    change y.val = _ at e0
    change j.val = _ at e1
    refine out_piece x a b wa wb gm gf go wg wu wd _ _ _ z y j ?_ ?_
    · first
        | exact e0
        | exact e0.trans (Nat.zero_add _).symm
    · first
        | exact e1
        | exact e1.trans (Nat.zero_add _)

end Cert.Proof.Ffn

end
-- ==== Proof.FfnRef.lean ====
/-
  The reference for the output projection and feed-forward network, read at an element.
-/
module

public import proofs.«01_k».proof.Proof.Rows
public import proofs.«01_k».proof.Proof.Gen.FfnRefIdeal.Read
public import Idealize.ShloMosaic.Lib.Pointwise

@[expose] public section

set_option maxRecDepth 16384

noncomputable section

namespace Cert.Proof.FfnRef

open Idealize.ShloMosaic Idealize.ShloMosaic.Tactic Idealize.ShloMosaic.TcCoe
open Cert.FfnRefIdeal Cert.FfnRefIdeal.Gen Cert.FfnRefIdeal.Read
open Cert.Proof.Rows

variable (x : Vec Ideal S32768x1024 .f32) (a b : Vec Ideal S32768x512 .bf16) (wo : Vec Ideal S1x1024x1024 .f32)
  (gm gf go : Vec Ideal S2x1024 .f32) (wg wu : Vec Ideal S2x1024x2816 .f32) (wd : Vec Ideal S2x2816x1024 .f32)

/-- The mixers' outputs through the output projection, by halves. -/
theorem mixed_apply (n : Fin 32768) (j : Fin 1024) :
    val_main_v4 (F := Ideal) a b wo (ix2 n j)
      = (∑ k : Fin 512, a (ix2 n k) * wo (ix3 0 ⟨k.val, by omega⟩ j))
        + ∑ k : Fin 512, b (ix2 n k) * wo (ix3 0 ⟨512 + k.val, by omega⟩ j) := by
  unfold val_main_v4 val_main_v3 val_main_v2 val_main_v1 val_main_v0
  pointwise

theorem stream_apply (n : Fin 32768) (j : Fin 1024) :
    val_main_v20 (F := Ideal) x a b wo gm (ix2 n j)
      = x (ix2 n j) + rmsNorm (fun k => val_main_v4 (F := Ideal) a b wo (ix2 n k)) (fun k => gm (ix2 0 k)) j := by
  unfold val_main_v20 val_main_v19 val_main_v18 val_main_v17 val_main_v16 val_main_v15 val_main_v14 val_main_v13
    val_main_v12 val_main_v11 val_main_v10 val_main_v9 val_main_v8 val_main_v7 val_main_v6 val_main_v5 val_main_cst
    val_main_cst_0 val_main_cst_1
  generalize val_main_v4 (F := Ideal) a b wo = y
  pointwise
  rfl

theorem hidden_apply (n : Fin 32768) (j : Fin 1024) :
    val_main_v35 (F := Ideal) x a b wo gm gf (ix2 n j)
      = rmsNorm (fun k => val_main_v20 (F := Ideal) x a b wo gm (ix2 n k)) (fun k => gf (ix2 0 k)) j := by
  unfold val_main_v35 val_main_v34 val_main_v33 val_main_v32 val_main_v31 val_main_v30 val_main_v29 val_main_v28
    val_main_v27 val_main_v26 val_main_v25 val_main_v24 val_main_v23 val_main_v22 val_main_v21 val_main_cst_2
    val_main_cst_3 val_main_cst_4
  generalize val_main_v20 (F := Ideal) x a b wo gm = y
  pointwise
  rfl

theorem gate_apply (n : Fin 32768) (f : Fin 2816) :
    val_main_v42 (F := Ideal) x a b wo gm gf wg (ix2 n f)
      = rowMul (fun k => val_main_v35 (F := Ideal) x a b wo gm gf (ix2 n k)) (fun k f => wg (ix3 0 k f)) f := by
  unfold val_main_v42 val_main_v37 val_main_v36
  generalize val_main_v35 (F := Ideal) x a b wo gm gf = y
  pointwise
  rfl

theorem up_apply (n : Fin 32768) (f : Fin 2816) :
    val_main_v44 (F := Ideal) x a b wo gm gf wu (ix2 n f)
      = rowMul (fun k => val_main_v35 (F := Ideal) x a b wo gm gf (ix2 n k)) (fun k f => wu (ix3 0 k f)) f := by
  unfold val_main_v44 val_main_v39 val_main_v38
  generalize val_main_v35 (F := Ideal) x a b wo gm gf = y
  pointwise
  rfl

theorem gated_apply (n : Fin 32768) (f : Fin 2816) :
    val_main_v45 (F := Ideal) x a b wo gm gf wg wu (ix2 n f)
      = silu (val_main_v42 (F := Ideal) x a b wo gm gf wg (ix2 n f)) * val_main_v44 (F := Ideal) x a b wo gm gf wu (ix2 n f) := by
  unfold val_main_v45 val_main_v43 val_main_call0_v5 val_main_call0_v4 val_main_call0_v3 val_main_call0_v2
    val_main_call0_v1 val_main_call0_v0 val_main_call0_cst val_main_call0_cst_0
  generalize val_main_v42 (F := Ideal) x a b wo gm gf wg = y
  generalize val_main_v44 (F := Ideal) x a b wo gm gf wu = z
  pointwise
  rfl

theorem down_apply (n : Fin 32768) (j : Fin 1024) :
    val_main_v46 (F := Ideal) x a b wo gm gf wg wu wd (ix2 n j)
      = rowMul (fun f => val_main_v45 (F := Ideal) x a b wo gm gf wg wu (ix2 n f)) (fun f j => wd (ix3 0 f j)) j := by
  unfold val_main_v46 val_main_v41 val_main_v40
  generalize val_main_v45 (F := Ideal) x a b wo gm gf wg wu = y
  pointwise
  rfl

theorem out_apply (n : Fin 32768) (j : Fin 1024) :
    val_main_v62 (F := Ideal) x a b wo gm gf go wg wu wd (ix2 n j)
      = val_main_v20 (F := Ideal) x a b wo gm (ix2 n j)
        + rmsNorm (fun k => val_main_v46 (F := Ideal) x a b wo gm gf wg wu wd (ix2 n k)) (fun k => go (ix2 0 k)) j := by
  unfold val_main_v62 val_main_v61 val_main_v60 val_main_v59 val_main_v58 val_main_v57 val_main_v56 val_main_v55
    val_main_v54 val_main_v53 val_main_v52 val_main_v51 val_main_v50 val_main_v49 val_main_v48 val_main_v47 val_main_cst_5
    val_main_cst_6 val_main_cst_7
  generalize val_main_v46 (F := Ideal) x a b wo gm gf wg wu wd = y
  generalize val_main_v20 (F := Ideal) x a b wo gm = z
  pointwise
  rfl

/-- The reference's element is the layer's second half on its token. -/
theorem ref_apply (n : Fin 32768) (j : Fin 1024) :
    val_main_v62 (F := Ideal) x a b wo gm gf go wg wu wd (ix2 n j)
      = mixFfn (fun k => x (ix2 n k))
          (fun j => (∑ k : Fin 512, a (ix2 n k) * wo (ix3 0 ⟨k.val, by omega⟩ j))
            + ∑ k : Fin 512, b (ix2 n k) * wo (ix3 0 ⟨512 + k.val, by omega⟩ j))
          (fun k => gm (ix2 0 k)) (fun k => gf (ix2 0 k)) (fun k => go (ix2 0 k))
          (fun k f => wg (ix3 0 k f)) (fun k f => wu (ix3 0 k f)) (fun f j => wd (ix3 0 f j)) j := by
  rw [out_apply]
  simp only [down_apply, gated_apply, up_apply, gate_apply, hidden_apply, stream_apply, mixed_apply]
  rfl

end Cert.Proof.FfnRef

end
-- ==== Proof.FfnValue.lean ====
/-
  The second-half kernel's result and its reference's are the same array.
-/
module

public import proofs.«01_k».proof.Proof.FfnHost
public import proofs.«01_k».proof.Proof.FfnBlock
public import proofs.«01_k».proof.Proof.FfnRef
public import Idealize.ShloMosaic.Lib.Pipeline.ValueKit

@[expose] public section

set_option maxRecDepth 16384

noncomputable section

namespace Cert.Proof.Ffn

open Idealize.ShloMosaic Idealize.ShloMosaic.Tactic Idealize.ShloMosaic.TcCoe
open Cert.FfnIdeal Cert.FfnIdeal.Gen Cert.Proof.Rows

variable (m : (ℓ : Loc nD τ sig) → Buf (Elt Ideal) ℓ) (c : Dev nD)

/-- The reference's array of the kernel's arguments. -/
def refArr : FVec Ideal S32768x1024 .f32 :=
  Cert.FfnRefIdeal.Read.val_main_v62 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- What point `t` computes at row `y` is the reference's row `1024 t + y`. -/
theorem point_apply (t : Fin cfg0.N) (y l : Fin 1024) (n : Fin 32768) (hn : n.val = t.val * 1024 + y.val) :
    out0_11 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix2 y l) = refArr m c (ix2 n l) := by
  rw [out_apply]
  unfold refArr
  rw [Cert.Proof.FfnRef.ref_apply]
  unfold blockOut
  simp only [stream_read m c t y _ n hn, mixA_read m c t y _ n hn, mixB_read m c t y _ n hn, wOutA_read m c t,
    wOutB_read m c t, mixerGains_read m c t, inGains_read m c t, outGains_read m c t, wGate_read m c t, wUp_read m c t,
    wDown_read m c t]

/-- The result after the run. -/
theorem result_eq : (dats m 0 c).arrAt 11 cfg0.N = refArr m c := by
  refine (dats m 0 c).arrAt_eq_of_covers 11 _ (by decide +kernel) fun t hf y => ?_
  have hp := point_apply m c t
  have ht := t_lt t
  obtain ⟨h0, h1⟩ := index11 t
  rw [after0_11]
  generalize out0_11 (F := Ideal) (iblk m c 0 t) (iblk m c 1 t) (iblk m c 2 t) (iblk m c 3 t) (iblk m c 4 t) (iblk m c 5 t)
    (iblk m c 6 t) (iblk m c 7 t) (iblk m c 8 t) (iblk m c 9 t) (iblk m c 10 t) = X at hp ⊢
  generalize refArr m c = G at hp ⊢
  obtain ⟨r, l, rfl⟩ : ∃ (r l : Fin 1024), y = ix2 r l := ⟨y 0, y 1, funext fun a => match a with
    | ⟨0, _⟩ => rfl
    | ⟨1, _⟩ => rfl⟩
  refine (hp r l ⟨t.val * 1024 + r.val, by omega⟩ rfl).trans (congrArg G (funext fun a => Fin.ext ?_))
  match a with
  | ⟨0, _⟩ => show t.val * 1024 + r.val = win0_11.index t (0 : Fin 2) * 1024 + 1 * r.val; rw [h0]; omega
  | ⟨1, _⟩ => show l.val = win0_11.index t (1 : Fin 2) * 1024 + 1 * l.val; rw [h1]; omega

end Cert.Proof.Ffn

end
-- ==== Proof.InAHost.lean ====
/-
  What one grid point of the first layer's input projection reads, as elements of the arguments: point `t` has rows
  `1024 t …` of the stream, and the whole of the weights, gains and offsets.
-/
module

public import proofs.«01_k».proof.Proof.Gen.InAIdeal.Value
public import Idealize.ShloMosaic.Lib.StableHlo.ReadAt
public import Idealize.ShloMosaic.Lib.Pointwise

@[expose] public section

set_option maxRecDepth 16384

noncomputable section

namespace Cert.Proof.InA

open Idealize.ShloMosaic Idealize.ShloMosaic.Tactic Idealize.ShloMosaic.TcCoe
open Cert.InAIdeal Cert.InAIdeal.Gen

variable (m : (ℓ : Loc nD τ sig) → Buf (Elt Ideal) ℓ) (c : Dev nD)

theorem gains_apply (k : Fin 1024) :
    V m c main_v2 (ix2 0 k) = m ((c : Thread nD τ).loc main_arg1) (ix2 0 k) := by
  show StableHlo.after [_, _, _, _, _, _, _, _, _, _, _] (fun b => m (c, b)) (Proc.devRef .tc main_v2) _ = _
  after_results
  pointwise

theorem w_apply (k : Fin 1024) (f : Fin 2560) :
    V m c main_v3 (ix3 0 k f) = m ((c : Thread nD τ).loc main_arg2) (ix3 0 k f) := by
  show StableHlo.after [_, _, _, _, _, _, _, _, _, _, _] (fun b => m (c, b)) (Proc.devRef .tc main_v3) _ = _
  after_results
  pointwise

theorem normGains_apply (j : Fin 512) :
    V m c main_v5 (ix2 0 j) = m ((c : Thread nD τ).loc main_arg3) (ix2 0 j) := by
  show StableHlo.after [_, _, _, _, _, _, _, _, _, _, _] (fun b => m (c, b)) (Proc.devRef .tc main_v5) _ = _
  after_results
  pointwise

theorem normOffsets_apply (j : Fin 512) :
    V m c main_v7 (ix2 0 j) = m ((c : Thread nD τ).loc main_arg4) (ix2 0 j) := by
  show StableHlo.after [_, _, _, _, _, _, _, _, _, _, _] (fun b => m (c, b)) (Proc.devRef .tc main_v7) _ = _
  after_results
  pointwise

theorem groups_apply (q : Fin 4) (t s : Fin 128) :
    V m c main_v8 (ix3 q t s) = m ((c : Thread nD τ).loc main_arg5) (ix4 0 q t s) := by
  show StableHlo.after [_, _, _, _, _, _, _, _, _, _, _] (fun b => m (c, b)) (Proc.devRef .tc main_v8) _ = _
  after_results
  pointwise

theorem offsets_apply (t : Fin 128) (q : Fin 4) :
    V m c main_v10 (ix2 t q) = m ((c : Thread nD τ).loc main_arg6) (ix3 0 q t) := by
  show StableHlo.after [_, _, _, _, _, _, _, _, _, _, _] (fun b => m (c, b)) (Proc.devRef .tc main_v10) _ = _
  after_results
  pointwise

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index6 : ∀ t : Fin cfg0.N, win0_6.index t 0 = 0 ∧ win0_6.index t 1 = 0 := by decide +kernel
theorem index2 : ∀ t : Fin cfg0.N, win0_2.index t 0 = 0 ∧ win0_2.index t 1 = 0 ∧ win0_2.index t 2 = 0 := by decide +kernel
theorem index5 : ∀ t : Fin cfg0.N, win0_5.index t 0 = 0 ∧ win0_5.index t 1 = 0 ∧ win0_5.index t 2 = 0 := by decide +kernel
theorem index7 : ∀ t : Fin cfg0.N, win0_7.index t 0 = t.val ∧ win0_7.index t 1 = 0 := by decide +kernel
theorem index8 : ∀ t : Fin cfg0.N, win0_8.index t 0 = t.val ∧ win0_8.index t 1 = 0 := by decide +kernel
theorem index9 : ∀ t : Fin cfg0.N, win0_9.index t 0 = t.val ∧ win0_9.index t 1 = 0 := by decide +kernel
theorem index10 : ∀ t : Fin cfg0.N, win0_10.index t 0 = t.val ∧ win0_10.index t 1 = 0 := by decide +kernel

variable (t : Fin cfg0.N)

theorem t_lt : t.val < 32 := lt_of_lt_of_eq t.isLt N_0

/-- The stream's block. -/
theorem stream_read (y : Fin 1024) (l : Fin 1024) (n : Fin 32768) (hn : n.val = t.val * 1024 + y.val) :
    iblk m c 0 t (ix2 y l) = m ((c : Thread nD τ).loc main_arg0) (ix2 n l) := by
  rw [← V_main_arg0 m c]
  show V m c main_arg0 (((cfg0.win 0).blk t).view.emb (ix2 y l)) = _
  refine congrArg (V m c main_arg0) (funext fun a => Fin.ext ?_)
  obtain ⟨h0, h1⟩ := index0 t
  match a with
  | ⟨0, _⟩ => show win0_0.index t (0 : Fin 2) * 1024 + 1 * y.val = n.val; rw [h0]; omega
  | ⟨1, _⟩ => show win0_0.index t (1 : Fin 2) * 1024 + 1 * l.val = l.val; rw [h1]; omega

/-- The norm's gains. -/
theorem gains_read (k : Fin 1024) :
    iblk m c 1 t (ix2 0 k) = m ((c : Thread nD τ).loc main_arg1) (ix2 0 k) := by
  rw [← gains_apply m c]
  show V m c main_v2 (((cfg0.win 1).blk t).view.emb (ix2 0 k)) = _
  refine congrArg (V m c main_v2) (funext fun a => Fin.ext ?_)
  obtain ⟨h0, h1⟩ := index1 t
  match a with
  | ⟨0, _⟩ => show win0_1.index t (0 : Fin 2) * 1 + 1 * 0 = 0; rw [h0]
  | ⟨1, _⟩ => show win0_1.index t (1 : Fin 2) * 1024 + 1 * k.val = k.val; rw [h1]; omega

/-- The weights. -/
theorem w_read (k : Fin 1024) (f : Fin 2560) :
    iblk m c 2 t (ix3 0 k f) = m ((c : Thread nD τ).loc main_arg2) (ix3 0 k f) := by
  rw [← w_apply m c]
  show V m c main_v3 (((cfg0.win 2).blk t).view.emb (ix3 0 k f)) = _
  refine congrArg (V m c main_v3) (funext fun a => Fin.ext ?_)
  obtain ⟨h0, h1, h2⟩ := index2 t
  match a with
  | ⟨0, _⟩ => show win0_2.index t (0 : Fin 3) * 1 + 1 * 0 = 0; rw [h0]
  | ⟨1, _⟩ => show win0_2.index t (1 : Fin 3) * 1024 + 1 * k.val = k.val; rw [h1]; omega
  | ⟨2, _⟩ => show win0_2.index t (2 : Fin 3) * 2560 + 1 * f.val = f.val; rw [h2]; omega

/-- The layer norm's gains. -/
theorem normGains_read (j : Fin 512) :
    iblk m c 3 t (ix2 0 j) = m ((c : Thread nD τ).loc main_arg3) (ix2 0 j) := by
  rw [← normGains_apply m c]
  show V m c main_v5 (((cfg0.win 3).blk t).view.emb (ix2 0 j)) = _
  refine congrArg (V m c main_v5) (funext fun a => Fin.ext ?_)
  obtain ⟨h0, h1⟩ := index3 t
  match a with
  | ⟨0, _⟩ => show win0_3.index t (0 : Fin 2) * 1 + 1 * 0 = 0; rw [h0]
  | ⟨1, _⟩ => show win0_3.index t (1 : Fin 2) * 512 + 1 * j.val = j.val; rw [h1]; omega

/-- The layer norm's offsets. -/
theorem normOffsets_read (j : Fin 512) :
    iblk m c 4 t (ix2 0 j) = m ((c : Thread nD τ).loc main_arg4) (ix2 0 j) := by
  rw [← normOffsets_apply m c]
  show V m c main_v7 (((cfg0.win 4).blk t).view.emb (ix2 0 j)) = _
  refine congrArg (V m c main_v7) (funext fun a => Fin.ext ?_)
  obtain ⟨h0, h1⟩ := index4 t
  match a with
  | ⟨0, _⟩ => show win0_4.index t (0 : Fin 2) * 1 + 1 * 0 = 0; rw [h0]
  | ⟨1, _⟩ => show win0_4.index t (1 : Fin 2) * 512 + 1 * j.val = j.val; rw [h1]; omega

/-- The weights of the tokens' mixing. -/
theorem groups_read (q : Fin 4) (t' s : Fin 128) :
    iblk m c 5 t (ix3 q t' s) = m ((c : Thread nD τ).loc main_arg5) (ix4 0 q t' s) := by
  rw [← groups_apply m c]
  show V m c main_v8 (((cfg0.win 5).blk t).view.emb (ix3 q t' s)) = _
  refine congrArg (V m c main_v8) (funext fun a => Fin.ext ?_)
  obtain ⟨h0, h1, h2⟩ := index5 t
  match a with
  | ⟨0, _⟩ => show win0_5.index t (0 : Fin 3) * 4 + 1 * q.val = q.val; rw [h0]; omega
  | ⟨1, _⟩ => show win0_5.index t (1 : Fin 3) * 128 + 1 * t'.val = t'.val; rw [h1]; omega
  | ⟨2, _⟩ => show win0_5.index t (2 : Fin 3) * 128 + 1 * s.val = s.val; rw [h2]; omega

/-- The offsets of the tokens' mixing. -/
theorem offsets_read (t' : Fin 128) (q : Fin 4) :
    iblk m c 6 t (ix2 t' q) = m ((c : Thread nD τ).loc main_arg6) (ix3 0 q t') := by
  rw [← offsets_apply m c]
  show V m c main_v10 (((cfg0.win 6).blk t).view.emb (ix2 t' q)) = _
  refine congrArg (V m c main_v10) (funext fun a => Fin.ext ?_)
  obtain ⟨h0, h1⟩ := index6 t
  match a with
  | ⟨0, _⟩ => show win0_6.index t (0 : Fin 2) * 128 + 1 * t'.val = t'.val; rw [h0]; omega
  | ⟨1, _⟩ => show win0_6.index t (1 : Fin 2) * 4 + 1 * q.val = q.val; rw [h1]; omega

end Cert.Proof.InA

end
-- ==== Proof.InARows.lean ====
/-
  The first layer's gated unit on rows: the error-function gate, the layer norm, and the causal mixing of the tokens of a
  block.
-/
module

public import proofs.«01_k».proof.Proof.Rows
public import Idealize.ShloMosaic.PureOps.Ideal.Laws

@[expose] public section

set_option maxRecDepth 16384

noncomputable section

namespace Cert.Proof.Rows

open Idealize.ShloMosaic

/-- A half, as the programs write it. -/
def half : EReal := Ideal.ofBits .f32 0x3F000000#32

/-- The square root of a half, as the programs write it. -/
def sqrtHalf : EReal := Ideal.ofBits .f32 0x3F3504F3#32

/-- The width 512, as the programs write it. -/
def dGate : EReal := Ideal.ofBits .f32 0x44000000#32

/-- The Gaussian error gate. -/
def gelu (x : EReal) : EReal := half * x * (1 + Ideal.erf (x * sqrtHalf))

theorem one_word : Ideal.ofBits .f32 0x3F800000#32 = 1 := by
  simp [Ideal.ofBits, Ideal.ieee]
  norm_num
  rw [← EReal.coe_mul]
  norm_num

/-- The gate by the complementary error function. -/
theorem gelu_erfc (x : EReal) : half * x * Ideal.erfc (-x * sqrtHalf) = gelu x := by
  rw [EReal.neg_mul, Ideal.erfc_neg]
  rfl

/-- A row's mean. -/
def mean (z : Fin 512 → EReal) : EReal := Ideal.div (∑ k, z k) dGate

/-- Layer normalization of a row, with gains `g` and offsets `b`. -/
def layerNorm (z g b : Fin 512 → EReal) (j : Fin 512) : EReal :=
  (z j - mean z) * Ideal.rsqrt (Ideal.div (∑ k, (z k - mean z) * (z k - mean z)) dGate + eps) * g j + b j

/-- Token `t` of a block takes the tokens `v` up to itself by its weights `w`. -/
def causalDot (w v : Fin 128 → EReal) (t : Fin 128) : EReal := ∑ s, (if s.val ≤ t.val then w s else 0) * v s

/-- Column `s` is not past row `t`, in words. -/
theorem le_word : ∀ t s : Fin 128, IntOp.cmpi .sle (BitVec.ofNat 32 s.val) (BitVec.ofNat 32 t.val)
    = if s.val ≤ t.val then 1#1 else 0#1 := by
  decide +kernel

/-- The same, the other way round. -/
theorem ge_word : ∀ t s : Fin 128, IntOp.cmpi .sge (IntOp.addi (BitVec.ofNat 32 t.val) 0#32) (BitVec.ofNat 32 s.val)
    = if s.val ≤ t.val then 1#1 else 0#1 := by
  decide +kernel

end Cert.Proof.Rows

end
-- ==== Proof.InATile.lean ====
/-
  One tile of the first layer's input projection: 256 tokens, two blocks of 128 for the gated unit. The definitions are the
  kernel's own operations in order, stated once; the lemmas read one element as a function of the tokens' rows.
-/
module

public import proofs.«01_k».proof.Proof.InARows
public import proofs.«01_k».proof.Proof.Gen.InAIdeal.Value
public import Idealize.ShloMosaic.Lib.Pointwise

@[expose] public section

set_option maxRecDepth 16384

noncomputable section

namespace Cert.Proof.InA

open Idealize.ShloMosaic Idealize.ShloMosaic.Tactic Idealize.ShloMosaic.TcCoe
open Cert.InAIdeal Cert.InAIdeal.Gen
open Cert.Proof.Rows

section Defs

variable {F : FTy → Type} [FloatOps F]

/-- Normalized rows, with gains. -/
def hidden (x : Vec F S256x1024 .f32) (g : Vec F S1x1024 .f32) : FVec F S256x1024 .bf16 :=
  truncf .bf16 (mulf (mulf x (broadcastTo S256x1024
      (rsqrt (addf
        (divf (shapeCast S256x1 (multiReduction .add [1] S256 (mulf x x) 0x00000000#32 reduces_S256x1024_S256 (.inl rfl) rfl)
          shapeCasts_S256_S256x1 : FVec F S256x1 .f32) (broadcast S256x1 (Scalar.ofBits .f32 0x44800000#32)))
        (broadcast S256x1 (Scalar.ofBits .f32 0x358637BD#32)))) broadcasts_S256x1_S256x1024))
    (broadcastTo S256x1024 (shapeCast S1x1024 g shapeCasts_S1x1024_S1x1024 : FVec F S1x1024 .f32) broadcasts_S1x1024_S256x1024))
    bitsLt_bf16_f32

/-- Hidden rows through the weights of queries, keys and values. -/
def qkv (h : FVec F S256x1024 .bf16) (w : Vec F S1x1024x1536 .bf16) : FVec F S256x1536 .f32 :=
  matmul dot_S256x1024_S1024x1536_S256x1536_1_0_0_1_n_n none h
    (shapeCast S1024x1536 w shapeCasts_S1x1024x1536_S1024x1536 : FVec F S1024x1536 .bf16) (constant S256x1536 .f32 0x00000000#32)

/-- Hidden rows through the weights of the gated unit. -/
def halves (h : FVec F S256x1024 .bf16) (w : Vec F S1x1024x1024 .bf16) : FVec F S256x1024 .f32 :=
  matmul dot_S256x1024_S1024x1024_S256x1024_1_0_0_1_n_n none h
    (shapeCast S1024x1024 w shapeCasts_S1x1024x1024_S1024x1024 : FVec F S1024x1024 .bf16) (constant S256x1024 .f32 0x00000000#32)

/-- The queries, scaled. -/
def tileQ (x : Vec F S256x1024 .f32) (g : Vec F S1x1024 .f32) (w : Vec F S1x1024x1536 .bf16) : FVec F S256x512 .bf16 :=
  truncf .bf16 (mulf (extractStridedSlice S256x512 ![0, 0] (qkv (hidden x g) w) slices_S256x1536_o0_0_S256x512)
    (broadcast S256x512 (Scalar.ofBits .f32 0x3E38AA3B#32))) bitsLt_bf16_f32

/-- The keys. -/
def tileK (x : Vec F S256x1024 .f32) (g : Vec F S1x1024 .f32) (w : Vec F S1x1024x1536 .bf16) : FVec F S256x512 .bf16 :=
  truncf .bf16 (extractStridedSlice S256x512 ![0, 512] (qkv (hidden x g) w) slices_S256x1536_o0_512_S256x512) bitsLt_bf16_f32

/-- The values. -/
def tileV (x : Vec F S256x1024 .f32) (g : Vec F S1x1024 .f32) (w : Vec F S1x1024x1536 .bf16) : FVec F S256x512 .bf16 :=
  truncf .bf16 (extractStridedSlice S256x512 ![0, 1024] (qkv (hidden x g) w) slices_S256x1536_o0_1024_S256x512) bitsLt_bf16_f32

/-- The error-function gate. -/
def gated (y : FVec F S256x512 .f32) : FVec F S256x512 .f32 :=
  mulf (mulf (broadcast S256x512 (Scalar.ofBits .f32 0x3F000000#32)) y)
    (addf (broadcast S256x512 (Scalar.ofBits .f32 0x3F800000#32))
      (erf (mulf y (broadcast S256x512 (Scalar.ofBits .f32 0x3F3504F3#32)))))

/-- Rows less their means. -/
def centred (z : FVec F S256x512 .f32) : FVec F S256x512 .f32 :=
  subf z (broadcastTo S256x512
    (divf (shapeCast S256x1 (multiReduction .add [1] S256 z 0x00000000#32 reduces_S256x512_S256 (.inl rfl) rfl)
      shapeCasts_S256_S256x1 : FVec F S256x1 .f32) (broadcast S256x1 (Scalar.ofBits .f32 0x44000000#32))) broadcasts_S256x1_S256x512)

/-- Centred rows over their deviations, with gains and offsets. -/
def normed (d : FVec F S256x512 .f32) (lg lb : Vec F S1x512 .f32) : FVec F S256x512 .bf16 :=
  truncf .bf16 (addf (mulf (mulf d (broadcastTo S256x512
      (rsqrt (addf
        (divf (shapeCast S256x1 (multiReduction .add [1] S256 (mulf d d) 0x00000000#32 reduces_S256x512_S256 (.inl rfl) rfl)
          shapeCasts_S256_S256x1 : FVec F S256x1 .f32) (broadcast S256x1 (Scalar.ofBits .f32 0x44000000#32)))
        (broadcast S256x1 (Scalar.ofBits .f32 0x358637BD#32)))) broadcasts_S256x1_S256x512))
    (broadcastTo S256x512 (shapeCast S1x512 lg shapeCasts_S1x512_S1x512 : FVec F S1x512 .f32) broadcasts_S1x512_S256x512))
    (broadcastTo S256x512 (shapeCast S1x512 lb shapeCasts_S1x512_S1x512 : FVec F S1x512 .f32) broadcasts_S1x512_S256x512))
    bitsLt_bf16_f32

/-- The gate's first half. -/
def tileU (x : Vec F S256x1024 .f32) (g : Vec F S1x1024 .f32) (w : Vec F S1x1024x1024 .bf16) : FVec F S256x512 .f32 :=
  gated (extractStridedSlice S256x512 ![0, 0] (halves (hidden x g) w) slices_S256x1024_o0_0_S256x512)

/-- The gate's second half, normalized. -/
def tileN (x : Vec F S256x1024 .f32) (g : Vec F S1x1024 .f32) (w : Vec F S1x1024x1024 .bf16) (lg lb : Vec F S1x512 .f32) :
    FVec F S256x512 .bf16 :=
  normed (centred (gated (extractStridedSlice S256x512 ![0, 512] (halves (hidden x g) w) slices_S256x1024_o0_512_S256x512))) lg lb

/-- A group's weights up to the diagonal. -/
def causal (ws : Vec F S1x128x128 .f32) : FVec F S128x128 .bf16 :=
  truncf .bf16 (select (cmpi .sle (iota .tc S128x128 32 [1] iota_S128x128_d1_w32) (iota .tc S128x128 32 [0] iota_S128x128_d0_w32))
    (shapeCast S128x128 ws shapeCasts_S1x128x128_S128x128 : FVec F S128x128 .f32)
    (broadcast S128x128 (Scalar.ofBits .f32 0x00000000#32))) bitsLt_bf16_f32

/-- A group's tokens mixed, with their offsets. -/
def mixed (ws : Vec F S1x128x128 .f32) (v : FVec F S128x128 .bf16) (bc : Vec F S128x1 .f32) : FVec F S128x128 .f32 :=
  addf (matmul dot_S128x128_S128x128_S128x128_1_0_0_1_n_n none (causal ws) v (constant S128x128 .f32 0x00000000#32))
    (broadcastTo S128x128 (shapeCast S128x1 bc shapeCasts_S128x1_S128x1 : FVec F S128x1 .f32) broadcasts_S128x1_S128x128)

/-- The gated unit on the 128 tokens from `so` on and the 128 columns from `co` on. -/
def tileB (x : Vec F S256x1024 .f32) (g : Vec F S1x1024 .f32) (w : Vec F S1x1024x1024 .bf16) (lg lb : Vec F S1x512 .f32)
    (ws : Vec F S1x128x128 .f32) (bc : Vec F S128x1 .f32) (so co : ℕ) (h : S256x512.Slices ![so, co] S128x128) :
    FVec F S128x128 .bf16 :=
  truncf .bf16 (mulf (extractStridedSlice S128x128 ![so, co] (tileU x g w) h)
    (mixed ws (extractStridedSlice S128x128 ![so, co] (tileN x g w lg lb) h) bc)) bitsLt_bf16_f32

variable (x0 : Vec F S1024x1024 .f32) (x1 : Vec F S1x1024 .f32) (x2 : Vec F S1x1024x2560 .bf16) (x3 x4 : Vec F S1x512 .f32)
  (x5 : Vec F S4x128x128 .f32) (x6 : Vec F S128x4 .f32)

/-! What a point stores: four tiles of queries, keys and values, and four by eight of the gated unit. -/

theorem outQ_eq : out0_7 x0 x1 x2 x3 x4 x5 x6 = View.canon
    [⟨r0_51, tileQ (View.ld x0 r0_41) (View.ld x1 r0_5) (View.ld x2 r0_7)⟩,
      ⟨r0_42, tileQ (View.ld x0 r0_31) (View.ld x1 r0_5) (View.ld x2 r0_7)⟩,
      ⟨r0_32, tileQ (View.ld x0 r0_21) (View.ld x1 r0_5) (View.ld x2 r0_7)⟩,
      ⟨r0_22, tileQ (View.ld x0 r0_4) (View.ld x1 r0_5) (View.ld x2 r0_7)⟩] := by
  rfl

theorem outK_eq : out0_8 x0 x1 x2 x3 x4 x5 x6 = View.canon
    [⟨r0_51, tileK (View.ld x0 r0_41) (View.ld x1 r0_5) (View.ld x2 r0_7)⟩,
      ⟨r0_42, tileK (View.ld x0 r0_31) (View.ld x1 r0_5) (View.ld x2 r0_7)⟩,
      ⟨r0_32, tileK (View.ld x0 r0_21) (View.ld x1 r0_5) (View.ld x2 r0_7)⟩,
      ⟨r0_22, tileK (View.ld x0 r0_4) (View.ld x1 r0_5) (View.ld x2 r0_7)⟩] := by
  rfl

theorem outV_eq : out0_9 x0 x1 x2 x3 x4 x5 x6 = View.canon
    [⟨r0_51, tileV (View.ld x0 r0_41) (View.ld x1 r0_5) (View.ld x2 r0_7)⟩,
      ⟨r0_42, tileV (View.ld x0 r0_31) (View.ld x1 r0_5) (View.ld x2 r0_7)⟩,
      ⟨r0_32, tileV (View.ld x0 r0_21) (View.ld x1 r0_5) (View.ld x2 r0_7)⟩,
      ⟨r0_22, tileV (View.ld x0 r0_4) (View.ld x1 r0_5) (View.ld x2 r0_7)⟩] := by
  rfl

theorem outB_eq : out0_10 x0 x1 x2 x3 x4 x5 x6 = View.canon
    [⟨r0_50, tileB (View.ld x0 r0_41) (View.ld x1 r0_5) (View.ld x2 r0_6) (View.ld x3 r0_8) (View.ld x4 r0_8)
        (View.ld x5 r0_3) (View.ld x6 r0_18) 128 384 slices_S256x512_o128_384_S128x128⟩,
      ⟨r0_49, tileB (View.ld x0 r0_41) (View.ld x1 r0_5) (View.ld x2 r0_6) (View.ld x3 r0_8) (View.ld x4 r0_8)
        (View.ld x5 r0_3) (View.ld x6 r0_18) 0 384 slices_S256x512_o0_384_S128x128⟩,
      ⟨r0_48, tileB (View.ld x0 r0_41) (View.ld x1 r0_5) (View.ld x2 r0_6) (View.ld x3 r0_8) (View.ld x4 r0_8)
        (View.ld x5 r0_2) (View.ld x6 r0_15) 128 256 slices_S256x512_o128_256_S128x128⟩,
      ⟨r0_47, tileB (View.ld x0 r0_41) (View.ld x1 r0_5) (View.ld x2 r0_6) (View.ld x3 r0_8) (View.ld x4 r0_8)
        (View.ld x5 r0_2) (View.ld x6 r0_15) 0 256 slices_S256x512_o0_256_S128x128⟩,
      ⟨r0_46, tileB (View.ld x0 r0_41) (View.ld x1 r0_5) (View.ld x2 r0_6) (View.ld x3 r0_8) (View.ld x4 r0_8)
        (View.ld x5 r0_1) (View.ld x6 r0_12) 128 128 slices_S256x512_o128_128_S128x128⟩,
      ⟨r0_45, tileB (View.ld x0 r0_41) (View.ld x1 r0_5) (View.ld x2 r0_6) (View.ld x3 r0_8) (View.ld x4 r0_8)
        (View.ld x5 r0_1) (View.ld x6 r0_12) 0 128 slices_S256x512_o0_128_S128x128⟩,
      ⟨r0_44, tileB (View.ld x0 r0_41) (View.ld x1 r0_5) (View.ld x2 r0_6) (View.ld x3 r0_8) (View.ld x4 r0_8)
        (View.ld x5 r0_0) (View.ld x6 r0_9) 128 0 slices_S256x512_o128_0_S128x128⟩,
      ⟨r0_43, tileB (View.ld x0 r0_41) (View.ld x1 r0_5) (View.ld x2 r0_6) (View.ld x3 r0_8) (View.ld x4 r0_8)
        (View.ld x5 r0_0) (View.ld x6 r0_9) 0 0 slices_S256x512_o0_0_S128x128⟩,
      ⟨r0_40, tileB (View.ld x0 r0_31) (View.ld x1 r0_5) (View.ld x2 r0_6) (View.ld x3 r0_8) (View.ld x4 r0_8)
        (View.ld x5 r0_3) (View.ld x6 r0_18) 128 384 slices_S256x512_o128_384_S128x128⟩,
      ⟨r0_39, tileB (View.ld x0 r0_31) (View.ld x1 r0_5) (View.ld x2 r0_6) (View.ld x3 r0_8) (View.ld x4 r0_8)
        (View.ld x5 r0_3) (View.ld x6 r0_18) 0 384 slices_S256x512_o0_384_S128x128⟩,
      ⟨r0_38, tileB (View.ld x0 r0_31) (View.ld x1 r0_5) (View.ld x2 r0_6) (View.ld x3 r0_8) (View.ld x4 r0_8)
        (View.ld x5 r0_2) (View.ld x6 r0_15) 128 256 slices_S256x512_o128_256_S128x128⟩,
      ⟨r0_37, tileB (View.ld x0 r0_31) (View.ld x1 r0_5) (View.ld x2 r0_6) (View.ld x3 r0_8) (View.ld x4 r0_8)
        (View.ld x5 r0_2) (View.ld x6 r0_15) 0 256 slices_S256x512_o0_256_S128x128⟩,
      ⟨r0_36, tileB (View.ld x0 r0_31) (View.ld x1 r0_5) (View.ld x2 r0_6) (View.ld x3 r0_8) (View.ld x4 r0_8)
        (View.ld x5 r0_1) (View.ld x6 r0_12) 128 128 slices_S256x512_o128_128_S128x128⟩,
      ⟨r0_35, tileB (View.ld x0 r0_31) (View.ld x1 r0_5) (View.ld x2 r0_6) (View.ld x3 r0_8) (View.ld x4 r0_8)
        (View.ld x5 r0_1) (View.ld x6 r0_12) 0 128 slices_S256x512_o0_128_S128x128⟩,
      ⟨r0_34, tileB (View.ld x0 r0_31) (View.ld x1 r0_5) (View.ld x2 r0_6) (View.ld x3 r0_8) (View.ld x4 r0_8)
        (View.ld x5 r0_0) (View.ld x6 r0_9) 128 0 slices_S256x512_o128_0_S128x128⟩,
      ⟨r0_33, tileB (View.ld x0 r0_31) (View.ld x1 r0_5) (View.ld x2 r0_6) (View.ld x3 r0_8) (View.ld x4 r0_8)
        (View.ld x5 r0_0) (View.ld x6 r0_9) 0 0 slices_S256x512_o0_0_S128x128⟩,
      ⟨r0_30, tileB (View.ld x0 r0_21) (View.ld x1 r0_5) (View.ld x2 r0_6) (View.ld x3 r0_8) (View.ld x4 r0_8)
        (View.ld x5 r0_3) (View.ld x6 r0_18) 128 384 slices_S256x512_o128_384_S128x128⟩,
      ⟨r0_29, tileB (View.ld x0 r0_21) (View.ld x1 r0_5) (View.ld x2 r0_6) (View.ld x3 r0_8) (View.ld x4 r0_8)
        (View.ld x5 r0_3) (View.ld x6 r0_18) 0 384 slices_S256x512_o0_384_S128x128⟩,
      ⟨r0_28, tileB (View.ld x0 r0_21) (View.ld x1 r0_5) (View.ld x2 r0_6) (View.ld x3 r0_8) (View.ld x4 r0_8)
        (View.ld x5 r0_2) (View.ld x6 r0_15) 128 256 slices_S256x512_o128_256_S128x128⟩,
      ⟨r0_27, tileB (View.ld x0 r0_21) (View.ld x1 r0_5) (View.ld x2 r0_6) (View.ld x3 r0_8) (View.ld x4 r0_8)
        (View.ld x5 r0_2) (View.ld x6 r0_15) 0 256 slices_S256x512_o0_256_S128x128⟩,
      ⟨r0_26, tileB (View.ld x0 r0_21) (View.ld x1 r0_5) (View.ld x2 r0_6) (View.ld x3 r0_8) (View.ld x4 r0_8)
        (View.ld x5 r0_1) (View.ld x6 r0_12) 128 128 slices_S256x512_o128_128_S128x128⟩,
      ⟨r0_25, tileB (View.ld x0 r0_21) (View.ld x1 r0_5) (View.ld x2 r0_6) (View.ld x3 r0_8) (View.ld x4 r0_8)
        (View.ld x5 r0_1) (View.ld x6 r0_12) 0 128 slices_S256x512_o0_128_S128x128⟩,
      ⟨r0_24, tileB (View.ld x0 r0_21) (View.ld x1 r0_5) (View.ld x2 r0_6) (View.ld x3 r0_8) (View.ld x4 r0_8)
        (View.ld x5 r0_0) (View.ld x6 r0_9) 128 0 slices_S256x512_o128_0_S128x128⟩,
      ⟨r0_23, tileB (View.ld x0 r0_21) (View.ld x1 r0_5) (View.ld x2 r0_6) (View.ld x3 r0_8) (View.ld x4 r0_8)
        (View.ld x5 r0_0) (View.ld x6 r0_9) 0 0 slices_S256x512_o0_0_S128x128⟩,
      ⟨r0_20, tileB (View.ld x0 r0_4) (View.ld x1 r0_5) (View.ld x2 r0_6) (View.ld x3 r0_8) (View.ld x4 r0_8)
        (View.ld x5 r0_3) (View.ld x6 r0_18) 128 384 slices_S256x512_o128_384_S128x128⟩,
      ⟨r0_19, tileB (View.ld x0 r0_4) (View.ld x1 r0_5) (View.ld x2 r0_6) (View.ld x3 r0_8) (View.ld x4 r0_8)
        (View.ld x5 r0_3) (View.ld x6 r0_18) 0 384 slices_S256x512_o0_384_S128x128⟩,
      ⟨r0_17, tileB (View.ld x0 r0_4) (View.ld x1 r0_5) (View.ld x2 r0_6) (View.ld x3 r0_8) (View.ld x4 r0_8)
        (View.ld x5 r0_2) (View.ld x6 r0_15) 128 256 slices_S256x512_o128_256_S128x128⟩,
      ⟨r0_16, tileB (View.ld x0 r0_4) (View.ld x1 r0_5) (View.ld x2 r0_6) (View.ld x3 r0_8) (View.ld x4 r0_8)
        (View.ld x5 r0_2) (View.ld x6 r0_15) 0 256 slices_S256x512_o0_256_S128x128⟩,
      ⟨r0_14, tileB (View.ld x0 r0_4) (View.ld x1 r0_5) (View.ld x2 r0_6) (View.ld x3 r0_8) (View.ld x4 r0_8)
        (View.ld x5 r0_1) (View.ld x6 r0_12) 128 128 slices_S256x512_o128_128_S128x128⟩,
      ⟨r0_13, tileB (View.ld x0 r0_4) (View.ld x1 r0_5) (View.ld x2 r0_6) (View.ld x3 r0_8) (View.ld x4 r0_8)
        (View.ld x5 r0_1) (View.ld x6 r0_12) 0 128 slices_S256x512_o0_128_S128x128⟩,
      ⟨r0_11, tileB (View.ld x0 r0_4) (View.ld x1 r0_5) (View.ld x2 r0_6) (View.ld x3 r0_8) (View.ld x4 r0_8)
        (View.ld x5 r0_0) (View.ld x6 r0_9) 128 0 slices_S256x512_o128_0_S128x128⟩,
      ⟨r0_10, tileB (View.ld x0 r0_4) (View.ld x1 r0_5) (View.ld x2 r0_6) (View.ld x3 r0_8) (View.ld x4 r0_8)
        (View.ld x5 r0_0) (View.ld x6 r0_9) 0 0 slices_S256x512_o0_0_S128x128⟩] := by
  rfl

end Defs

/-! ## One element -/

theorem hidden_apply (x : Vec Ideal S256x1024 .f32) (g : Vec Ideal S1x1024 .f32) (r : Fin 256) (j : Fin 1024) :
    hidden (F := Ideal) x g (ix2 r j) = rmsNorm (fun k => x (ix2 r k)) (fun k => g (ix2 0 k)) j := by
  unfold hidden
  pointwise
  rfl

theorem qkv_apply (h : FVec Ideal S256x1024 .bf16) (w : Vec Ideal S1x1024x1536 .bf16) (r : Fin 256) (f : Fin 1536) :
    qkv (F := Ideal) h w (ix2 r f) = dot (fun k => h (ix2 r k)) (fun k => w (ix3 0 k f)) := by
  unfold qkv
  pointwise
  rfl

theorem halves_apply (h : FVec Ideal S256x1024 .bf16) (w : Vec Ideal S1x1024x1024 .bf16) (r : Fin 256) (f : Fin 1024) :
    halves (F := Ideal) h w (ix2 r f) = dot (fun k => h (ix2 r k)) (fun k => w (ix3 0 k f)) := by
  unfold halves
  pointwise
  rfl

section Elements

variable (x : Vec Ideal S256x1024 .f32) (g : Vec Ideal S1x1024 .f32) (w : Vec Ideal S1x1024x1536 .bf16)
  (wz : Vec Ideal S1x1024x1024 .bf16) (lg lb : Vec Ideal S1x512 .f32) (r : Fin 256)

theorem row_qkv (f : Fin 1536) : qkv (F := Ideal) (hidden x g) w (ix2 r f)
    = dot (rmsNorm (fun k => x (ix2 r k)) (fun k => g (ix2 0 k))) (fun k => w (ix3 0 k f)) := by
  rw [qkv_apply]; simp only [hidden_apply]

theorem row_halves (f : Fin 1024) : halves (F := Ideal) (hidden x g) wz (ix2 r f)
    = dot (rmsNorm (fun k => x (ix2 r k)) (fun k => g (ix2 0 k))) (fun k => wz (ix3 0 k f)) := by
  rw [halves_apply]; simp only [hidden_apply]

theorem tileQ_apply (j : Fin 512) : tileQ (F := Ideal) x g w (ix2 r j)
    = dot (rmsNorm (fun k => x (ix2 r k)) (fun k => g (ix2 0 k))) (fun k => w (ix3 0 k ⟨j.val, by omega⟩))
      * Ideal.ofBits .f32 0x3E38AA3B#32 := by
  rw [← row_qkv]
  unfold tileQ
  generalize qkv (F := Ideal) (hidden x g) w = y
  pointwise

theorem tileK_apply (j : Fin 512) : tileK (F := Ideal) x g w (ix2 r j)
    = dot (rmsNorm (fun k => x (ix2 r k)) (fun k => g (ix2 0 k))) (fun k => w (ix3 0 k ⟨512 + j.val, by omega⟩)) := by
  rw [← row_qkv]
  unfold tileK
  generalize qkv (F := Ideal) (hidden x g) w = y
  pointwise

theorem tileV_apply (j : Fin 512) : tileV (F := Ideal) x g w (ix2 r j)
    = dot (rmsNorm (fun k => x (ix2 r k)) (fun k => g (ix2 0 k))) (fun k => w (ix3 0 k ⟨1024 + j.val, by omega⟩)) := by
  rw [← row_qkv]
  unfold tileV
  generalize qkv (F := Ideal) (hidden x g) w = y
  pointwise

theorem gated_apply (y : FVec Ideal S256x512 .f32) (j : Fin 512) : gated (F := Ideal) y (ix2 r j) = gelu (y (ix2 r j)) := by
  unfold gated gelu
  rw [← one_word]
  rfl

theorem centred_apply (z : FVec Ideal S256x512 .f32) (j : Fin 512) :
    centred (F := Ideal) z (ix2 r j) = z (ix2 r j) - mean (fun k => z (ix2 r k)) := by
  unfold centred
  pointwise
  rfl

theorem normed_apply (d : FVec Ideal S256x512 .f32) (j : Fin 512) : normed (F := Ideal) d lg lb (ix2 r j)
    = d (ix2 r j) * Ideal.rsqrt (Ideal.div (∑ k, d (ix2 r k) * d (ix2 r k)) dGate + eps) * lg (ix2 0 j) + lb (ix2 0 j) := by
  unfold normed
  pointwise
  rfl

theorem tileU_apply (j : Fin 512) : tileU (F := Ideal) x g wz (ix2 r j)
    = gelu (dot (rmsNorm (fun k => x (ix2 r k)) (fun k => g (ix2 0 k))) (fun k => wz (ix3 0 k ⟨j.val, by omega⟩))) := by
  rw [← row_halves]
  unfold tileU
  rw [gated_apply]
  generalize halves (F := Ideal) (hidden x g) wz = y
  pointwise

theorem tileN_apply (j : Fin 512) : tileN (F := Ideal) x g wz lg lb (ix2 r j)
    = layerNorm (fun i => gelu (dot (rmsNorm (fun k => x (ix2 r k)) (fun k => g (ix2 0 k)))
        (fun k => wz (ix3 0 k ⟨512 + i.val, by omega⟩)))) (fun k => lg (ix2 0 k)) (fun k => lb (ix2 0 k)) j := by
  simp only [← row_halves]
  unfold tileN
  generalize halves (F := Ideal) (hidden x g) wz = y
  have e : ∀ i : Fin 512, extractStridedSlice S256x512 ![0, 512] y slices_S256x1024_o0_512_S256x512 (ix2 r i)
      = y (ix2 r ⟨512 + i.val, by omega⟩) := fun i => by pointwise
  rw [normed_apply]
  simp only [centred_apply, gated_apply, e]
  rfl

theorem causal_apply (ws : Vec Ideal S1x128x128 .f32) (t s : Fin 128) :
    causal (F := Ideal) ws (ix2 t s) = if s.val ≤ t.val then ws (ix3 0 t s) else 0 := by
  unfold causal
  pointwise
  rw [le_word t s]
  by_cases h : s.val ≤ t.val
  · rw [if_pos h, if_pos h]; rfl
  · rw [if_neg h, if_neg h]; rfl

theorem mixed_apply (ws : Vec Ideal S1x128x128 .f32) (v : FVec Ideal S128x128 .bf16) (bc : Vec Ideal S128x1 .f32)
    (t l : Fin 128) : mixed (F := Ideal) ws v bc (ix2 t l)
      = causalDot (fun s => ws (ix3 0 t s)) (fun s => v (ix2 s l)) t + bc (ix2 t 0) := by
  have e := fun s => causal_apply ws t s
  unfold causalDot
  unfold mixed
  generalize causal (F := Ideal) ws = y at e ⊢
  simp only [← e]
  pointwise

/-- An element of the gated unit: its own column of the first half, and the block's rows of the second. -/
theorem tileB_apply (ws : Vec Ideal S1x128x128 .f32) (bc : Vec Ideal S128x1 .f32) (so co : ℕ)
    (h : S256x512.Slices ![so, co] S128x128) (t l : Fin 128) (R : Fin 128 → Fin 256) (j : Fin 512)
    (hR : ∀ s, (R s).val = so + s.val) (hj : j.val = co + l.val) :
    tileB (F := Ideal) x g wz lg lb ws bc so co h (ix2 t l)
      = tileU (F := Ideal) x g wz (ix2 (R t) j)
        * (causalDot (fun s => ws (ix3 0 t s)) (fun s => tileN (F := Ideal) x g wz lg lb (ix2 (R s) j)) t + bc (ix2 t 0)) := by
  have e : ∀ {α : Type} (y : S256x512.Idx → α) (s : Fin 128),
      extractStridedSlice S128x128 ![so, co] y h (ix2 s l) = y (ix2 (R s) j) := fun y s => by
    refine extractStridedSlice_apply (s := S256x512) (t := S128x128) ![so, co] y h (ix2 s l) (ix2 (R s) j) fun a => ?_
    match a with
    | ⟨0, _⟩ => exact hR s
    | ⟨1, _⟩ => exact hj
  unfold tileB
  generalize tileU (F := Ideal) x g wz = u
  generalize tileN (F := Ideal) x g wz lg lb = n
  show (extractStridedSlice S128x128 ![so, co] u h (ix2 t l) : EReal) * mixed (F := Ideal) ws _ bc (ix2 t l) = _
  rw [mixed_apply, e]
  simp only [e]

end Elements

end Cert.Proof.InA

end
-- ==== Proof.InABlock.lean ====
/-
  The block that one grid point of the first layer's input projection writes in each result, at an element.
-/
module

public import proofs.«01_k».proof.Proof.InATile
public import Idealize.ShloMosaic.Lib.Pipeline.ValueKit

@[expose] public section

set_option maxRecDepth 16384

noncomputable section

namespace Cert.Proof.InA

open Idealize.ShloMosaic Idealize.ShloMosaic.Tactic Idealize.ShloMosaic.TcCoe
open Cert.InAIdeal Cert.InAIdeal.Gen Cert.Proof.Rows

variable (x : Vec Ideal S1024x1024 .f32) (g : Vec Ideal S1x1024 .f32) (w : Vec Ideal S1x1024x2560 .bf16)
  (lg lb : Vec Ideal S1x512 .f32) (ws : Vec Ideal S4x128x128 .f32) (bs : Vec Ideal S128x4 .f32)

/-! Row `y` of each result's block, element `j`. -/

/-- The queries. -/
def blockQ (y : Fin 1024) (j : Fin 512) : EReal :=
  dot (rmsNorm (fun k => x (ix2 y k)) (fun k => g (ix2 0 k))) (fun k => w (ix3 0 k ⟨j.val, by omega⟩)) * Ideal.ofBits .f32 0x3E38AA3B#32

/-- The keys. -/
def blockK (y : Fin 1024) (j : Fin 512) : EReal :=
  dot (rmsNorm (fun k => x (ix2 y k)) (fun k => g (ix2 0 k))) (fun k => w (ix3 0 k ⟨512 + j.val, by omega⟩))

/-- The values. -/
def blockV (y : Fin 1024) (j : Fin 512) : EReal :=
  dot (rmsNorm (fun k => x (ix2 y k)) (fun k => g (ix2 0 k))) (fun k => w (ix3 0 k ⟨1024 + j.val, by omega⟩))

/-- The gate's first half. -/
def blockU (y : Fin 1024) (j : Fin 512) : EReal :=
  gelu (dot (rmsNorm (fun k => x (ix2 y k)) (fun k => g (ix2 0 k))) (fun k => w (ix3 0 k ⟨1536 + j.val, by omega⟩)))

/-- The gate's second half, normalized. -/
def blockN (y : Fin 1024) (j : Fin 512) : EReal :=
  layerNorm (fun i => gelu (dot (rmsNorm (fun k => x (ix2 y k)) (fun k => g (ix2 0 k)))
    (fun k => w (ix3 0 k ⟨2048 + i.val, by omega⟩)))) (fun k => lg (ix2 0 k)) (fun k => lb (ix2 0 k)) j

/-- The gated unit: each 128 tokens mix among themselves, by the weights of the column's group. -/
def blockB (y : Fin 1024) (j : Fin 512) : EReal :=
  blockU x g w y j * (causalDot (fun s => ws (ix3 ⟨j.val / 128, by omega⟩ ⟨y.val % 128, by omega⟩ s))
      (fun s => blockN x g w lg lb ⟨y.val / 128 * 128 + s.val, by omega⟩ j) ⟨y.val % 128, by omega⟩
    + bs (ix2 ⟨y.val % 128, by omega⟩ ⟨j.val / 128, by omega⟩))

/-- The rows from `ro` on. -/
theorem rows_load (ro : ℕ) (i1 : ∀ a, ![ro, 0] a + S256x1024.size a ≤ S1024x1024.size a) (r : Fin 256) (y : Fin 1024)
    (ey : y.val = ro + r.val) (k : Fin 1024) :
    View.ld x (Rect.unit (s := S1024x1024) ![ro, 0] S256x1024.size i1) (ix2 r k) = x (ix2 y k) :=
  View.ld_unit_apply_of x _ _ _ (ix2 r k) _ (fun a => match a with
    | ⟨0, _⟩ => ey
    | ⟨1, _⟩ => (Nat.zero_add _).symm)

/-- The columns of queries, keys and values. -/
theorem qkv_load (k : Fin 1024) (f : Fin 1536) : View.ld w r0_7 (ix3 0 k f) = w (ix3 0 k ⟨f.val, by omega⟩) :=
  View.ld_unit_apply_of w _ _ _ (ix3 0 k f) _ (fun a => match a with
    | ⟨0, _⟩ => (Nat.zero_add _).symm
    | ⟨1, _⟩ => (Nat.zero_add _).symm
    | ⟨2, _⟩ => (Nat.zero_add _).symm)

/-- The columns of the gated unit. -/
theorem halves_load (k : Fin 1024) (f : Fin 1024) : View.ld w r0_6 (ix3 0 k f) = w (ix3 0 k ⟨1536 + f.val, by omega⟩) :=
  View.ld_unit_apply_of w _ _ _ (ix3 0 k f) _ (fun a => match a with
    | ⟨0, _⟩ => (Nat.zero_add _).symm
    | ⟨1, _⟩ => (Nat.zero_add _).symm
    | ⟨2, _⟩ => rfl)

/-- A group's weights. -/
theorem group_load (gr : ℕ) (hg : gr < 4) (i1 : ∀ a, ![gr, 0, 0] a + S1x128x128.size a ≤ S4x128x128.size a) (t s : Fin 128) :
    View.ld ws (Rect.unit (s := S4x128x128) ![gr, 0, 0] S1x128x128.size i1) (ix3 0 t s) = ws (ix3 ⟨gr, hg⟩ t s) :=
  View.ld_unit_apply_of ws _ _ _ (ix3 0 t s) _ (fun a => match a with
    | ⟨0, _⟩ => rfl
    | ⟨1, _⟩ => (Nat.zero_add _).symm
    | ⟨2, _⟩ => (Nat.zero_add _).symm)

/-- A group's offsets. -/
theorem offset_load (gr : ℕ) (hg : gr < 4) (i1 : ∀ a, ![0, gr] a + S128x1.size a ≤ S128x4.size a) (t : Fin 128) :
    View.ld bs (Rect.unit (s := S128x4) ![0, gr] S128x1.size i1) (ix2 t 0) = bs (ix2 t ⟨gr, hg⟩) :=
  View.ld_unit_apply_of bs _ _ _ (ix2 t 0) _ (fun a => match a with
    | ⟨0, _⟩ => (Nat.zero_add _).symm
    | ⟨1, _⟩ => rfl)

theorem tileQ_eq (X : Vec Ideal S256x1024 .f32) (W : Vec Ideal S1x1024x1536 .bf16) (r : Fin 256) (y : Fin 1024) (j : Fin 512)
    (hx : ∀ k, X (ix2 r k) = x (ix2 y k))
    (hw : ∀ (k : Fin 1024) (f : Fin 1536), W (ix3 0 k f) = w (ix3 0 k ⟨f.val, by omega⟩)) :
    tileQ (F := Ideal) X g W (ix2 r j) = blockQ x g w y j := by
  rw [tileQ_apply]
  simp only [hx, hw]
  rfl

theorem pieceQ (ro : ℕ) (i1 : ∀ a, ![ro, 0] a + S256x1024.size a ≤ S1024x1024.size a)
    (z : S256x512.Idx) (y : Fin 1024) (j : Fin 512) (ey : y.val = ro + (z 0).val) (ej : j.val = (z 1).val) :
    tileQ (F := Ideal) (View.ld x (Rect.unit (s := S1024x1024) ![ro, 0] S256x1024.size i1)) (View.ld g r0_5)
        (View.ld w r0_7) z = blockQ x g w y j := by
  obtain ⟨r, l, rfl⟩ : ∃ (r : Fin 256) (l : Fin 512), z = ix2 r l := ⟨z 0, z 1, funext fun a => match a with
    | ⟨0, _⟩ => rfl
    | ⟨1, _⟩ => rfl⟩
  change y.val = ro + r.val at ey
  obtain rfl : j = l := Fin.ext ej
  have h1 : ∀ v : Vec Ideal S1x1024 .f32, View.ld v r0_5 = v := fun v => View.ld_unit_lit _ v (by decide)
  rw [h1 g]
  exact tileQ_eq x g w _ _ r y j (rows_load x ro i1 r y ey) (qkv_load w)

theorem outQ_apply (y : Fin 1024) (j : Fin 512) :
    out0_7 (F := Ideal) x g w lg lb ws bs (ix2 y j) = blockQ x g w y j := by
  rw [outQ_eq]
  canon_tiles z e
  all_goals
    change y.val = _ at e0
    change j.val = _ at e1
    refine pieceQ x g w _ _ z y j ?_ ?_
    · first
        | exact e0
        | exact e0.trans (Nat.zero_add _).symm
    · first
        | exact e1
        | exact e1.trans (Nat.zero_add _)

theorem tileK_eq (X : Vec Ideal S256x1024 .f32) (W : Vec Ideal S1x1024x1536 .bf16) (r : Fin 256) (y : Fin 1024) (j : Fin 512)
    (hx : ∀ k, X (ix2 r k) = x (ix2 y k))
    (hw : ∀ (k : Fin 1024) (f : Fin 1536), W (ix3 0 k f) = w (ix3 0 k ⟨f.val, by omega⟩)) :
    tileK (F := Ideal) X g W (ix2 r j) = blockK x g w y j := by
  rw [tileK_apply]
  simp only [hx, hw]
  rfl

theorem pieceK (ro : ℕ) (i1 : ∀ a, ![ro, 0] a + S256x1024.size a ≤ S1024x1024.size a)
    (z : S256x512.Idx) (y : Fin 1024) (j : Fin 512) (ey : y.val = ro + (z 0).val) (ej : j.val = (z 1).val) :
    tileK (F := Ideal) (View.ld x (Rect.unit (s := S1024x1024) ![ro, 0] S256x1024.size i1)) (View.ld g r0_5)
        (View.ld w r0_7) z = blockK x g w y j := by
  obtain ⟨r, l, rfl⟩ : ∃ (r : Fin 256) (l : Fin 512), z = ix2 r l := ⟨z 0, z 1, funext fun a => match a with
    | ⟨0, _⟩ => rfl
    | ⟨1, _⟩ => rfl⟩
  change y.val = ro + r.val at ey
  obtain rfl : j = l := Fin.ext ej
  have h1 : ∀ v : Vec Ideal S1x1024 .f32, View.ld v r0_5 = v := fun v => View.ld_unit_lit _ v (by decide)
  rw [h1 g]
  exact tileK_eq x g w _ _ r y j (rows_load x ro i1 r y ey) (qkv_load w)

theorem outK_apply (y : Fin 1024) (j : Fin 512) :
    out0_8 (F := Ideal) x g w lg lb ws bs (ix2 y j) = blockK x g w y j := by
  rw [outK_eq]
  canon_tiles z e
  all_goals
    change y.val = _ at e0
    change j.val = _ at e1
    refine pieceK x g w _ _ z y j ?_ ?_
    · first
        | exact e0
        | exact e0.trans (Nat.zero_add _).symm
    · first
        | exact e1
        | exact e1.trans (Nat.zero_add _)

theorem tileV_eq (X : Vec Ideal S256x1024 .f32) (W : Vec Ideal S1x1024x1536 .bf16) (r : Fin 256) (y : Fin 1024) (j : Fin 512)
    (hx : ∀ k, X (ix2 r k) = x (ix2 y k))
    (hw : ∀ (k : Fin 1024) (f : Fin 1536), W (ix3 0 k f) = w (ix3 0 k ⟨f.val, by omega⟩)) :
    tileV (F := Ideal) X g W (ix2 r j) = blockV x g w y j := by
  rw [tileV_apply]
  simp only [hx, hw]
  rfl

theorem pieceV (ro : ℕ) (i1 : ∀ a, ![ro, 0] a + S256x1024.size a ≤ S1024x1024.size a)
    (z : S256x512.Idx) (y : Fin 1024) (j : Fin 512) (ey : y.val = ro + (z 0).val) (ej : j.val = (z 1).val) :
    tileV (F := Ideal) (View.ld x (Rect.unit (s := S1024x1024) ![ro, 0] S256x1024.size i1)) (View.ld g r0_5)
        (View.ld w r0_7) z = blockV x g w y j := by
  obtain ⟨r, l, rfl⟩ : ∃ (r : Fin 256) (l : Fin 512), z = ix2 r l := ⟨z 0, z 1, funext fun a => match a with
    | ⟨0, _⟩ => rfl
    | ⟨1, _⟩ => rfl⟩
  change y.val = ro + r.val at ey
  obtain rfl : j = l := Fin.ext ej
  have h1 : ∀ v : Vec Ideal S1x1024 .f32, View.ld v r0_5 = v := fun v => View.ld_unit_lit _ v (by decide)
  rw [h1 g]
  exact tileV_eq x g w _ _ r y j (rows_load x ro i1 r y ey) (qkv_load w)

theorem outV_apply (y : Fin 1024) (j : Fin 512) :
    out0_9 (F := Ideal) x g w lg lb ws bs (ix2 y j) = blockV x g w y j := by
  rw [outV_eq]
  canon_tiles z e
  all_goals
    change y.val = _ at e0
    change j.val = _ at e1
    refine pieceV x g w _ _ z y j ?_ ?_
    · first
        | exact e0
        | exact e0.trans (Nat.zero_add _).symm
    · first
        | exact e1
        | exact e1.trans (Nat.zero_add _)

theorem tileB_eq (X : Vec Ideal S256x1024 .f32) (W : Vec Ideal S1x1024x1024 .bf16) (WS : Vec Ideal S1x128x128 .f32)
    (B : Vec Ideal S128x1 .f32) (ro so co gr : ℕ) (hg : gr < 4) (hco : co = gr * 128) (hro : (ro + so) % 128 = 0)
    (hso : so ≤ 128) (h : S256x512.Slices ![so, co] S128x128) (t l : Fin 128) (y : Fin 1024) (j : Fin 512)
    (ey : y.val = ro + so + t.val) (ej : j.val = co + l.val)
    (hx : ∀ (r : Fin 256) (y : Fin 1024), y.val = ro + r.val → ∀ k, X (ix2 r k) = x (ix2 y k))
    (hw : ∀ (k f : Fin 1024), W (ix3 0 k f) = w (ix3 0 k ⟨1536 + f.val, by omega⟩))
    (hs : ∀ t s, WS (ix3 0 t s) = ws (ix3 ⟨gr, hg⟩ t s)) (hb : ∀ t, B (ix2 t 0) = bs (ix2 t ⟨gr, hg⟩)) :
    tileB (F := Ideal) X g W lg lb WS B so co h (ix2 t l) = blockB x g w lg lb ws bs y j := by
  have et : (⟨y.val % 128, by omega⟩ : Fin 128) = t := Fin.ext (by show y.val % 128 = t.val; omega)
  have eg : (⟨j.val / 128, by omega⟩ : Fin 4) = ⟨gr, hg⟩ := Fin.ext (by show j.val / 128 = gr; omega)
  have eR : ∀ s : Fin 128, (⟨y.val / 128 * 128 + s.val, by omega⟩ : Fin 1024).val
      = ro + (⟨so + s.val, by omega⟩ : Fin 256).val := fun s => by
    show y.val / 128 * 128 + s.val = ro + (so + s.val); omega
  have eU : tileU (F := Ideal) X g W (ix2 ⟨so + t.val, by omega⟩ j) = blockU x g w y j := by
    have e : y.val = ro + (⟨so + t.val, by omega⟩ : Fin 256).val := by show y.val = ro + (so + t.val); omega
    rw [tileU_apply]
    simp only [hx _ y e, hw]
    rfl
  have e2 : ∀ i : Fin 512, (⟨1536 + (⟨512 + i.val, by omega⟩ : Fin 1024).val, by omega⟩ : Fin 2560) = ⟨2048 + i.val, by omega⟩ :=
    fun i => Fin.ext (by show 1536 + (512 + i.val) = 2048 + i.val; omega)
  have eN : ∀ s : Fin 128, tileN (F := Ideal) X g W lg lb (ix2 ⟨so + s.val, by omega⟩ j)
      = blockN x g w lg lb ⟨y.val / 128 * 128 + s.val, by omega⟩ j := fun s => by
    rw [tileN_apply]
    simp only [hx _ _ (eR s), hw, e2]
    rfl
  rw [tileB_apply X g W lg lb WS B so co h t l (fun s => ⟨so + s.val, by omega⟩) j (fun _ => rfl) ej]
  unfold blockB
  rw [et, eg]
  simp only [eU, eN, hs, hb]

theorem pieceB (ro so co gr : ℕ) (i1 : ∀ a, ![ro, 0] a + S256x1024.size a ≤ S1024x1024.size a)
    (i2 : ∀ a, ![gr, 0, 0] a + S1x128x128.size a ≤ S4x128x128.size a) (i3 : ∀ a, ![0, gr] a + S128x1.size a ≤ S128x4.size a)
    (h : S256x512.Slices ![so, co] S128x128) (hg : gr < 4) (hco : co = gr * 128) (hro : (ro + so) % 128 = 0) (hso : so ≤ 128)
    (z : S128x128.Idx) (y : Fin 1024) (j : Fin 512) (ey : y.val = ro + so + (z 0).val) (ej : j.val = co + (z 1).val) :
    tileB (F := Ideal) (View.ld x (Rect.unit (s := S1024x1024) ![ro, 0] S256x1024.size i1)) (View.ld g r0_5)
        (View.ld w r0_6) (View.ld lg r0_8) (View.ld lb r0_8)
        (View.ld ws (Rect.unit (s := S4x128x128) ![gr, 0, 0] S1x128x128.size i2))
        (View.ld bs (Rect.unit (s := S128x4) ![0, gr] S128x1.size i3)) so co h z = blockB x g w lg lb ws bs y j := by
  obtain ⟨t, l, rfl⟩ : ∃ (t : Fin 128) (l : Fin 128), z = ix2 t l := ⟨z 0, z 1, funext fun a => match a with
    | ⟨0, _⟩ => rfl
    | ⟨1, _⟩ => rfl⟩
  have h1 : ∀ v : Vec Ideal S1x1024 .f32, View.ld v r0_5 = v := fun v => View.ld_unit_lit _ v (by decide)
  have h8 : ∀ v : Vec Ideal S1x512 .f32, View.ld v r0_8 = v := fun v => View.ld_unit_lit _ v (by decide)
  rw [h1 g, h8 lg, h8 lb]
  exact tileB_eq x g w lg lb ws bs _ _ _ _ ro so co gr hg hco hro hso h t l y j ey ej
    (fun r y e => rows_load x ro i1 r y e) (halves_load w) (group_load ws gr hg i2) (offset_load bs gr hg i3)

theorem outB_apply (y : Fin 1024) (j : Fin 512) :
    out0_10 (F := Ideal) x g w lg lb ws bs (ix2 y j) = blockB x g w lg lb ws bs y j := by
  rw [outB_eq]
  canon_tiles z e
  all_goals
    change y.val = _ at e0
    change j.val = _ at e1
    refine pieceB x g w lg lb ws bs _ _ _ _ _ _ _ _ (by decide) (by decide) (by decide) (by decide) z y j ?_ ?_
    · first
        | exact e0
        | exact e0.trans (Nat.zero_add _).symm
    · first
        | exact e1
        | exact e1.trans (Nat.zero_add _).symm

end Cert.Proof.InA

end
-- ==== Proof.InARef.lean ====
/-
  The reference for the first layer's input projection, read at an element.
-/
module

public import proofs.«01_k».proof.Proof.InARows
public import proofs.«01_k».proof.Proof.Gen.InARefIdeal.Read
public import Idealize.ShloMosaic.Lib.Pointwise

@[expose] public section

set_option maxRecDepth 16384

noncomputable section

namespace Cert.Proof.InARef

open Idealize.ShloMosaic Idealize.ShloMosaic.Tactic Idealize.ShloMosaic.TcCoe
open Cert.InARefIdeal Cert.InARefIdeal.Gen Cert.InARefIdeal.Read
open Cert.Proof.Rows

variable (x : Vec Ideal S32768x1024 .f32) (g : Vec Ideal S2x1024 .f32) (w : Vec Ideal S1x1024x2560 .f32)
  (lg lb : Vec Ideal S1x512 .f32) (ws : Vec Ideal S1x4x128x128 .f32) (bs : Vec Ideal S1x4x128 .f32) (n : Fin 32768)

theorem hidden_apply (j : Fin 1024) :
    val_main_v14 (F := Ideal) x g (ix2 n j) = rmsNorm (fun k => x (ix2 n k)) (fun k => g (ix2 0 k)) j := by
  unfold val_main_v14 val_main_v13 val_main_v12 val_main_v11 val_main_v10 val_main_v9 val_main_v8 val_main_v7
    val_main_v6 val_main_v5 val_main_v4 val_main_v3 val_main_v2 val_main_v1 val_main_v0 val_main_cst val_main_cst_0
    val_main_cst_1
  pointwise
  rfl

theorem proj_apply (f : Fin 2560) :
    val_main_v16 (F := Ideal) x g w (ix2 n f)
      = dot (rmsNorm (fun k => x (ix2 n k)) (fun k => g (ix2 0 k))) (fun k => w (ix3 0 k f)) := by
  have e : val_main_v16 (F := Ideal) x g w (ix2 n f)
      = dot (fun k => val_main_v14 (F := Ideal) x g (ix2 n k)) (fun k => w (ix3 0 k f)) := by
    unfold val_main_v16 val_main_v15
    generalize val_main_v14 (F := Ideal) x g = y
    pointwise
    rfl
  rw [e]
  simp only [hidden_apply]

theorem refQ_apply (j : Fin 512) : val_main_v80 (F := Ideal) x g w (ix2 n j)
    = dot (rmsNorm (fun k => x (ix2 n k)) (fun k => g (ix2 0 k))) (fun k => w (ix3 0 k ⟨j.val, by omega⟩))
      * Ideal.ofBits .f32 0x3E38AA3B#32 := by
  rw [← proj_apply]
  unfold val_main_v80 val_main_v79 val_main_v78 val_main_v17 val_main_cst_12
  generalize val_main_v16 (F := Ideal) x g w = y
  pointwise

theorem refK_apply (j : Fin 512) : val_main_v81 (F := Ideal) x g w (ix2 n j)
    = dot (rmsNorm (fun k => x (ix2 n k)) (fun k => g (ix2 0 k))) (fun k => w (ix3 0 k ⟨512 + j.val, by omega⟩)) := by
  rw [← proj_apply]
  unfold val_main_v81 val_main_v18
  generalize val_main_v16 (F := Ideal) x g w = y
  pointwise

theorem refV_apply (j : Fin 512) : val_main_v82 (F := Ideal) x g w (ix2 n j)
    = dot (rmsNorm (fun k => x (ix2 n k)) (fun k => g (ix2 0 k))) (fun k => w (ix3 0 k ⟨1024 + j.val, by omega⟩)) := by
  rw [← proj_apply]
  unfold val_main_v82 val_main_v19
  generalize val_main_v16 (F := Ideal) x g w = y
  pointwise

/-! ## The gated unit -/

/-- The gate's first half. -/
def rowU (j : Fin 512) : EReal :=
  gelu (dot (rmsNorm (fun k => x (ix2 n k)) (fun k => g (ix2 0 k))) (fun k => w (ix3 0 k ⟨1536 + j.val, by omega⟩)))

/-- The gate's second half, normalized. -/
def rowN (j : Fin 512) : EReal :=
  layerNorm (fun i => gelu (dot (rmsNorm (fun k => x (ix2 n k)) (fun k => g (ix2 0 k)))
    (fun k => w (ix3 0 k ⟨2048 + i.val, by omega⟩)))) (fun k => lg (ix2 0 k)) (fun k => lb (ix2 0 k)) j

theorem first_apply (j : Fin 512) : val_main_v28 (F := Ideal) x g w (ix2 n j) = rowU x g w n j := by
  unfold rowU
  rw [← proj_apply, ← gelu_erfc]
  unfold val_main_v28 val_main_v27 val_main_v26 val_main_v25 val_main_v24 val_main_v23 val_main_v22 val_main_v20
    val_main_cst_2 val_main_cst_3
  generalize val_main_v16 (F := Ideal) x g w = y
  pointwise
  rfl

theorem second_apply (j : Fin 512) : val_main_v35 (F := Ideal) x g w (ix2 n j)
    = gelu (dot (rmsNorm (fun k => x (ix2 n k)) (fun k => g (ix2 0 k))) (fun k => w (ix3 0 k ⟨2048 + j.val, by omega⟩))) := by
  rw [← proj_apply, ← gelu_erfc]
  unfold val_main_v35 val_main_v34 val_main_v33 val_main_v32 val_main_v31 val_main_v30 val_main_v29 val_main_v21
    val_main_cst_4 val_main_cst_5
  generalize val_main_v16 (F := Ideal) x g w = y
  pointwise
  rfl

theorem norm_apply (j : Fin 512) : val_main_v63 (F := Ideal) x g w lg lb (ix2 n j) = rowN x g w lg lb n j := by
  unfold rowN
  simp only [← second_apply]
  unfold val_main_v63 val_main_v62 val_main_v61 val_main_v60 val_main_v59 val_main_v58 val_main_v57 val_main_v56
    val_main_v55 val_main_v54 val_main_v53 val_main_v52 val_main_v51 val_main_v50 val_main_v49 val_main_v48 val_main_v47
    val_main_v46 val_main_v45 val_main_v44 val_main_v43 val_main_v42 val_main_v41 val_main_v40 val_main_v37 val_main_v36
    val_main_cst_6 val_main_cst_7 val_main_cst_8 val_main_cst_9 val_main_cst_10
  generalize val_main_v35 (F := Ideal) x g w = y
  pointwise
  rfl

theorem causal_apply (q : Fin 4) (t s : Fin 128) : val_main_v69 (F := Ideal) ws (ix3 q t s)
    = if s.val ≤ t.val then ws (ix4 0 q t s) else 0 := by
  unfold val_main_v69 val_main_call1_v0 val_main_v68 val_main_cst_11 val_main_v67 val_main_v66 val_main_call0_v5
    val_main_call0_c_0 val_main_call0_v4 val_main_call0_v3 val_main_call0_v2 val_main_call0_v1 val_main_call0_c
    val_main_call0_v0 val_main_v65 val_main_c val_main_v38
  pointwise
  rw [ge_word t s]
  by_cases h : s.val ≤ t.val
  · rw [if_pos h, if_pos h]; rfl
  · rw [if_neg h, if_neg h]; rfl

/-- The tokens of a block mixed, at token `n` and column `j`. -/
theorem mixed_apply (j : Fin 512) : val_main_v71 (F := Ideal) x g w lg lb ws (idx_main_v76 (ix2 n j))
    = causalDot (fun s => ws (ix4 0 ⟨j.val / 128, by omega⟩ ⟨n.val % 128, by omega⟩ s))
      (fun s => rowN x g w lg lb ⟨n.val / 128 * 128 + s.val, by omega⟩ j) ⟨n.val % 128, by omega⟩ := by
  rw [val_main_v71_apply, val_main_v70_apply]
  unfold causalDot
  refine Finset.sum_congr rfl fun s _ => ?_
  beta_reduce
  rw [val_main_v64_apply, ← norm_apply, ← causal_apply, mul_comm]
  have hn := n.isLt
  have hj := j.isLt
  have hs := s.isLt
  refine congrArg₂ (· * ·) (congrArg (val_main_v69 (F := Ideal) ws) (funext fun a => Fin.ext ?_))
    (congrArg (val_main_v63 (F := Ideal) x g w lg lb) (funext fun a => Fin.ext ?_))
  · match a with
    | ⟨0, _⟩ => show (n.val * 512 + j.val) / 128 % 4 = j.val / 128; omega
    | ⟨1, _⟩ => show (n.val * 512 + j.val) / 512 % 128 = n.val % 128; omega
    | ⟨2, _⟩ => rfl
  · match a with
    | ⟨0, _⟩ =>
      show ((((((n.val * 512 + j.val) / 4194304) * 64 + (n.val * 512 + j.val) / 65536 % 64) * 128 + s.val) * 4
        + (n.val * 512 + j.val) / 128 % 4) * 128 + (n.val * 512 + j.val) % 128) / 512 = n.val / 128 * 128 + s.val
      omega
    | ⟨1, _⟩ =>
      show ((((((n.val * 512 + j.val) / 4194304) * 64 + (n.val * 512 + j.val) / 65536 % 64) * 128 + s.val) * 4
        + (n.val * 512 + j.val) / 128 % 4) * 128 + (n.val * 512 + j.val) % 128) % 512 = j.val
      omega

theorem offsets_apply (j : Fin 512) : val_main_v74 (F := Ideal) bs (idx_main_v76 (ix2 n j))
    = bs (ix3 0 ⟨j.val / 128, by omega⟩ ⟨n.val % 128, by omega⟩) := by
  have e : ∀ q : Fin 4, ∀ t : Fin 128, val_main_v72 (F := Ideal) bs (ix2 t q) = bs (ix3 0 q t) := fun q t => by
    unfold val_main_v72 val_main_v39
    pointwise
  have hn := n.isLt
  have hj := j.isLt
  rw [val_main_v74_apply, val_main_v73_apply, ← e]
  refine congrArg (val_main_v72 (F := Ideal) bs) (funext fun a => Fin.ext ?_)
  match a with
  | ⟨0, _⟩ => show (n.val * 512 + j.val) / 512 % 128 = n.val % 128; omega
  | ⟨1, _⟩ => show (n.val * 512 + j.val) / 128 % 4 = j.val / 128; omega

/-- The gated unit: each 128 tokens mix among themselves, by the weights of the column's group. -/
theorem refB_apply (j : Fin 512) : val_main_v83 (F := Ideal) x g w lg lb ws bs (ix2 n j)
    = rowU x g w n j * (causalDot (fun s => ws (ix4 0 ⟨j.val / 128, by omega⟩ ⟨n.val % 128, by omega⟩ s))
        (fun s => rowN x g w lg lb ⟨n.val / 128 * 128 + s.val, by omega⟩ j) ⟨n.val % 128, by omega⟩
      + bs (ix3 0 ⟨j.val / 128, by omega⟩ ⟨n.val % 128, by omega⟩)) := by
  rw [← mixed_apply, ← offsets_apply bs n j, ← first_apply]
  show val_main_v28 (F := Ideal) x g w (ix2 n j) * val_main_v76 (F := Ideal) x g w lg lb ws bs (ix2 n j) = _
  rw [val_main_v76_apply]
  rfl

end Cert.Proof.InARef

end
-- ==== Proof.InAValue.lean ====
/-
  The results of the first layer's input projection and its reference's are the same arrays.
-/
module

public import proofs.«01_k».proof.Proof.InAHost
public import proofs.«01_k».proof.Proof.InABlock
public import proofs.«01_k».proof.Proof.InARef
public import Idealize.ShloMosaic.Lib.Pipeline.ValueKit

@[expose] public section

set_option maxRecDepth 16384

noncomputable section

namespace Cert.Proof.InA

open Idealize.ShloMosaic Idealize.ShloMosaic.Tactic Idealize.ShloMosaic.TcCoe
open Cert.InAIdeal Cert.InAIdeal.Gen Cert.Proof.Rows

variable (m : (ℓ : Loc nD τ sig) → Buf (Elt Ideal) ℓ) (c : Dev nD)

/-! The reference's arrays of the kernel's arguments. -/

def refQ : FVec Ideal S32768x512 .bf16 :=
  Cert.InARefIdeal.Read.val_main_v80 (F := Ideal) (m ((c : Thread nD τ).loc main_arg0)) (m ((c : Thread nD τ).loc main_arg1)) (m ((c : Thread nD τ).loc main_arg2))

def refK : FVec Ideal S32768x512 .bf16 :=
  Cert.InARefIdeal.Read.val_main_v81 (F := Ideal) (m ((c : Thread nD τ).loc main_arg0)) (m ((c : Thread nD τ).loc main_arg1)) (m ((c : Thread nD τ).loc main_arg2))

def refV : FVec Ideal S32768x512 .bf16 :=
  Cert.InARefIdeal.Read.val_main_v82 (F := Ideal) (m ((c : Thread nD τ).loc main_arg0)) (m ((c : Thread nD τ).loc main_arg1)) (m ((c : Thread nD τ).loc main_arg2))

def refB : FVec Ideal S32768x512 .bf16 :=
  Cert.InARefIdeal.Read.val_main_v83 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-! What point `t` computes at row `y` is the reference's row `1024 t + y`. -/

theorem pointQ (t : Fin cfg0.N) (y : Fin 1024) (l : Fin 512) (n : Fin 32768) (hn : n.val = t.val * 1024 + y.val) :
    out0_7 (F := Ideal) (iblk m c 0 t) (iblk m c 1 t) (iblk m c 2 t) (iblk m c 3 t) (iblk m c 4 t) (iblk m c 5 t) (iblk m c 6 t)
      (ix2 y l) = refQ m c (ix2 n l) := by
  rw [outQ_apply]
  unfold refQ
  rw [Cert.Proof.InARef.refQ_apply]
  unfold blockQ
  simp only [stream_read m c t y _ n hn, gains_read m c t, w_read m c t]

theorem pointK (t : Fin cfg0.N) (y : Fin 1024) (l : Fin 512) (n : Fin 32768) (hn : n.val = t.val * 1024 + y.val) :
    out0_8 (F := Ideal) (iblk m c 0 t) (iblk m c 1 t) (iblk m c 2 t) (iblk m c 3 t) (iblk m c 4 t) (iblk m c 5 t) (iblk m c 6 t)
      (ix2 y l) = refK m c (ix2 n l) := by
  rw [outK_apply]
  unfold refK
  rw [Cert.Proof.InARef.refK_apply]
  unfold blockK
  simp only [stream_read m c t y _ n hn, gains_read m c t, w_read m c t]

theorem pointV (t : Fin cfg0.N) (y : Fin 1024) (l : Fin 512) (n : Fin 32768) (hn : n.val = t.val * 1024 + y.val) :
    out0_9 (F := Ideal) (iblk m c 0 t) (iblk m c 1 t) (iblk m c 2 t) (iblk m c 3 t) (iblk m c 4 t) (iblk m c 5 t) (iblk m c 6 t)
      (ix2 y l) = refV m c (ix2 n l) := by
  rw [outV_apply]
  unfold refV
  rw [Cert.Proof.InARef.refV_apply]
  unfold blockV
  simp only [stream_read m c t y _ n hn, gains_read m c t, w_read m c t]

/-- The gate's first half. -/
theorem pointU (t : Fin cfg0.N) (y : Fin 1024) (l : Fin 512) (n : Fin 32768) (hn : n.val = t.val * 1024 + y.val) :
    blockU (iblk m c 0 t) (iblk m c 1 t) (iblk m c 2 t) y l
      = Cert.Proof.InARef.rowU (m ((c : Thread nD τ).loc main_arg0)) (m ((c : Thread nD τ).loc main_arg1)) (m ((c : Thread nD τ).loc main_arg2)) n l := by
  unfold blockU Cert.Proof.InARef.rowU
  simp only [stream_read m c t y _ n hn, gains_read m c t, w_read m c t]

/-- The gate's second half. -/
theorem pointN (t : Fin cfg0.N) (y : Fin 1024) (l : Fin 512) (n : Fin 32768) (hn : n.val = t.val * 1024 + y.val) :
    blockN (iblk m c 0 t) (iblk m c 1 t) (iblk m c 2 t) (iblk m c 3 t) (iblk m c 4 t) y l
      = Cert.Proof.InARef.rowN (m ((c : Thread nD τ).loc main_arg0)) (m ((c : Thread nD τ).loc main_arg1)) (m ((c : Thread nD τ).loc main_arg2))
        (m ((c : Thread nD τ).loc main_arg3)) (m ((c : Thread nD τ).loc main_arg4)) n l := by
  unfold blockN Cert.Proof.InARef.rowN
  simp only [stream_read m c t y _ n hn, gains_read m c t, w_read m c t, normGains_read m c t, normOffsets_read m c t]

theorem pointB (t : Fin cfg0.N) (y : Fin 1024) (l : Fin 512) (n : Fin 32768) (hn : n.val = t.val * 1024 + y.val) :
    out0_10 (F := Ideal) (iblk m c 0 t) (iblk m c 1 t) (iblk m c 2 t) (iblk m c 3 t) (iblk m c 4 t) (iblk m c 5 t) (iblk m c 6 t)
      (ix2 y l) = refB m c (ix2 n l) := by
  have ht := t_lt t
  have em : (⟨y.val % 128, by omega⟩ : Fin 128) = ⟨n.val % 128, by omega⟩ := Fin.ext (by show y.val % 128 = n.val % 128; omega)
  have eN := fun s : Fin 128 => pointN m c t ⟨y.val / 128 * 128 + s.val, by omega⟩ l ⟨n.val / 128 * 128 + s.val, by omega⟩
    (by show n.val / 128 * 128 + s.val = t.val * 1024 + (y.val / 128 * 128 + s.val); omega)
  rw [outB_apply]
  unfold refB
  rw [Cert.Proof.InARef.refB_apply]
  unfold blockB
  rw [pointU m c t y l n hn, em]
  simp only [eN, groups_read m c t, offsets_read m c t]

/-! The results after the run. -/

theorem resultQ : (dats m 0 c).arrAt 7 cfg0.N = refQ m c := by
  refine (dats m 0 c).arrAt_eq_of_covers 7 _ (by decide +kernel) fun t hf y => ?_
  have hp := pointQ m c t
  have ht := t_lt t
  obtain ⟨h0, h1⟩ := index7 t
  rw [after0_7]
  generalize out0_7 (F := Ideal) (iblk m c 0 t) (iblk m c 1 t) (iblk m c 2 t) (iblk m c 3 t) (iblk m c 4 t) (iblk m c 5 t) (iblk m c 6 t) = X at hp ⊢
  generalize refQ m c = G at hp ⊢
  obtain ⟨r, l, rfl⟩ : ∃ (r : Fin 1024) (l : Fin 512), y = ix2 r l := ⟨y 0, y 1, funext fun a => match a with
    | ⟨0, _⟩ => rfl
    | ⟨1, _⟩ => rfl⟩
  refine (hp r l ⟨t.val * 1024 + r.val, by omega⟩ rfl).trans (congrArg G (funext fun a => Fin.ext ?_))
  match a with
  | ⟨0, _⟩ => show t.val * 1024 + r.val = win0_7.index t (0 : Fin 2) * 1024 + 1 * r.val; rw [h0]; omega
  | ⟨1, _⟩ => show l.val = win0_7.index t (1 : Fin 2) * 512 + 1 * l.val; rw [h1]; omega

theorem resultK : (dats m 0 c).arrAt 8 cfg0.N = refK m c := by
  refine (dats m 0 c).arrAt_eq_of_covers 8 _ (by decide +kernel) fun t hf y => ?_
  have hp := pointK m c t
  have ht := t_lt t
  obtain ⟨h0, h1⟩ := index8 t
  rw [after0_8]
  generalize out0_8 (F := Ideal) (iblk m c 0 t) (iblk m c 1 t) (iblk m c 2 t) (iblk m c 3 t) (iblk m c 4 t) (iblk m c 5 t) (iblk m c 6 t) = X at hp ⊢
  generalize refK m c = G at hp ⊢
  obtain ⟨r, l, rfl⟩ : ∃ (r : Fin 1024) (l : Fin 512), y = ix2 r l := ⟨y 0, y 1, funext fun a => match a with
    | ⟨0, _⟩ => rfl
    | ⟨1, _⟩ => rfl⟩
  refine (hp r l ⟨t.val * 1024 + r.val, by omega⟩ rfl).trans (congrArg G (funext fun a => Fin.ext ?_))
  match a with
  | ⟨0, _⟩ => show t.val * 1024 + r.val = win0_8.index t (0 : Fin 2) * 1024 + 1 * r.val; rw [h0]; omega
  | ⟨1, _⟩ => show l.val = win0_8.index t (1 : Fin 2) * 512 + 1 * l.val; rw [h1]; omega

theorem resultV : (dats m 0 c).arrAt 9 cfg0.N = refV m c := by
  refine (dats m 0 c).arrAt_eq_of_covers 9 _ (by decide +kernel) fun t hf y => ?_
  have hp := pointV m c t
  have ht := t_lt t
  obtain ⟨h0, h1⟩ := index9 t
  rw [after0_9]
  generalize out0_9 (F := Ideal) (iblk m c 0 t) (iblk m c 1 t) (iblk m c 2 t) (iblk m c 3 t) (iblk m c 4 t) (iblk m c 5 t) (iblk m c 6 t) = X at hp ⊢
  generalize refV m c = G at hp ⊢
  obtain ⟨r, l, rfl⟩ : ∃ (r : Fin 1024) (l : Fin 512), y = ix2 r l := ⟨y 0, y 1, funext fun a => match a with
    | ⟨0, _⟩ => rfl
    | ⟨1, _⟩ => rfl⟩
  refine (hp r l ⟨t.val * 1024 + r.val, by omega⟩ rfl).trans (congrArg G (funext fun a => Fin.ext ?_))
  match a with
  | ⟨0, _⟩ => show t.val * 1024 + r.val = win0_9.index t (0 : Fin 2) * 1024 + 1 * r.val; rw [h0]; omega
  | ⟨1, _⟩ => show l.val = win0_9.index t (1 : Fin 2) * 512 + 1 * l.val; rw [h1]; omega

theorem resultB : (dats m 0 c).arrAt 10 cfg0.N = refB m c := by
  refine (dats m 0 c).arrAt_eq_of_covers 10 _ (by decide +kernel) fun t hf y => ?_
  have hp := pointB m c t
  have ht := t_lt t
  obtain ⟨h0, h1⟩ := index10 t
  rw [after0_10]
  generalize out0_10 (F := Ideal) (iblk m c 0 t) (iblk m c 1 t) (iblk m c 2 t) (iblk m c 3 t) (iblk m c 4 t) (iblk m c 5 t) (iblk m c 6 t) = X at hp ⊢
  generalize refB m c = G at hp ⊢
  obtain ⟨r, l, rfl⟩ : ∃ (r : Fin 1024) (l : Fin 512), y = ix2 r l := ⟨y 0, y 1, funext fun a => match a with
    | ⟨0, _⟩ => rfl
    | ⟨1, _⟩ => rfl⟩
  refine (hp r l ⟨t.val * 1024 + r.val, by omega⟩ rfl).trans (congrArg G (funext fun a => Fin.ext ?_))
  match a with
  | ⟨0, _⟩ => show t.val * 1024 + r.val = win0_10.index t (0 : Fin 2) * 1024 + 1 * r.val; rw [h0]; omega
  | ⟨1, _⟩ => show l.val = win0_10.index t (1 : Fin 2) * 512 + 1 * l.val; rw [h1]; omega

end Cert.Proof.InA

end
-- ==== Proof.InCHost.lean ====
/-
  What one grid point of the second layer's input projection reads, as elements of the arguments: point `t` has rows
  `1024 t …` of the stream, and the whole of the weights, padded with zero columns, and gains.
-/
module

public import proofs.«01_k».proof.Proof.Gen.InCIdeal.Value
public import Idealize.ShloMosaic.Lib.StableHlo.ReadAt
public import Idealize.ShloMosaic.Lib.Pointwise

@[expose] public section

set_option maxRecDepth 16384

noncomputable section

namespace Cert.Proof.InC

open Idealize.ShloMosaic Idealize.ShloMosaic.Tactic Idealize.ShloMosaic.TcCoe
open Cert.InCIdeal Cert.InCIdeal.Gen

/-- Columns before the padding. -/
theorem padded_apply (a : FVec Ideal S1x1024x3088 .f32) (z : FVec Ideal S_ .f32) (k : Fin 1024) (f : Fin 3200) (f' : Fin 3088)
    (hf : f.val = f'.val) :
    pad S1024x3200 ![0, 0] ![0, 112] ![0, 0] (shapeCast S1024x3088 a shapeCasts_S1x1024x3088_S1024x3088 : FVec Ideal S1024x3088 .f32)
      z pads_S1024x3088_S1024x3200_000_01120 h_S_ (ix2 k f) = a (ix3 0 k f') := by
  pointwise
  refine (dif_pos (hf ▸ f'.isLt)).trans ?_
  exact congrArg (fun f => a (ix3 0 k f)) (Fin.ext hf)

variable (m : (ℓ : Loc nD τ sig) → Buf (Elt Ideal) ℓ) (c : Dev nD)

theorem gains_apply (k : Fin 1024) :
    V m c main_v5 (ix2 0 k) = m ((c : Thread nD τ).loc main_arg1) (ix2 1 k) := by
  show StableHlo.after [_, _, _, _, _, _, _, _, _, _, _, _] (fun b => m (c, b)) (Proc.devRef .tc main_v5) _ = _
  after_results
  pointwise

/-- The columns before the padding. -/
theorem w_apply (k : Fin 1024) (f : Fin 3200) (f' : Fin 3088) (hf : f.val = f'.val) :
    V m c main_v2 (ix2 k f) = m ((c : Thread nD τ).loc main_arg2) (ix3 0 k f') := by
  have e : V m c main_v2 = truncf .bf16 (pad S1024x3200 ![0, 0] ![0, 112] ![0, 0]
      (shapeCast S1024x3088 (m ((c : Thread nD τ).loc main_arg2) : FVec Ideal S1x1024x3088 .f32) shapeCasts_S1x1024x3088_S1024x3088)
      (sitofp .f32 (constantI S_ 32 0#32)) pads_S1024x3088_S1024x3200_000_01120 h_S_ : FVec Ideal S1024x3200 .f32) bitsLt_bf16_f32 := by
    show StableHlo.after [_, _, _, _, _, _, _, _, _, _, _, _] (fun b => m (c, b)) (Proc.devRef .tc main_v2) = _
    after_results
    rfl
  rw [e]
  exact padded_apply _ _ k f f' hf

theorem w2_apply (i : Fin 16) (j : Fin 512) :
    V m c main_v7 (ix2 i j) = m ((c : Thread nD τ).loc main_arg3) (ix3 0 i j) := by
  show StableHlo.after [_, _, _, _, _, _, _, _, _, _, _, _] (fun b => m (c, b)) (Proc.devRef .tc main_v7) _ = _
  after_results
  pointwise

theorem bias_apply (j : Fin 512) :
    V m c main_v9 (ix2 0 j) = m ((c : Thread nD τ).loc main_arg4) (ix2 0 j) := by
  show StableHlo.after [_, _, _, _, _, _, _, _, _, _, _, _] (fun b => m (c, b)) (Proc.devRef .tc main_v9) _ = _
  after_results
  pointwise

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel
theorem index8 : ∀ t : Fin cfg0.N, win0_8.index t 0 = t.val ∧ win0_8.index t 1 = 0 := by decide +kernel
theorem index9 : ∀ t : Fin cfg0.N, win0_9.index t 0 = t.val ∧ win0_9.index t 1 = 0 := by decide +kernel

variable (t : Fin cfg0.N)

theorem t_lt : t.val < 32 := lt_of_lt_of_eq t.isLt N_0

/-- The stream's block. -/
theorem stream_read (y : Fin 1024) (l : Fin 1024) (n : Fin 32768) (hn : n.val = t.val * 1024 + y.val) :
    iblk m c 0 t (ix2 y l) = m ((c : Thread nD τ).loc main_arg0) (ix2 n l) := by
  rw [← V_main_arg0 m c]
  show V m c main_arg0 (((cfg0.win 0).blk t).view.emb (ix2 y l)) = _
  refine congrArg (V m c main_arg0) (funext fun a => Fin.ext ?_)
  obtain ⟨h0, h1⟩ := index0 t
  match a with
  | ⟨0, _⟩ => show win0_0.index t (0 : Fin 2) * 1024 + 1 * y.val = n.val; rw [h0]; omega
  | ⟨1, _⟩ => show win0_0.index t (1 : Fin 2) * 1024 + 1 * l.val = l.val; rw [h1]; omega

/-- The gains. -/
theorem gains_read (l : Fin 1024) :
    iblk m c 1 t (ix2 0 l) = m ((c : Thread nD τ).loc main_arg1) (ix2 1 l) := by
  rw [← gains_apply m c]
  show V m c main_v5 (((cfg0.win 1).blk t).view.emb (ix2 0 l)) = _
  refine congrArg (V m c main_v5) (funext fun a => Fin.ext ?_)
  obtain ⟨h0, h1⟩ := index1 t
  match a with
  | ⟨0, _⟩ => show win0_1.index t (0 : Fin 2) * 1 + 1 * 0 = 0; rw [h0]
  | ⟨1, _⟩ => show win0_1.index t (1 : Fin 2) * 1024 + 1 * l.val = l.val; rw [h1]; omega

/-- The weights. -/
theorem w_read (k : Fin 1024) (f : Fin 3200) (f' : Fin 3088) (hf : f.val = f'.val) :
    iblk m c 2 t (ix2 k f) = m ((c : Thread nD τ).loc main_arg2) (ix3 0 k f') := by
  rw [← w_apply m c k f f' hf]
  show V m c main_v2 (((cfg0.win 2).blk t).view.emb (ix2 k f)) = _
  refine congrArg (V m c main_v2) (funext fun a => Fin.ext ?_)
  obtain ⟨h0, h1⟩ := index2 t
  match a with
  | ⟨0, _⟩ => show win0_2.index t (0 : Fin 2) * 1024 + 1 * k.val = k.val; rw [h0]; omega
  | ⟨1, _⟩ => show win0_2.index t (1 : Fin 2) * 3200 + 1 * f.val = f.val; rw [h1]; omega

/-- The forget gate's second factor. -/
theorem w2_read (i : Fin 16) (l : Fin 512) :
    iblk m c 3 t (ix2 i l) = m ((c : Thread nD τ).loc main_arg3) (ix3 0 i l) := by
  rw [← w2_apply m c]
  show V m c main_v7 (((cfg0.win 3).blk t).view.emb (ix2 i l)) = _
  refine congrArg (V m c main_v7) (funext fun a => Fin.ext ?_)
  obtain ⟨h0, h1⟩ := index3 t
  match a with
  | ⟨0, _⟩ => show win0_3.index t (0 : Fin 2) * 16 + 1 * i.val = i.val; rw [h0]; omega
  | ⟨1, _⟩ => show win0_3.index t (1 : Fin 2) * 512 + 1 * l.val = l.val; rw [h1]; omega

/-- The forget gate's bias. -/
theorem bias_read (l : Fin 512) :
    iblk m c 4 t (ix2 0 l) = m ((c : Thread nD τ).loc main_arg4) (ix2 0 l) := by
  rw [← bias_apply m c]
  show V m c main_v9 (((cfg0.win 4).blk t).view.emb (ix2 0 l)) = _
  refine congrArg (V m c main_v9) (funext fun a => Fin.ext ?_)
  obtain ⟨h0, h1⟩ := index4 t
  match a with
  | ⟨0, _⟩ => show win0_4.index t (0 : Fin 2) * 1 + 1 * 0 = 0; rw [h0]
  | ⟨1, _⟩ => show win0_4.index t (1 : Fin 2) * 512 + 1 * l.val = l.val; rw [h1]; omega

end Cert.Proof.InC

end
-- ==== Proof.InCTile.lean ====
/-
  One tile of the second layer's input projection: 256 tokens. The definitions are the kernel's own operations in order,
  stated once; the lemmas read one element as a function of the token's row.
-/
module

public import proofs.«01_k».proof.Proof.Rows
public import proofs.«01_k».proof.Proof.Gen.InCIdeal.Value
public import Idealize.ShloMosaic.Lib.Pointwise

@[expose] public section

set_option maxRecDepth 16384

noncomputable section

namespace Cert.Proof.InC

open Idealize.ShloMosaic Idealize.ShloMosaic.Tactic Idealize.ShloMosaic.TcCoe
open Cert.InCIdeal Cert.InCIdeal.Gen
open Cert.Proof.Rows

section Defs

variable {F : FTy → Type} [FloatOps F]

/-- Normalized rows, with gains. -/
def hidden (x : Vec F S256x1024 .f32) (g : Vec F S1x1024 .f32) : FVec F S256x1024 .bf16 :=
  truncf .bf16 (mulf (mulf x (broadcastTo S256x1024
      (rsqrt (addf
        (divf (shapeCast S256x1 (multiReduction .add [1] S256 (mulf x x) 0x00000000#32 reduces_S256x1024_S256 (.inl rfl) rfl)
          shapeCasts_S256_S256x1 : FVec F S256x1 .f32) (broadcast S256x1 (Scalar.ofBits .f32 0x44800000#32)))
        (broadcast S256x1 (Scalar.ofBits .f32 0x358637BD#32)))) broadcasts_S256x1_S256x1024))
    (broadcastTo S256x1024 (shapeCast S1x1024 g shapeCasts_S1x1024_S1x1024 : FVec F S1x1024 .f32) broadcasts_S1x1024_S256x1024))
    bitsLt_bf16_f32

/-- Hidden rows through the weights of queries, keys and values. -/
def qkv (h : FVec F S256x1024 .bf16) (w : Vec F S1024x2048 .bf16) : FVec F S256x2048 .f32 :=
  matmul dot_S256x1024_S1024x2048_S256x2048_1_0_0_1_n_n none h
    (shapeCast S1024x2048 w shapeCasts_S1024x2048_S1024x2048 : FVec F S1024x2048 .bf16) (constant S256x2048 .f32 0x00000000#32)

/-- Hidden rows through the weights of the gates. -/
def gates (h : FVec F S256x1024 .bf16) (w : Vec F S1024x1152 .bf16) : FVec F S256x1152 .f32 :=
  matmul dot_S256x1024_S1024x1152_S256x1152_1_0_0_1_n_n none h
    (shapeCast S1024x1152 w shapeCasts_S1024x1152_S1024x1152 : FVec F S1024x1152 .bf16) (constant S256x1152 .f32 0x00000000#32)

/-- The queries, scaled. -/
def tileQ (x : Vec F S256x1024 .f32) (g : Vec F S1x1024 .f32) (w : Vec F S1024x2048 .bf16) : FVec F S256x512 .bf16 :=
  truncf .bf16 (mulf (extractStridedSlice S256x512 ![0, 0] (qkv (hidden x g) w) slices_S256x2048_o0_0_S256x512)
    (broadcast S256x512 (Scalar.ofBits .f32 0x3DB504F3#32))) bitsLt_bf16_f32

/-- The keys. -/
def tileK (x : Vec F S256x1024 .f32) (g : Vec F S1x1024 .f32) (w : Vec F S1024x2048 .bf16) : FVec F S256x512 .bf16 :=
  truncf .bf16 (extractStridedSlice S256x512 ![0, 512] (qkv (hidden x g) w) slices_S256x2048_o0_512_S256x512) bitsLt_bf16_f32

/-- The values. -/
def tileV (x : Vec F S256x1024 .f32) (g : Vec F S1x1024 .f32) (w : Vec F S1024x2048 .bf16) : FVec F S256x1024 .bf16 :=
  truncf .bf16 (extractStridedSlice S256x1024 ![0, 1024] (qkv (hidden x g) w) slices_S256x2048_o0_1024_S256x1024) bitsLt_bf16_f32

/-- The activated output gate. -/
def tileG (x : Vec F S256x1024 .f32) (g : Vec F S1x1024 .f32) (w : Vec F S1024x1152 .bf16) : FVec F S256x1024 .bf16 :=
  truncf .bf16 (mulf
    (extractStridedSlice S256x1024 ![0, 0] (gates (hidden x g) w) slices_S256x1152_o0_0_S256x1024)
    (logistic (extractStridedSlice S256x1024 ![0, 0] (gates (hidden x g) w) slices_S256x1152_o0_0_S256x1024))) bitsLt_bf16_f32

/-- The forget gate before its logistic, from its low-rank rows. -/
def lowRank (p : FVec F S256x1152 .f32) (w2 : Vec F S16x512 .bf16) (b : Vec F S1x512 .f32) : FVec F S256x512 .f32 :=
  addf (matmul dot_S256x16_S16x512_S256x512_1_0_0_1_n_n none
      (truncf .bf16 (extractStridedSlice S256x16 ![0, 1024] p slices_S256x1152_o0_1024_S256x16) bitsLt_bf16_f32)
      (shapeCast S16x512 w2 shapeCasts_S16x512_S16x512 : FVec F S16x512 .bf16) (constant S256x512 .f32 0x00000000#32))
    (broadcastTo S256x512 (shapeCast S1x512 b shapeCasts_S1x512_S1x512 : FVec F S1x512 .f32) broadcasts_S1x512_S256x512)

/-- A sixteenth of the logarithm of the logistic. -/
def logGate (z : FVec F S256x512 .f32) : FVec F S256x512 .f32 :=
  mulf (subf (minimumf z (broadcast S256x512 (Scalar.ofBits .f32 0x00000000#32)))
      (log1p (exp (subf (broadcast S256x512 (Scalar.ofBits .f32 0x00000000#32)) (absf z)))))
    (broadcast S256x512 (Scalar.ofBits .f32 0x3D800000#32))

/-- The forget gate's logarithm. -/
def tileA (x : Vec F S256x1024 .f32) (g : Vec F S1x1024 .f32) (w : Vec F S1024x1152 .bf16) (w2 : Vec F S16x512 .bf16)
    (b : Vec F S1x512 .f32) : FVec F S256x512 .f32 := logGate (lowRank (gates (hidden x g) w) w2 b)

variable (x0 : Vec F S1024x1024 .f32) (x1 : Vec F S1x1024 .f32) (x2 : Vec F S1024x3200 .bf16) (x3 : Vec F S16x512 .bf16)
  (x4 : Vec F S1x512 .f32)

/-! What a point stores: four tiles in each result. -/

theorem outQ_eq : out0_5 x0 x1 x2 x3 x4 = View.canon
    [⟨r0_12, tileQ (View.ld x0 r0_11) (View.ld x1 r0_1) (View.ld x2 r0_3)⟩,
      ⟨r0_10, tileQ (View.ld x0 r0_9) (View.ld x1 r0_1) (View.ld x2 r0_3)⟩,
      ⟨r0_8, tileQ (View.ld x0 r0_7) (View.ld x1 r0_1) (View.ld x2 r0_3)⟩,
      ⟨r0_6, tileQ (View.ld x0 r0_0) (View.ld x1 r0_1) (View.ld x2 r0_3)⟩] := by
  rfl

theorem outK_eq : out0_6 x0 x1 x2 x3 x4 = View.canon
    [⟨r0_12, tileK (View.ld x0 r0_11) (View.ld x1 r0_1) (View.ld x2 r0_3)⟩,
      ⟨r0_10, tileK (View.ld x0 r0_9) (View.ld x1 r0_1) (View.ld x2 r0_3)⟩,
      ⟨r0_8, tileK (View.ld x0 r0_7) (View.ld x1 r0_1) (View.ld x2 r0_3)⟩,
      ⟨r0_6, tileK (View.ld x0 r0_0) (View.ld x1 r0_1) (View.ld x2 r0_3)⟩] := by
  rfl

theorem outV_eq : out0_7 x0 x1 x2 x3 x4 = View.canon
    [⟨r0_11, tileV (View.ld x0 r0_11) (View.ld x1 r0_1) (View.ld x2 r0_3)⟩,
      ⟨r0_9, tileV (View.ld x0 r0_9) (View.ld x1 r0_1) (View.ld x2 r0_3)⟩,
      ⟨r0_7, tileV (View.ld x0 r0_7) (View.ld x1 r0_1) (View.ld x2 r0_3)⟩,
      ⟨r0_0, tileV (View.ld x0 r0_0) (View.ld x1 r0_1) (View.ld x2 r0_3)⟩] := by
  rfl

theorem outG_eq : out0_8 x0 x1 x2 x3 x4 = View.canon
    [⟨r0_11, tileG (View.ld x0 r0_11) (View.ld x1 r0_1) (View.ld x2 r0_2)⟩,
      ⟨r0_9, tileG (View.ld x0 r0_9) (View.ld x1 r0_1) (View.ld x2 r0_2)⟩,
      ⟨r0_7, tileG (View.ld x0 r0_7) (View.ld x1 r0_1) (View.ld x2 r0_2)⟩,
      ⟨r0_0, tileG (View.ld x0 r0_0) (View.ld x1 r0_1) (View.ld x2 r0_2)⟩] := by
  rfl

theorem outA_eq : out0_9 x0 x1 x2 x3 x4 = View.canon
    [⟨r0_12, tileA (View.ld x0 r0_11) (View.ld x1 r0_1) (View.ld x2 r0_2) (View.ld x3 r0_4) (View.ld x4 r0_5)⟩,
      ⟨r0_10, tileA (View.ld x0 r0_9) (View.ld x1 r0_1) (View.ld x2 r0_2) (View.ld x3 r0_4) (View.ld x4 r0_5)⟩,
      ⟨r0_8, tileA (View.ld x0 r0_7) (View.ld x1 r0_1) (View.ld x2 r0_2) (View.ld x3 r0_4) (View.ld x4 r0_5)⟩,
      ⟨r0_6, tileA (View.ld x0 r0_0) (View.ld x1 r0_1) (View.ld x2 r0_2) (View.ld x3 r0_4) (View.ld x4 r0_5)⟩] := by
  rfl

end Defs

/-! ## One element -/

theorem hidden_apply (x : Vec Ideal S256x1024 .f32) (g : Vec Ideal S1x1024 .f32) (r : Fin 256) (j : Fin 1024) :
    hidden (F := Ideal) x g (ix2 r j) = rmsNorm (fun k => x (ix2 r k)) (fun k => g (ix2 0 k)) j := by
  unfold hidden
  pointwise
  rfl

theorem qkv_apply (h : FVec Ideal S256x1024 .bf16) (w : Vec Ideal S1024x2048 .bf16) (r : Fin 256) (f : Fin 2048) :
    qkv (F := Ideal) h w (ix2 r f) = dot (fun k => h (ix2 r k)) (fun k => w (ix2 k f)) := by
  unfold qkv
  pointwise
  rfl

theorem gates_apply (h : FVec Ideal S256x1024 .bf16) (w : Vec Ideal S1024x1152 .bf16) (r : Fin 256) (f : Fin 1152) :
    gates (F := Ideal) h w (ix2 r f) = dot (fun k => h (ix2 r k)) (fun k => w (ix2 k f)) := by
  unfold gates
  pointwise
  rfl

section Elements

variable (x : Vec Ideal S256x1024 .f32) (g : Vec Ideal S1x1024 .f32) (w : Vec Ideal S1024x2048 .bf16)
  (wg : Vec Ideal S1024x1152 .bf16) (w2 : Vec Ideal S16x512 .bf16) (b : Vec Ideal S1x512 .f32) (r : Fin 256)

theorem tileQ_apply (j : Fin 512) : tileQ (F := Ideal) x g w (ix2 r j)
    = dot (rmsNorm (fun k => x (ix2 r k)) (fun k => g (ix2 0 k))) (fun k => w (ix2 k ⟨j.val, by omega⟩))
      * Ideal.ofBits .f32 0x3DB504F3#32 := by
  have e : ∀ f, qkv (F := Ideal) (hidden x g) w (ix2 r f)
      = dot (rmsNorm (fun k => x (ix2 r k)) (fun k => g (ix2 0 k))) (fun k => w (ix2 k f)) := fun f => by
    rw [qkv_apply]; simp only [hidden_apply]
  unfold tileQ
  generalize qkv (F := Ideal) (hidden x g) w = y at e ⊢
  rw [← e]
  pointwise

theorem tileK_apply (j : Fin 512) : tileK (F := Ideal) x g w (ix2 r j)
    = dot (rmsNorm (fun k => x (ix2 r k)) (fun k => g (ix2 0 k))) (fun k => w (ix2 k ⟨512 + j.val, by omega⟩)) := by
  have e : ∀ f, qkv (F := Ideal) (hidden x g) w (ix2 r f)
      = dot (rmsNorm (fun k => x (ix2 r k)) (fun k => g (ix2 0 k))) (fun k => w (ix2 k f)) := fun f => by
    rw [qkv_apply]; simp only [hidden_apply]
  unfold tileK
  generalize qkv (F := Ideal) (hidden x g) w = y at e ⊢
  rw [← e]
  pointwise

theorem tileV_apply (j : Fin 1024) : tileV (F := Ideal) x g w (ix2 r j)
    = dot (rmsNorm (fun k => x (ix2 r k)) (fun k => g (ix2 0 k))) (fun k => w (ix2 k ⟨1024 + j.val, by omega⟩)) := by
  have e : ∀ f, qkv (F := Ideal) (hidden x g) w (ix2 r f)
      = dot (rmsNorm (fun k => x (ix2 r k)) (fun k => g (ix2 0 k))) (fun k => w (ix2 k f)) := fun f => by
    rw [qkv_apply]; simp only [hidden_apply]
  unfold tileV
  generalize qkv (F := Ideal) (hidden x g) w = y at e ⊢
  rw [← e]
  pointwise

theorem tileG_apply (j : Fin 1024) : tileG (F := Ideal) x g wg (ix2 r j)
    = silu (dot (rmsNorm (fun k => x (ix2 r k)) (fun k => g (ix2 0 k))) (fun k => wg (ix2 k ⟨j.val, by omega⟩))) := by
  have e : ∀ f, gates (F := Ideal) (hidden x g) wg (ix2 r f)
      = dot (rmsNorm (fun k => x (ix2 r k)) (fun k => g (ix2 0 k))) (fun k => wg (ix2 k f)) := fun f => by
    rw [gates_apply]; simp only [hidden_apply]
  unfold tileG
  generalize gates (F := Ideal) (hidden x g) wg = y at e ⊢
  rw [← e]
  pointwise
  rfl

theorem lowRank_apply (p : FVec Ideal S256x1152 .f32) (j : Fin 512) : lowRank (F := Ideal) p w2 b (ix2 r j)
    = dot (fun i : Fin 16 => p (ix2 r ⟨1024 + i.val, by omega⟩)) (fun i => w2 (ix2 i j)) + b (ix2 0 j) := by
  unfold lowRank
  pointwise
  rfl

theorem logGate_apply (z : FVec Ideal S256x512 .f32) (j : Fin 512) : logGate (F := Ideal) z (ix2 r j)
    = logSigmoid (z (ix2 r j)) * Ideal.ofBits .f32 0x3D800000#32 := by
  show (min (z (ix2 r j)) (Ideal.ofBits .f32 0x00000000#32)
      - Ideal.log1p (Ideal.exp (Ideal.ofBits .f32 0x00000000#32 - max (z (ix2 r j)) (-z (ix2 r j))))) * _ = _
  rw [Ideal.ofBits_zero_f32, zero_sub]
  rfl

theorem tileA_apply (j : Fin 512) : tileA (F := Ideal) x g wg w2 b (ix2 r j)
    = logSigmoid (dot (fun i : Fin 16 => dot (rmsNorm (fun k => x (ix2 r k)) (fun k => g (ix2 0 k)))
          (fun k => wg (ix2 k ⟨1024 + i.val, by omega⟩))) (fun i => w2 (ix2 i j)) + b (ix2 0 j))
      * Ideal.ofBits .f32 0x3D800000#32 := by
  unfold tileA
  rw [logGate_apply, lowRank_apply]
  simp only [gates_apply, hidden_apply]

end Elements

end Cert.Proof.InC

end
-- ==== Proof.InCBlock.lean ====
/-
  The block that one grid point of the second layer's input projection writes in each result, at an element: the four
  tiles of 256 rows compute the same function of a row.
-/
module

public import proofs.«01_k».proof.Proof.InCTile
public import Idealize.ShloMosaic.Lib.Pipeline.ValueKit

@[expose] public section

set_option maxRecDepth 16384

noncomputable section

namespace Cert.Proof.InC

open Idealize.ShloMosaic Idealize.ShloMosaic.Tactic Idealize.ShloMosaic.TcCoe
open Cert.InCIdeal Cert.InCIdeal.Gen Cert.Proof.Rows

variable (x : Vec Ideal S1024x1024 .f32) (g : Vec Ideal S1x1024 .f32) (w : Vec Ideal S1024x3200 .bf16)
  (w2 : Vec Ideal S16x512 .bf16) (b : Vec Ideal S1x512 .f32)

/-! Row `y` of each result's block, element `j`. -/

/-- The queries. -/
def blockQ (y : Fin 1024) (j : Fin 512) : EReal :=
  dot (rmsNorm (fun k => x (ix2 y k)) (fun k => g (ix2 0 k))) (fun k => w (ix2 k ⟨j.val, by omega⟩)) * Ideal.ofBits .f32 0x3DB504F3#32

/-- The keys. -/
def blockK (y : Fin 1024) (j : Fin 512) : EReal :=
  dot (rmsNorm (fun k => x (ix2 y k)) (fun k => g (ix2 0 k))) (fun k => w (ix2 k ⟨512 + j.val, by omega⟩))

/-- The values. -/
def blockV (y : Fin 1024) (j : Fin 1024) : EReal :=
  dot (rmsNorm (fun k => x (ix2 y k)) (fun k => g (ix2 0 k))) (fun k => w (ix2 k ⟨1024 + j.val, by omega⟩))

/-- The activated output gate. -/
def blockG (y : Fin 1024) (j : Fin 1024) : EReal :=
  silu (dot (rmsNorm (fun k => x (ix2 y k)) (fun k => g (ix2 0 k))) (fun k => w (ix2 k ⟨2048 + j.val, by omega⟩)))

/-- The forget gate's logarithm. -/
def blockA (y : Fin 1024) (j : Fin 512) : EReal :=
  logSigmoid (dot (fun i : Fin 16 => dot (rmsNorm (fun k => x (ix2 y k)) (fun k => g (ix2 0 k)))
      (fun k => w (ix2 k ⟨3072 + i.val, by omega⟩))) (fun i => w2 (ix2 i j)) + b (ix2 0 j))
    * Ideal.ofBits .f32 0x3D800000#32

/-- The rows from `ro` on. -/
theorem rows_load (ro : ℕ) (i1 : ∀ a, ![ro, 0] a + S256x1024.size a ≤ S1024x1024.size a) (r : Fin 256) (y : Fin 1024)
    (ey : y.val = ro + r.val) (k : Fin 1024) :
    View.ld x (Rect.unit (s := S1024x1024) ![ro, 0] S256x1024.size i1) (ix2 r k) = x (ix2 y k) :=
  View.ld_unit_apply_of x _ _ _ (ix2 r k) _ (fun a => match a with
    | ⟨0, _⟩ => ey
    | ⟨1, _⟩ => (Nat.zero_add _).symm)

/-- The columns of queries, keys and values. -/
theorem qkv_load (k : Fin 1024) (f : Fin 2048) : View.ld w r0_3 (ix2 k f) = w (ix2 k ⟨f.val, by omega⟩) :=
  View.ld_unit_apply_of w _ _ _ (ix2 k f) _ (fun a => match a with
    | ⟨0, _⟩ => (Nat.zero_add _).symm
    | ⟨1, _⟩ => (Nat.zero_add _).symm)

/-- The columns of the gates. -/
theorem gates_load (k : Fin 1024) (f : Fin 1152) : View.ld w r0_2 (ix2 k f) = w (ix2 k ⟨2048 + f.val, by omega⟩) :=
  View.ld_unit_apply_of w _ _ _ (ix2 k f) _ (fun a => match a with
    | ⟨0, _⟩ => (Nat.zero_add _).symm
    | ⟨1, _⟩ => rfl)

theorem tileQ_eq (X : Vec Ideal S256x1024 .f32) (W : Vec Ideal S1024x2048 .bf16) (r : Fin 256) (y : Fin 1024) (j : Fin 512)
    (hx : ∀ k, X (ix2 r k) = x (ix2 y k))
    (hw : ∀ (k : Fin 1024) (f : Fin 2048), W (ix2 k f) = w (ix2 k ⟨f.val, by omega⟩)) :
    tileQ (F := Ideal) X g W (ix2 r j) = blockQ x g w y j := by
  rw [tileQ_apply]
  simp only [hx, hw]
  rfl

theorem pieceQ (ro : ℕ) (i1 : ∀ a, ![ro, 0] a + S256x1024.size a ≤ S1024x1024.size a)
    (z : S256x512.Idx) (y : Fin 1024) (j : Fin 512) (ey : y.val = ro + (z 0).val) (ej : j.val = (z 1).val) :
    tileQ (F := Ideal) (View.ld x (Rect.unit (s := S1024x1024) ![ro, 0] S256x1024.size i1)) (View.ld g r0_1)
        (View.ld w r0_3) z = blockQ x g w y j := by
  obtain ⟨r, l, rfl⟩ : ∃ (r : Fin 256) (l : Fin 512), z = ix2 r l := ⟨z 0, z 1, funext fun a => match a with
    | ⟨0, _⟩ => rfl
    | ⟨1, _⟩ => rfl⟩
  change y.val = ro + r.val at ey
  obtain rfl : j = l := Fin.ext ej
  have h1 : ∀ v : Vec Ideal S1x1024 .f32, View.ld v r0_1 = v := fun v => View.ld_unit_lit _ v (by decide)
  rw [h1 g]
  exact tileQ_eq x g w _ _ r y j (rows_load x ro i1 r y ey) (qkv_load w)

theorem outQ_apply (y : Fin 1024) (j : Fin 512) :
    out0_5 (F := Ideal) x g w w2 b (ix2 y j) = blockQ x g w y j := by
  rw [outQ_eq]
  canon_tiles z e
  all_goals
    change y.val = _ at e0
    change j.val = _ at e1
    refine pieceQ x g w _ _ z y j ?_ ?_
    · first
        | exact e0
        | exact e0.trans (Nat.zero_add _).symm
    · first
        | exact e1
        | exact e1.trans (Nat.zero_add _)

theorem tileK_eq (X : Vec Ideal S256x1024 .f32) (W : Vec Ideal S1024x2048 .bf16) (r : Fin 256) (y : Fin 1024) (j : Fin 512)
    (hx : ∀ k, X (ix2 r k) = x (ix2 y k))
    (hw : ∀ (k : Fin 1024) (f : Fin 2048), W (ix2 k f) = w (ix2 k ⟨f.val, by omega⟩)) :
    tileK (F := Ideal) X g W (ix2 r j) = blockK x g w y j := by
  rw [tileK_apply]
  simp only [hx, hw]
  rfl

theorem pieceK (ro : ℕ) (i1 : ∀ a, ![ro, 0] a + S256x1024.size a ≤ S1024x1024.size a)
    (z : S256x512.Idx) (y : Fin 1024) (j : Fin 512) (ey : y.val = ro + (z 0).val) (ej : j.val = (z 1).val) :
    tileK (F := Ideal) (View.ld x (Rect.unit (s := S1024x1024) ![ro, 0] S256x1024.size i1)) (View.ld g r0_1)
        (View.ld w r0_3) z = blockK x g w y j := by
  obtain ⟨r, l, rfl⟩ : ∃ (r : Fin 256) (l : Fin 512), z = ix2 r l := ⟨z 0, z 1, funext fun a => match a with
    | ⟨0, _⟩ => rfl
    | ⟨1, _⟩ => rfl⟩
  change y.val = ro + r.val at ey
  obtain rfl : j = l := Fin.ext ej
  have h1 : ∀ v : Vec Ideal S1x1024 .f32, View.ld v r0_1 = v := fun v => View.ld_unit_lit _ v (by decide)
  rw [h1 g]
  exact tileK_eq x g w _ _ r y j (rows_load x ro i1 r y ey) (qkv_load w)

theorem outK_apply (y : Fin 1024) (j : Fin 512) :
    out0_6 (F := Ideal) x g w w2 b (ix2 y j) = blockK x g w y j := by
  rw [outK_eq]
  canon_tiles z e
  all_goals
    change y.val = _ at e0
    change j.val = _ at e1
    refine pieceK x g w _ _ z y j ?_ ?_
    · first
        | exact e0
        | exact e0.trans (Nat.zero_add _).symm
    · first
        | exact e1
        | exact e1.trans (Nat.zero_add _)

theorem tileV_eq (X : Vec Ideal S256x1024 .f32) (W : Vec Ideal S1024x2048 .bf16) (r : Fin 256) (y : Fin 1024) (j : Fin 1024)
    (hx : ∀ k, X (ix2 r k) = x (ix2 y k))
    (hw : ∀ (k : Fin 1024) (f : Fin 2048), W (ix2 k f) = w (ix2 k ⟨f.val, by omega⟩)) :
    tileV (F := Ideal) X g W (ix2 r j) = blockV x g w y j := by
  rw [tileV_apply]
  simp only [hx, hw]
  rfl

theorem pieceV (ro : ℕ) (i1 : ∀ a, ![ro, 0] a + S256x1024.size a ≤ S1024x1024.size a)
    (z : S256x1024.Idx) (y : Fin 1024) (j : Fin 1024) (ey : y.val = ro + (z 0).val) (ej : j.val = (z 1).val) :
    tileV (F := Ideal) (View.ld x (Rect.unit (s := S1024x1024) ![ro, 0] S256x1024.size i1)) (View.ld g r0_1)
        (View.ld w r0_3) z = blockV x g w y j := by
  obtain ⟨r, l, rfl⟩ : ∃ (r : Fin 256) (l : Fin 1024), z = ix2 r l := ⟨z 0, z 1, funext fun a => match a with
    | ⟨0, _⟩ => rfl
    | ⟨1, _⟩ => rfl⟩
  change y.val = ro + r.val at ey
  obtain rfl : j = l := Fin.ext ej
  have h1 : ∀ v : Vec Ideal S1x1024 .f32, View.ld v r0_1 = v := fun v => View.ld_unit_lit _ v (by decide)
  rw [h1 g]
  exact tileV_eq x g w _ _ r y j (rows_load x ro i1 r y ey) (qkv_load w)

theorem outV_apply (y : Fin 1024) (j : Fin 1024) :
    out0_7 (F := Ideal) x g w w2 b (ix2 y j) = blockV x g w y j := by
  rw [outV_eq]
  canon_tiles z e
  all_goals
    change y.val = _ at e0
    change j.val = _ at e1
    refine pieceV x g w _ _ z y j ?_ ?_
    · first
        | exact e0
        | exact e0.trans (Nat.zero_add _).symm
    · first
        | exact e1
        | exact e1.trans (Nat.zero_add _)

theorem tileG_eq (X : Vec Ideal S256x1024 .f32) (W : Vec Ideal S1024x1152 .bf16) (r : Fin 256) (y : Fin 1024) (j : Fin 1024)
    (hx : ∀ k, X (ix2 r k) = x (ix2 y k))
    (hw : ∀ (k : Fin 1024) (f : Fin 1152), W (ix2 k f) = w (ix2 k ⟨2048 + f.val, by omega⟩)) :
    tileG (F := Ideal) X g W (ix2 r j) = blockG x g w y j := by
  rw [tileG_apply]
  simp only [hx, hw]
  rfl

theorem pieceG (ro : ℕ) (i1 : ∀ a, ![ro, 0] a + S256x1024.size a ≤ S1024x1024.size a)
    (z : S256x1024.Idx) (y : Fin 1024) (j : Fin 1024) (ey : y.val = ro + (z 0).val) (ej : j.val = (z 1).val) :
    tileG (F := Ideal) (View.ld x (Rect.unit (s := S1024x1024) ![ro, 0] S256x1024.size i1)) (View.ld g r0_1)
        (View.ld w r0_2) z = blockG x g w y j := by
  obtain ⟨r, l, rfl⟩ : ∃ (r : Fin 256) (l : Fin 1024), z = ix2 r l := ⟨z 0, z 1, funext fun a => match a with
    | ⟨0, _⟩ => rfl
    | ⟨1, _⟩ => rfl⟩
  change y.val = ro + r.val at ey
  obtain rfl : j = l := Fin.ext ej
  have h1 : ∀ v : Vec Ideal S1x1024 .f32, View.ld v r0_1 = v := fun v => View.ld_unit_lit _ v (by decide)
  rw [h1 g]
  exact tileG_eq x g w _ _ r y j (rows_load x ro i1 r y ey) (gates_load w)

theorem outG_apply (y : Fin 1024) (j : Fin 1024) :
    out0_8 (F := Ideal) x g w w2 b (ix2 y j) = blockG x g w y j := by
  rw [outG_eq]
  canon_tiles z e
  all_goals
    change y.val = _ at e0
    change j.val = _ at e1
    refine pieceG x g w _ _ z y j ?_ ?_
    · first
        | exact e0
        | exact e0.trans (Nat.zero_add _).symm
    · first
        | exact e1
        | exact e1.trans (Nat.zero_add _)

theorem tileA_eq (X : Vec Ideal S256x1024 .f32) (W : Vec Ideal S1024x1152 .bf16) (r : Fin 256) (y : Fin 1024) (j : Fin 512)
    (hx : ∀ k, X (ix2 r k) = x (ix2 y k))
    (hw : ∀ (k : Fin 1024) (f : Fin 1152), W (ix2 k f) = w (ix2 k ⟨2048 + f.val, by omega⟩)) :
    tileA (F := Ideal) X g W w2 b (ix2 r j) = blockA x g w w2 b y j := by
  have e : ∀ i : Fin 16, (⟨2048 + (⟨1024 + i.val, by omega⟩ : Fin 1152).val, by omega⟩ : Fin 3200) = ⟨3072 + i.val, by omega⟩ :=
    fun i => Fin.ext (by show 2048 + (1024 + i.val) = 3072 + i.val; omega)
  rw [tileA_apply]
  simp only [hx, hw, e]
  rfl

theorem pieceA (ro : ℕ) (i1 : ∀ a, ![ro, 0] a + S256x1024.size a ≤ S1024x1024.size a)
    (z : S256x512.Idx) (y : Fin 1024) (j : Fin 512) (ey : y.val = ro + (z 0).val) (ej : j.val = (z 1).val) :
    tileA (F := Ideal) (View.ld x (Rect.unit (s := S1024x1024) ![ro, 0] S256x1024.size i1)) (View.ld g r0_1)
        (View.ld w r0_2) (View.ld w2 r0_4) (View.ld b r0_5) z = blockA x g w w2 b y j := by
  obtain ⟨r, l, rfl⟩ : ∃ (r : Fin 256) (l : Fin 512), z = ix2 r l := ⟨z 0, z 1, funext fun a => match a with
    | ⟨0, _⟩ => rfl
    | ⟨1, _⟩ => rfl⟩
  change y.val = ro + r.val at ey
  obtain rfl : j = l := Fin.ext ej
  have h1 : ∀ v : Vec Ideal S1x1024 .f32, View.ld v r0_1 = v := fun v => View.ld_unit_lit _ v (by decide)
  have h4 : ∀ v : Vec Ideal S16x512 .bf16, View.ld v r0_4 = v := fun v => View.ld_unit_lit _ v (by decide)
  have h5 : ∀ v : Vec Ideal S1x512 .f32, View.ld v r0_5 = v := fun v => View.ld_unit_lit _ v (by decide)
  rw [h1 g, h4 w2, h5 b]
  exact tileA_eq x g w w2 b _ _ r y j (rows_load x ro i1 r y ey) (gates_load w)

theorem outA_apply (y : Fin 1024) (j : Fin 512) :
    out0_9 (F := Ideal) x g w w2 b (ix2 y j) = blockA x g w w2 b y j := by
  rw [outA_eq]
  canon_tiles z e
  all_goals
    change y.val = _ at e0
    change j.val = _ at e1
    refine pieceA x g w w2 b _ _ z y j ?_ ?_
    · first
        | exact e0
        | exact e0.trans (Nat.zero_add _).symm
    · first
        | exact e1
        | exact e1.trans (Nat.zero_add _)

end Cert.Proof.InC

end
-- ==== Proof.InCLog.lean ====
/-
  The logarithm of the logistic as a softplus, and its division by sixteen as a product.
-/
module

public import proofs.«01_k».proof.Proof.Rows
public import Idealize.ShloMosaic.PureOps.Ideal.Laws

@[expose] public section

set_option maxRecDepth 16384

noncomputable section

namespace Cert.Proof.Rows

open Idealize.ShloMosaic

/-- `log (1 + exp y)` is not `⊥`. -/
theorem log1p_exp_ne_bot (y : EReal) : Ideal.log1p (Ideal.exp y) ≠ ⊥ := by
  induction y using EReal.rec with
  | bot =>
    show Ideal.log (1 + 0) ≠ ⊥
    rw [add_zero]
    show (if (1 : ℝ) ≤ 0 then ⊥ else ((Real.log 1 : ℝ) : EReal)) ≠ ⊥
    rw [if_neg (by norm_num)]
    exact EReal.coe_ne_bot _
  | coe r =>
    show Ideal.log (((1 : ℝ) : EReal) + ((Real.exp r : ℝ) : EReal)) ≠ ⊥
    rw [← EReal.coe_add]
    show (if (1 + Real.exp r : ℝ) ≤ 0 then ⊥ else ((Real.log (1 + Real.exp r) : ℝ) : EReal)) ≠ ⊥
    rw [if_neg (by have := Real.exp_pos r; linarith)]
    exact EReal.coe_ne_bot _
  | top =>
    show Ideal.log (((1 : ℝ) : EReal) + ⊤) ≠ ⊥
    rw [EReal.coe_add_top]
    show (⊤ : EReal) ≠ ⊥
    exact top_ne_bot

/-- Minus the softplus of `-z` is the logarithm of the logistic. -/
theorem neg_softplus (z : EReal) :
    -(max (-z) 0 + Ideal.log1p (Ideal.exp (-max (-z) (- -z)))) = logSigmoid z := by
  have hm : max (-z) 0 ≠ ⊥ := ne_of_gt (lt_of_lt_of_le EReal.bot_lt_zero (le_max_right _ _))
  rw [EReal.neg_add (Or.inl hm) (Or.inr (log1p_exp_ne_bot _)), neg_neg, max_comm (-z) z]
  unfold logSigmoid
  refine congrArg (· - _) ?_
  rcases le_total z 0 with h | h
  · rw [max_eq_left (EReal.neg_nonneg.mpr h), min_eq_left h, neg_neg]
  · rw [max_eq_right (EReal.neg_le_zero.mpr h), min_eq_right h, neg_zero]

/-- A sixteenth, as the programs write it. -/
theorem sixteenth : Ideal.ofBits .f32 0x3D800000#32 = ((1 / 16 : ℝ) : EReal) := by
  simp [Ideal.ofBits, Ideal.ieee]
  norm_num
  rw [← EReal.coe_mul]
  norm_num

/-- Sixteen, as the programs write it. -/
theorem sixteen : Ideal.ofBits .f32 0x41800000#32 = ((16 : ℝ) : EReal) := by
  simp [Ideal.ofBits, Ideal.ieee]
  norm_num
  rw [← EReal.coe_mul]
  norm_num

/-- Division by sixteen is the product with a sixteenth. -/
theorem div_sixteen (z : EReal) :
    Ideal.div z (Ideal.ofBits .f32 0x41800000#32) = z * Ideal.ofBits .f32 0x3D800000#32 := by
  rw [sixteen, sixteenth, Ideal.div, if_neg (by exact_mod_cast (by norm_num : (16 : ℝ) ≠ 0)), ← EReal.coe_inv]
  norm_num

end Cert.Proof.Rows

end
-- ==== Proof.InCRef.lean ====
/-
  The reference for the second layer's input projection, read at an element.
-/
module

public import proofs.«01_k».proof.Proof.InCLog
public import proofs.«01_k».proof.Proof.Gen.InCRefIdeal.Read
public import Idealize.ShloMosaic.Lib.Pointwise

@[expose] public section

set_option maxRecDepth 16384

noncomputable section

namespace Cert.Proof.InCRef

open Idealize.ShloMosaic Idealize.ShloMosaic.Tactic Idealize.ShloMosaic.TcCoe
open Cert.InCRefIdeal Cert.InCRefIdeal.Gen Cert.InCRefIdeal.Read
open Cert.Proof.Rows

variable (x : Vec Ideal S32768x1024 .f32) (g : Vec Ideal S2x1024 .f32) (w : Vec Ideal S1x1024x3088 .f32)
  (w2 : Vec Ideal S1x16x512 .f32) (b : Vec Ideal S1x512 .f32) (n : Fin 32768)

theorem hidden_apply (j : Fin 1024) :
    val_main_v14 (F := Ideal) x g (ix2 n j) = rmsNorm (fun k => x (ix2 n k)) (fun k => g (ix2 1 k)) j := by
  unfold val_main_v14 val_main_v13 val_main_v12 val_main_v11 val_main_v10 val_main_v9 val_main_v8 val_main_v7
    val_main_v6 val_main_v5 val_main_v4 val_main_v3 val_main_v2 val_main_v1 val_main_v0 val_main_cst val_main_cst_0
    val_main_cst_1
  pointwise
  rfl

theorem proj_apply (f : Fin 3088) :
    val_main_v16 (F := Ideal) x g w (ix2 n f)
      = dot (rmsNorm (fun k => x (ix2 n k)) (fun k => g (ix2 1 k))) (fun k => w (ix3 0 k f)) := by
  have e : val_main_v16 (F := Ideal) x g w (ix2 n f)
      = dot (fun k => val_main_v14 (F := Ideal) x g (ix2 n k)) (fun k => w (ix3 0 k f)) := by
    unfold val_main_v16 val_main_v15
    generalize val_main_v14 (F := Ideal) x g = y
    pointwise
    rfl
  rw [e]
  simp only [hidden_apply]

theorem refQ_apply (j : Fin 512) : val_main_v33 (F := Ideal) x g w (ix2 n j)
    = dot (rmsNorm (fun k => x (ix2 n k)) (fun k => g (ix2 1 k))) (fun k => w (ix3 0 k ⟨j.val, by omega⟩))
      * Ideal.ofBits .f32 0x3DB504F3#32 := by
  rw [← proj_apply]
  unfold val_main_v33 val_main_v32 val_main_v31 val_main_v17 val_main_cst_3
  generalize val_main_v16 (F := Ideal) x g w = y
  pointwise

theorem refK_apply (j : Fin 512) : val_main_v34 (F := Ideal) x g w (ix2 n j)
    = dot (rmsNorm (fun k => x (ix2 n k)) (fun k => g (ix2 1 k))) (fun k => w (ix3 0 k ⟨512 + j.val, by omega⟩)) := by
  rw [← proj_apply]
  unfold val_main_v34 val_main_v18
  generalize val_main_v16 (F := Ideal) x g w = y
  pointwise

theorem refV_apply (j : Fin 1024) : val_main_v35 (F := Ideal) x g w (ix2 n j)
    = dot (rmsNorm (fun k => x (ix2 n k)) (fun k => g (ix2 1 k))) (fun k => w (ix3 0 k ⟨1024 + j.val, by omega⟩)) := by
  rw [← proj_apply]
  unfold val_main_v35 val_main_v19
  generalize val_main_v16 (F := Ideal) x g w = y
  pointwise

theorem refG_apply (j : Fin 1024) : val_main_v37 (F := Ideal) x g w (ix2 n j)
    = silu (dot (rmsNorm (fun k => x (ix2 n k)) (fun k => g (ix2 1 k))) (fun k => w (ix3 0 k ⟨2048 + j.val, by omega⟩))) := by
  rw [← proj_apply]
  unfold val_main_v37 val_main_v36 val_main_call1_v5 val_main_call1_v4 val_main_call1_v3 val_main_call1_v2
    val_main_call1_v1 val_main_call1_v0 val_main_call1_cst val_main_call1_cst_0 val_main_v20
  generalize val_main_v16 (F := Ideal) x g w = y
  pointwise
  rfl

theorem low_apply (j : Fin 512) : val_main_v27 (F := Ideal) x g w w2 b (ix2 n j)
    = dot (fun i : Fin 16 => dot (rmsNorm (fun k => x (ix2 n k)) (fun k => g (ix2 1 k)))
        (fun k => w (ix3 0 k ⟨3072 + i.val, by omega⟩))) (fun i => w2 (ix3 0 i j)) + b (ix2 0 j) := by
  simp only [← proj_apply]
  unfold val_main_v27 val_main_v26 val_main_v25 val_main_v24 val_main_v23 val_main_v22 val_main_v21
  generalize val_main_v16 (F := Ideal) x g w = y
  pointwise
  rfl

theorem logSig_apply (j : Fin 512) : val_main_v28 (F := Ideal) x g w w2 b (ix2 n j)
    = logSigmoid (val_main_v27 (F := Ideal) x g w w2 b (ix2 n j)) := by
  rw [← neg_softplus]
  unfold val_main_v28 val_main_call0_v1 val_main_call0_call0_v11 val_main_call0_call0_v10 val_main_call0_call0_v9
    val_main_call0_call0_v8 val_main_call0_call0_v7 val_main_call0_call0_v6 val_main_call0_call0_v5 val_main_call0_call0_v4
    val_main_call0_call0_v3 val_main_call0_call0_v2 val_main_call0_call0_v1 val_main_call0_call0_v0
    val_main_call0_call0_cst val_main_call0_v0
  generalize val_main_v27 (F := Ideal) x g w w2 b = y
  pointwise
  rw [if_neg (not_not.mpr rfl)]
  rfl

theorem refA_apply (j : Fin 512) : val_main_v30 (F := Ideal) x g w w2 b (ix2 n j)
    = logSigmoid (dot (fun i : Fin 16 => dot (rmsNorm (fun k => x (ix2 n k)) (fun k => g (ix2 1 k)))
        (fun k => w (ix3 0 k ⟨3072 + i.val, by omega⟩))) (fun i => w2 (ix3 0 i j)) + b (ix2 0 j))
      * Ideal.ofBits .f32 0x3D800000#32 := by
  rw [← low_apply, ← logSig_apply, ← div_sixteen]
  unfold val_main_v30 val_main_v29 val_main_cst_2
  generalize val_main_v28 (F := Ideal) x g w w2 b = y
  pointwise

end Cert.Proof.InCRef

end
-- ==== Proof.InCValue.lean ====
/-
  The results of the second layer's input projection and its reference's are the same arrays.
-/
module

public import proofs.«01_k».proof.Proof.InCHost
public import proofs.«01_k».proof.Proof.InCBlock
public import proofs.«01_k».proof.Proof.InCRef
public import Idealize.ShloMosaic.Lib.Pipeline.ValueKit

@[expose] public section

set_option maxRecDepth 16384

noncomputable section

namespace Cert.Proof.InC

open Idealize.ShloMosaic Idealize.ShloMosaic.Tactic Idealize.ShloMosaic.TcCoe
open Cert.InCIdeal Cert.InCIdeal.Gen Cert.Proof.Rows

variable (m : (ℓ : Loc nD τ sig) → Buf (Elt Ideal) ℓ) (c : Dev nD)

/-! The reference's arrays of the kernel's arguments. -/

def refQ : FVec Ideal S32768x512 .bf16 :=
  Cert.InCRefIdeal.Read.val_main_v33 (F := Ideal) (m ((c : Thread nD τ).loc main_arg0)) (m ((c : Thread nD τ).loc main_arg1)) (m ((c : Thread nD τ).loc main_arg2))

def refK : FVec Ideal S32768x512 .bf16 :=
  Cert.InCRefIdeal.Read.val_main_v34 (F := Ideal) (m ((c : Thread nD τ).loc main_arg0)) (m ((c : Thread nD τ).loc main_arg1)) (m ((c : Thread nD τ).loc main_arg2))

def refV : FVec Ideal S32768x1024 .bf16 :=
  Cert.InCRefIdeal.Read.val_main_v35 (F := Ideal) (m ((c : Thread nD τ).loc main_arg0)) (m ((c : Thread nD τ).loc main_arg1)) (m ((c : Thread nD τ).loc main_arg2))

def refG : FVec Ideal S32768x1024 .bf16 :=
  Cert.InCRefIdeal.Read.val_main_v37 (F := Ideal) (m ((c : Thread nD τ).loc main_arg0)) (m ((c : Thread nD τ).loc main_arg1)) (m ((c : Thread nD τ).loc main_arg2))

def refA : FVec Ideal S32768x512 .f32 :=
  Cert.InCRefIdeal.Read.val_main_v30 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-! What point `t` computes at row `y` is the reference's row `1024 t + y`. -/

theorem pointQ (t : Fin cfg0.N) (y : Fin 1024) (l : Fin 512) (n : Fin 32768) (hn : n.val = t.val * 1024 + y.val) :
    out0_5 (F := Ideal) (iblk m c 0 t) (iblk m c 1 t) (iblk m c 2 t) (iblk m c 3 t) (iblk m c 4 t) (ix2 y l)
      = refQ m c (ix2 n l) := by
  have hw := fun k : Fin 1024 => w_read m c t k (⟨l.val, by omega⟩ : Fin 3200) ⟨l.val, by omega⟩ rfl
  rw [outQ_apply]
  unfold refQ
  rw [Cert.Proof.InCRef.refQ_apply]
  unfold blockQ
  simp only [stream_read m c t y _ n hn, gains_read m c t, hw]

theorem pointK (t : Fin cfg0.N) (y : Fin 1024) (l : Fin 512) (n : Fin 32768) (hn : n.val = t.val * 1024 + y.val) :
    out0_6 (F := Ideal) (iblk m c 0 t) (iblk m c 1 t) (iblk m c 2 t) (iblk m c 3 t) (iblk m c 4 t) (ix2 y l)
      = refK m c (ix2 n l) := by
  have hw := fun k : Fin 1024 => w_read m c t k (⟨512 + l.val, by omega⟩ : Fin 3200) ⟨512 + l.val, by omega⟩ rfl
  rw [outK_apply]
  unfold refK
  rw [Cert.Proof.InCRef.refK_apply]
  unfold blockK
  simp only [stream_read m c t y _ n hn, gains_read m c t, hw]

theorem pointV (t : Fin cfg0.N) (y : Fin 1024) (l : Fin 1024) (n : Fin 32768) (hn : n.val = t.val * 1024 + y.val) :
    out0_7 (F := Ideal) (iblk m c 0 t) (iblk m c 1 t) (iblk m c 2 t) (iblk m c 3 t) (iblk m c 4 t) (ix2 y l)
      = refV m c (ix2 n l) := by
  have hw := fun k : Fin 1024 => w_read m c t k (⟨1024 + l.val, by omega⟩ : Fin 3200) ⟨1024 + l.val, by omega⟩ rfl
  rw [outV_apply]
  unfold refV
  rw [Cert.Proof.InCRef.refV_apply]
  unfold blockV
  simp only [stream_read m c t y _ n hn, gains_read m c t, hw]

theorem pointG (t : Fin cfg0.N) (y : Fin 1024) (l : Fin 1024) (n : Fin 32768) (hn : n.val = t.val * 1024 + y.val) :
    out0_8 (F := Ideal) (iblk m c 0 t) (iblk m c 1 t) (iblk m c 2 t) (iblk m c 3 t) (iblk m c 4 t) (ix2 y l)
      = refG m c (ix2 n l) := by
  have hw := fun k : Fin 1024 => w_read m c t k (⟨2048 + l.val, by omega⟩ : Fin 3200) ⟨2048 + l.val, by omega⟩ rfl
  rw [outG_apply]
  unfold refG
  rw [Cert.Proof.InCRef.refG_apply]
  unfold blockG
  simp only [stream_read m c t y _ n hn, gains_read m c t, hw]

theorem pointA (t : Fin cfg0.N) (y : Fin 1024) (l : Fin 512) (n : Fin 32768) (hn : n.val = t.val * 1024 + y.val) :
    out0_9 (F := Ideal) (iblk m c 0 t) (iblk m c 1 t) (iblk m c 2 t) (iblk m c 3 t) (iblk m c 4 t) (ix2 y l)
      = refA m c (ix2 n l) := by
  have hw := fun (k : Fin 1024) (i : Fin 16) => w_read m c t k (⟨3072 + i.val, by omega⟩ : Fin 3200) ⟨3072 + i.val, by omega⟩ rfl
  rw [outA_apply]
  unfold refA
  rw [Cert.Proof.InCRef.refA_apply]
  unfold blockA
  simp only [stream_read m c t y _ n hn, gains_read m c t, hw, w2_read m c t, bias_read m c t]

/-! The results after the run. -/

theorem resultQ : (dats m 0 c).arrAt 5 cfg0.N = refQ m c := by
  refine (dats m 0 c).arrAt_eq_of_covers 5 _ (by decide +kernel) fun t hf y => ?_
  have hp := pointQ m c t
  have ht := t_lt t
  obtain ⟨h0, h1⟩ := index5 t
  rw [after0_5]
  generalize out0_5 (F := Ideal) (iblk m c 0 t) (iblk m c 1 t) (iblk m c 2 t) (iblk m c 3 t) (iblk m c 4 t) = X at hp ⊢
  generalize refQ m c = G at hp ⊢
  obtain ⟨r, l, rfl⟩ : ∃ (r : Fin 1024) (l : Fin 512), y = ix2 r l := ⟨y 0, y 1, funext fun a => match a with
    | ⟨0, _⟩ => rfl
    | ⟨1, _⟩ => rfl⟩
  refine (hp r l ⟨t.val * 1024 + r.val, by omega⟩ rfl).trans (congrArg G (funext fun a => Fin.ext ?_))
  match a with
  | ⟨0, _⟩ => show t.val * 1024 + r.val = win0_5.index t (0 : Fin 2) * 1024 + 1 * r.val; rw [h0]; omega
  | ⟨1, _⟩ => show l.val = win0_5.index t (1 : Fin 2) * 512 + 1 * l.val; rw [h1]; omega

theorem resultK : (dats m 0 c).arrAt 6 cfg0.N = refK m c := by
  refine (dats m 0 c).arrAt_eq_of_covers 6 _ (by decide +kernel) fun t hf y => ?_
  have hp := pointK m c t
  have ht := t_lt t
  obtain ⟨h0, h1⟩ := index6 t
  rw [after0_6]
  generalize out0_6 (F := Ideal) (iblk m c 0 t) (iblk m c 1 t) (iblk m c 2 t) (iblk m c 3 t) (iblk m c 4 t) = X at hp ⊢
  generalize refK m c = G at hp ⊢
  obtain ⟨r, l, rfl⟩ : ∃ (r : Fin 1024) (l : Fin 512), y = ix2 r l := ⟨y 0, y 1, funext fun a => match a with
    | ⟨0, _⟩ => rfl
    | ⟨1, _⟩ => rfl⟩
  refine (hp r l ⟨t.val * 1024 + r.val, by omega⟩ rfl).trans (congrArg G (funext fun a => Fin.ext ?_))
  match a with
  | ⟨0, _⟩ => show t.val * 1024 + r.val = win0_6.index t (0 : Fin 2) * 1024 + 1 * r.val; rw [h0]; omega
  | ⟨1, _⟩ => show l.val = win0_6.index t (1 : Fin 2) * 512 + 1 * l.val; rw [h1]; omega

theorem resultV : (dats m 0 c).arrAt 7 cfg0.N = refV m c := by
  refine (dats m 0 c).arrAt_eq_of_covers 7 _ (by decide +kernel) fun t hf y => ?_
  have hp := pointV m c t
  have ht := t_lt t
  obtain ⟨h0, h1⟩ := index7 t
  rw [after0_7]
  generalize out0_7 (F := Ideal) (iblk m c 0 t) (iblk m c 1 t) (iblk m c 2 t) (iblk m c 3 t) (iblk m c 4 t) = X at hp ⊢
  generalize refV m c = G at hp ⊢
  obtain ⟨r, l, rfl⟩ : ∃ (r : Fin 1024) (l : Fin 1024), y = ix2 r l := ⟨y 0, y 1, funext fun a => match a with
    | ⟨0, _⟩ => rfl
    | ⟨1, _⟩ => rfl⟩
  refine (hp r l ⟨t.val * 1024 + r.val, by omega⟩ rfl).trans (congrArg G (funext fun a => Fin.ext ?_))
  match a with
  | ⟨0, _⟩ => show t.val * 1024 + r.val = win0_7.index t (0 : Fin 2) * 1024 + 1 * r.val; rw [h0]; omega
  | ⟨1, _⟩ => show l.val = win0_7.index t (1 : Fin 2) * 1024 + 1 * l.val; rw [h1]; omega

theorem resultG : (dats m 0 c).arrAt 8 cfg0.N = refG m c := by
  refine (dats m 0 c).arrAt_eq_of_covers 8 _ (by decide +kernel) fun t hf y => ?_
  have hp := pointG m c t
  have ht := t_lt t
  obtain ⟨h0, h1⟩ := index8 t
  rw [after0_8]
  generalize out0_8 (F := Ideal) (iblk m c 0 t) (iblk m c 1 t) (iblk m c 2 t) (iblk m c 3 t) (iblk m c 4 t) = X at hp ⊢
  generalize refG m c = G at hp ⊢
  obtain ⟨r, l, rfl⟩ : ∃ (r : Fin 1024) (l : Fin 1024), y = ix2 r l := ⟨y 0, y 1, funext fun a => match a with
    | ⟨0, _⟩ => rfl
    | ⟨1, _⟩ => rfl⟩
  refine (hp r l ⟨t.val * 1024 + r.val, by omega⟩ rfl).trans (congrArg G (funext fun a => Fin.ext ?_))
  match a with
  | ⟨0, _⟩ => show t.val * 1024 + r.val = win0_8.index t (0 : Fin 2) * 1024 + 1 * r.val; rw [h0]; omega
  | ⟨1, _⟩ => show l.val = win0_8.index t (1 : Fin 2) * 1024 + 1 * l.val; rw [h1]; omega

theorem resultA : (dats m 0 c).arrAt 9 cfg0.N = refA m c := by
  refine (dats m 0 c).arrAt_eq_of_covers 9 _ (by decide +kernel) fun t hf y => ?_
  have hp := pointA m c t
  have ht := t_lt t
  obtain ⟨h0, h1⟩ := index9 t
  rw [after0_9]
  generalize out0_9 (F := Ideal) (iblk m c 0 t) (iblk m c 1 t) (iblk m c 2 t) (iblk m c 3 t) (iblk m c 4 t) = X at hp ⊢
  generalize refA m c = G at hp ⊢
  obtain ⟨r, l, rfl⟩ : ∃ (r : Fin 1024) (l : Fin 512), y = ix2 r l := ⟨y 0, y 1, funext fun a => match a with
    | ⟨0, _⟩ => rfl
    | ⟨1, _⟩ => rfl⟩
  refine (hp r l ⟨t.val * 1024 + r.val, by omega⟩ rfl).trans (congrArg G (funext fun a => Fin.ext ?_))
  match a with
  | ⟨0, _⟩ => show t.val * 1024 + r.val = win0_9.index t (0 : Fin 2) * 1024 + 1 * r.val; rw [h0]; omega
  | ⟨1, _⟩ => show l.val = win0_9.index t (1 : Fin 2) * 512 + 1 * l.val; rw [h1]; omega

end Cert.Proof.InC

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.InA
public import proofs.«01_k».proof.Proof.Gen.InA.Skeleton
public import proofs.«01_k».proof.Proof.Gen.InA.Launch
public import proofs.«01_k».proof.Proof.Gen.InA.Points
public import proofs.«01_k».proof.Proof.Gen.InA.Frame
public import proofs.«01_k».proof.Proof.Gen.InAIdeal
public import proofs.«01_k».proof.Proof.Gen.InAIdeal.Skeleton
public import proofs.«01_k».proof.Proof.Gen.InAIdeal.Launch
public import proofs.«01_k».proof.Proof.Gen.InAIdeal.Points
public import proofs.«01_k».proof.Proof.Gen.InAIdeal.Frame
public import proofs.«01_k».proof.Proof.Gen.InARefIdeal
public import proofs.«01_k».proof.Proof.Gen.InC
public import proofs.«01_k».proof.Proof.Gen.InC.Skeleton
public import proofs.«01_k».proof.Proof.Gen.InC.Launch
public import proofs.«01_k».proof.Proof.Gen.InC.Points
public import proofs.«01_k».proof.Proof.Gen.InC.Frame
public import proofs.«01_k».proof.Proof.Gen.InCIdeal
public import proofs.«01_k».proof.Proof.Gen.InCIdeal.Skeleton
public import proofs.«01_k».proof.Proof.Gen.InCIdeal.Launch
public import proofs.«01_k».proof.Proof.Gen.InCIdeal.Points
public import proofs.«01_k».proof.Proof.Gen.InCIdeal.Frame
public import proofs.«01_k».proof.Proof.Gen.InCRefIdeal
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.Pre_finite
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.InAIdeal.Value
public import proofs.«01_k».proof.Proof.Gen.InARefIdeal.Run
public import proofs.«01_k».proof.Proof.Gen.InARefIdeal.Read
public import proofs.«01_k».proof.Proof.Gen.InCIdeal.Value
public import proofs.«01_k».proof.Proof.Gen.InCRefIdeal.Run
public import proofs.«01_k».proof.Proof.Gen.InCRefIdeal.Read
public import Idealize.ShloMosaic.Adequacy
public import Idealize.ShloMosaic.Init
public import proofs.«01_k».proof.Proof.AttnPre
public import proofs.«01_k».proof.Proof.AttnValue
public import proofs.«01_k».proof.Proof.FfnValue
public import proofs.«01_k».proof.Proof.InAValue
public import proofs.«01_k».proof.Proof.InCValue
public import Idealize.ShloMosaic.Lib.Quiescent

@[expose] public section

noncomputable section

namespace Cert.Proof

open Idealize.ShloMosaic Idealize.SL.Sem Cert.Attn

/-! ## Frames -/

theorem quiescent_AttnRefIdeal : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem quiescent_AttnRefIdeal_pre_finite : Cert.quiescent_AttnRefIdeal_pre_finite := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem quiescent_FfnRefIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem quiescent_InARefIdeal : Cert.quiescent_InARefIdeal := fun m ρ _ =>
  (θ_run Cert.InARefIdeal.defs _ _).mono (fun r h => ⟨fun c => (h c).2.2.2.2, sem_eq_zero_of_no_sems (by decide) r.2⟩)
    (Cert.InARefIdeal.Value.run (F := Ideal) m ρ)

theorem quiescent_InCRefIdeal : Cert.quiescent_InCRefIdeal := fun m ρ _ =>
  (θ_run Cert.InCRefIdeal.defs _ _).mono (fun r h => ⟨fun c => (h c).2.2.2.2.2, sem_eq_zero_of_no_sems (by decide) r.2⟩)
    (Cert.InCRefIdeal.Value.run (F := Ideal) m ρ)

/-! ## Values -/

/-- The attention kernel and its reference agree where the scores are real numbers. -/
theorem algebraic_Attn : Cert.algebraic_AttnIdeal_AttnRefIdeal_pre_finite := by
  intro m ρ m' ρ' hpre hagree
  refine ⟨_, Cert.AttnIdeal.Value.run (F := Ideal) m ρ, ?_⟩
  refine (θ_run Cert.AttnRefIdeal.defs _ _).mono (fun _ h c => ⟨?_, (h c).2⟩) (Cert.AttnRefIdeal.Value.run (F := Ideal) m' ρ')
  refine (h c).1.trans ?_
  obtain ⟨hq, hk, hb⟩ := Attn.reals_of_pre _ _ _ _ (hpre c)
  obtain ⟨e0, e1, e2, e3⟩ := hagree c
  refine Eq.trans ?_ (Attn.result_eq m c hq hk hb).symm
  rw [← e0, ← e1, ← e2, ← e3]
  exact Cert.AttnRefIdeal.Read.val_main_v79_eq m' c

/-- The output projection and feed-forward kernel and its reference agree. -/
theorem algebraic_Ffn : Cert.algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨?_, (h c).2⟩) (Cert.FfnRefIdeal.Value.run (F := Ideal) m' ρ')
  refine (h c).1.trans ?_
  obtain ⟨e0, e1, e2, e3, e4, e5, e6, e7, e8, e9⟩ := hagree c
  refine Eq.trans ?_ (Ffn.result_eq m c).symm
  unfold Ffn.refArr
  rw [← e0, ← e1, ← e2, ← e3, ← e4, ← e5, ← e6, ← e7, ← e8, ← e9]
  exact Cert.FfnRefIdeal.Read.val_main_v62_eq m' c

/-- The first layer's input projection and its reference agree. -/
theorem algebraic_InA : Cert.algebraic_InAIdeal_InARefIdeal := by
  intro m ρ m' ρ' _ hagree
  refine ⟨_, _, _, _, Cert.InAIdeal.Value.run_blocks (F := Ideal) m ρ, ?_⟩
  refine (θ_run Cert.InARefIdeal.defs _ _).mono (fun _ h c => ⟨?_, ?_, ?_, ?_, (h c).2.2.2.2⟩)
    (Cert.InARefIdeal.Value.run (F := Ideal) m' ρ')
  all_goals obtain ⟨e0, e1, e2, e3, e4, e5, e6⟩ := hagree c
  · refine (h c).1.trans ((?_ : _ = InA.refQ m c).trans (InA.resultQ m c).symm)
    unfold InA.refQ
    rw [← e0, ← e1, ← e2]
    exact Cert.InARefIdeal.Read.val_main_v80_eq _ _ _
  · refine (h c).2.1.trans ((?_ : _ = InA.refK m c).trans (InA.resultK m c).symm)
    unfold InA.refK
    rw [← e0, ← e1, ← e2]
    exact Cert.InARefIdeal.Read.val_main_v81_eq _ _ _
  · refine (h c).2.2.1.trans ((?_ : _ = InA.refV m c).trans (InA.resultV m c).symm)
    unfold InA.refV
    rw [← e0, ← e1, ← e2]
    exact Cert.InARefIdeal.Read.val_main_v82_eq _ _ _
  · refine (h c).2.2.2.1.trans ((?_ : _ = InA.refB m c).trans (InA.resultB m c).symm)
    unfold InA.refB
    rw [← e0, ← e1, ← e2, ← e3, ← e4, ← e5, ← e6]
    exact Cert.InARefIdeal.Read.val_main_v83_eq m' c

/-- The second layer's input projection and its reference agree. -/
theorem algebraic_InC : Cert.algebraic_InCIdeal_InCRefIdeal := by
  intro m ρ m' ρ' _ hagree
  refine ⟨_, _, _, _, _, Cert.InCIdeal.Value.run_blocks (F := Ideal) m ρ, ?_⟩
  refine (θ_run Cert.InCRefIdeal.defs _ _).mono (fun _ h c => ⟨?_, ?_, ?_, ?_, ?_, (h c).2.2.2.2.2⟩)
    (Cert.InCRefIdeal.Value.run (F := Ideal) m' ρ')
  all_goals obtain ⟨e0, e1, e2, e3, e4⟩ := hagree c
  · refine (h c).1.trans ((?_ : _ = InC.refQ m c).trans (InC.resultQ m c).symm)
    unfold InC.refQ
    rw [← e0, ← e1, ← e2]
    exact Cert.InCRefIdeal.Read.val_main_v33_eq _ _ _
  · refine (h c).2.1.trans ((?_ : _ = InC.refK m c).trans (InC.resultK m c).symm)
    unfold InC.refK
    rw [← e0, ← e1, ← e2]
    exact Cert.InCRefIdeal.Read.val_main_v34_eq _ _ _
  · refine (h c).2.2.1.trans ((?_ : _ = InC.refV m c).trans (InC.resultV m c).symm)
    unfold InC.refV
    rw [← e0, ← e1, ← e2]
    exact Cert.InCRefIdeal.Read.val_main_v35_eq _ _ _
  · refine (h c).2.2.2.1.trans ((?_ : _ = InC.refG m c).trans (InC.resultG m c).symm)
    unfold InC.refG
    rw [← e0, ← e1, ← e2]
    exact Cert.InCRefIdeal.Read.val_main_v37_eq _ _ _
  · refine (h c).2.2.2.2.1.trans ((?_ : _ = InC.refA m c).trans (InC.resultA m c).symm)
    unfold InC.refA
    rw [← e0, ← e1, ← e2, ← e3, ← e4]
    exact Cert.InCRefIdeal.Read.val_main_v30_eq m' c

/-- The mask and the logarithm's constant, named. -/
theorem preserves_Attn : Cert.preserves_Attn_AttnIdeal :=
  ⟨IdealRules.named_const.statement _ _ _ _ _ rfl, IdealRules.named_const.statement _ _ _ _ _ rfl⟩

/-- The logarithm's constant of the gated linear attention, named. -/
theorem preserves_Gla : Cert.preserves_Gla_GlaIdeal :=
  IdealRules.named_const.statement _ _ _ _ _ rfl

theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.InA.Gen.facts, Cert.InAIdeal.Gen.facts, Cert.InARefIdeal.Gen.facts, Cert.InC.Gen.facts, Cert.InCIdeal.Gen.facts, Cert.InCRefIdeal.Gen.facts, Cert.Gla.Gen.facts, Cert.GlaIdeal.Gen.facts, Cert.Pre_finite.Gen.facts,
  fun m ρ _ => Cert.Attn.Gen.frame m ρ,
  fun m ρ _ => Cert.AttnIdeal.Gen.frame m ρ, fun m ρ _ => Cert.AttnIdeal.Gen.frame m ρ,
  quiescent_AttnRefIdeal, quiescent_AttnRefIdeal_pre_finite,
  fun m ρ _ => Cert.Ffn.Gen.frame m ρ, fun m ρ _ => Cert.FfnIdeal.Gen.frame m ρ, quiescent_FfnRefIdeal,
  fun m ρ _ => Cert.InA.Gen.frame m ρ, fun m ρ _ => Cert.InAIdeal.Gen.frame m ρ, quiescent_InARefIdeal,
  fun m ρ _ => Cert.InC.Gen.frame m ρ, fun m ρ _ => Cert.InCIdeal.Gen.frame m ρ, quiescent_InCRefIdeal,
  fun m ρ _ => Cert.Gla.Gen.frame m ρ, fun m ρ _ => Cert.GlaIdeal.Gen.frame m ρ,
  preserves_Attn, algebraic_Attn, trivial, algebraic_Ffn, trivial, algebraic_InA, trivial, algebraic_InC,
  preserves_Gla⟩

end Cert.Proof

end
